-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)) (v2 : (c : Dev Cert.KernelIdeal.nD) → Buf (Elt Ideal) ((c.tc : Thread Cert.KernelIdeal.nD Cert.KernelIdeal.τ).loc Cert.KernelIdeal.main_v7)) (v3 : (c : Dev Cert.KernelIdeal.nD) → Buf (Elt Ideal) ((c.tc : Thread Cert.KernelIdeal.nD Cert.KernelIdeal.τ).loc Cert.KernelIdeal.main_v3_0)) (v4 : (c : Dev Cert.KernelIdeal.nD) → Buf (Elt Ideal) ((c.tc : Thread Cert.KernelIdeal.nD Cert.KernelIdeal.τ).loc Cert.KernelIdeal.main_v3_2)) (v5 : (c : Dev Cert.KernelIdeal.nD) → Buf (Elt Ideal) ((c.tc : Thread Cert.KernelIdeal.nD Cert.KernelIdeal.τ).loc Cert.KernelIdeal.main_v3_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_v7) = v2 c
          ∧ r.2.mem ((c.tc : Thread Cert.KernelIdeal.nD Cert.KernelIdeal.τ).loc Cert.KernelIdeal.main_v3_0) = v3 c
          ∧ r.2.mem ((c.tc : Thread Cert.KernelIdeal.nD Cert.KernelIdeal.τ).loc Cert.KernelIdeal.main_v3_2) = v4 c
          ∧ r.2.mem ((c.tc : Thread Cert.KernelIdeal.nD Cert.KernelIdeal.τ).loc Cert.KernelIdeal.main_v3_3) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_v95) = v1 c
          ∧ r.2.mem ((c.tc : Thread Cert.ReferenceIdeal.nD Cert.ReferenceIdeal.τ).loc Cert.ReferenceIdeal.main_v50) = v2 c
          ∧ r.2.mem ((c.tc : Thread Cert.ReferenceIdeal.nD Cert.ReferenceIdeal.τ).loc Cert.ReferenceIdeal.main_v96) = v3 c
          ∧ r.2.mem ((c.tc : Thread Cert.ReferenceIdeal.nD Cert.ReferenceIdeal.τ).loc Cert.ReferenceIdeal.main_v22) = v4 c
          ∧ r.2.mem ((c.tc : Thread Cert.ReferenceIdeal.nD Cert.ReferenceIdeal.τ).loc Cert.ReferenceIdeal.main_v25) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x3072x14336 : Shape := ⟨3, ![2, 3072, 14336]⟩
abbrev S2x3072 : Shape := ⟨2, ![2, 3072]⟩
abbrev S4096x14336 : Shape := ⟨2, ![4096, 14336]⟩
abbrev S4096x112 : Shape := ⟨2, ![4096, 112]⟩
abbrev S2x3072x4096 : Shape := ⟨3, ![2, 3072, 4096]⟩
abbrev S6144x14336 : Shape := ⟨2, ![6144, 14336]⟩
abbrev S1x6144 : Shape := ⟨2, ![1, 6144]⟩
abbrev S6144x4096 : Shape := ⟨2, ![6144, 4096]⟩
abbrev S64x14336 : Shape := ⟨2, ![64, 14336]⟩
abbrev S64x112 : Shape := ⟨2, ![64, 112]⟩
abbrev S64x128 : Shape := ⟨2, ![64, 128]⟩
abbrev S64 : Shape := ⟨1, ![64]⟩
abbrev S64x1 : Shape := ⟨2, ![64, 1]⟩
abbrev S4096x6144 : Shape := ⟨2, ![4096, 6144]⟩
abbrev S8x128 : Shape := ⟨2, ![8, 128]⟩
abbrev S512x14336 : Shape := ⟨2, ![512, 14336]⟩
abbrev S1x512 : Shape := ⟨2, ![1, 512]⟩
abbrev S512x512 : Shape := ⟨2, ![512, 512]⟩
abbrev S64x8x512 : Shape := ⟨3, ![64, 8, 512]⟩
abbrev S8x512 : Shape := ⟨2, ![8, 512]⟩
abbrev S512x6144 : Shape := ⟨2, ![512, 6144]⟩
abbrev S6144x512 : Shape := ⟨2, ![6144, 512]⟩
abbrev S512x112 : Shape := ⟨2, ![512, 112]⟩
abbrev S512 : Shape := ⟨1, ![512]⟩
abbrev S512x1 : Shape := ⟨2, ![512, 1]⟩
abbrev S512x128 : Shape := ⟨2, ![512, 128]⟩
abbrev S_ : Shape := ⟨0, ![]⟩

abbrev nBuf : Space → Nat
  | .hbm => 23
  | .vmem => 52
  | .smem => 0
  | _ => 0

abbrev bufTy : (tb : Table) → Fin (tcTables nBuf tb) → BufTy
  | .hbm, ⟨0, _⟩ => ⟨S2x3072x14336, .fp8e4m3⟩
  | .hbm, ⟨1, _⟩ => ⟨S2x3072, .f32⟩
  | .hbm, ⟨2, _⟩ => ⟨S4096x14336, .f32⟩
  | .hbm, ⟨3, _⟩ => ⟨S4096x112, .f32⟩
  | .hbm, ⟨4, _⟩ => ⟨S4096x112, .f32⟩
  | .hbm, ⟨5, _⟩ => ⟨S2x3072x4096, .bf16⟩
  | .hbm, ⟨6, _⟩ => ⟨S6144x14336, .fp8e4m3⟩
  | .hbm, ⟨7, _⟩ => ⟨S1x6144, .f32⟩
  | .hbm, ⟨8, _⟩ => ⟨S6144x4096, .bf16⟩
  | .hbm, ⟨9, _⟩ => ⟨S4096x14336, .i8⟩
  | .hbm, ⟨10, _⟩ => ⟨S4096x14336, .bf16⟩
  | .hbm, ⟨11, _⟩ => ⟨S4096x112, .f32⟩
  | .hbm, ⟨12, _⟩ => ⟨S4096x112, .f32⟩
  | .hbm, ⟨13, _⟩ => ⟨S4096x112, .f32⟩
  | .hbm, ⟨14, _⟩ => ⟨S4096x112, .f32⟩
  | .hbm, ⟨15, _⟩ => ⟨S4096x6144, .bf16⟩
  | .hbm, ⟨16, _⟩ => ⟨S8x128, .f32⟩
  | .hbm, ⟨17, _⟩ => ⟨S4096x112, .f32⟩
  | .hbm, ⟨18, _⟩ => ⟨S4096x112, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .local _ .vmem, ⟨0, _⟩ => ⟨S64x14336, .f32⟩
  | .local _ .vmem, ⟨1, _⟩ => ⟨S64x14336, .f32⟩
  | .local _ .vmem, ⟨2, _⟩ => ⟨S64x112, .f32⟩
  | .local _ .vmem, ⟨3, _⟩ => ⟨S64x112, .f32⟩
  | .local _ .vmem, ⟨4, _⟩ => ⟨S64x112, .f32⟩
  | .local _ .vmem, ⟨5, _⟩ => ⟨S64x112, .f32⟩
  | .local _ .vmem, ⟨6, _⟩ => ⟨S64x14336, .i8⟩
  | .local _ .vmem, ⟨7, _⟩ => ⟨S64x14336, .i8⟩
  | .local _ .vmem, ⟨8, _⟩ => ⟨S64x14336, .bf16⟩
  | .local _ .vmem, ⟨9, _⟩ => ⟨S64x14336, .bf16⟩
  | .local _ .vmem, ⟨10, _⟩ => ⟨S64x112, .f32⟩
  | .local _ .vmem, ⟨11, _⟩ => ⟨S64x112, .f32⟩
  | .local _ .vmem, ⟨12, _⟩ => ⟨S64x112, .f32⟩
  | .local _ .vmem, ⟨13, _⟩ => ⟨S64x112, .f32⟩
  | .local _ .vmem, ⟨14, _⟩ => ⟨S64x112, .f32⟩
  | .local _ .vmem, ⟨15, _⟩ => ⟨S64x112, .f32⟩
  | .local _ .vmem, ⟨16, _⟩ => ⟨S64x112, .f32⟩
  | .local _ .vmem, ⟨17, _⟩ => ⟨S64x112, .f32⟩
  | .local _ .vmem, ⟨18, _⟩ => ⟨S512x14336, .bf16⟩
  | .local _ .vmem, ⟨19, _⟩ => ⟨S512x14336, .bf16⟩
  | .local _ .vmem, ⟨20, _⟩ => ⟨S512x14336, .fp8e4m3⟩
  | .local _ .vmem, ⟨21, _⟩ => ⟨S512x14336, .fp8e4m3⟩
  | .local _ .vmem, ⟨22, _⟩ => ⟨S1x512, .f32⟩
  | .local _ .vmem, ⟨23, _⟩ => ⟨S1x512, .f32⟩
  | .local _ .vmem, ⟨24, _⟩ => ⟨S512x512, .bf16⟩
  | .local _ .vmem, ⟨25, _⟩ => ⟨S512x512, .bf16⟩
  | .local _ .vmem, ⟨26, _⟩ => ⟨S512x512, .bf16⟩
  | .local _ .vmem, ⟨27, _⟩ => ⟨S512x512, .bf16⟩
  | .local _ .vmem, ⟨28, _⟩ => ⟨S8x128, .f32⟩
  | .local _ .vmem, ⟨29, _⟩ => ⟨S512x6144, .bf16⟩
  | .local _ .vmem, ⟨30, _⟩ => ⟨S512x6144, .bf16⟩
  | .local _ .vmem, ⟨31, _⟩ => ⟨S6144x512, .fp8e4m3⟩
  | .local _ .vmem, ⟨32, _⟩ => ⟨S6144x512, .fp8e4m3⟩
  | .local _ .vmem, ⟨33, _⟩ => ⟨S512x512, .f32⟩
  | .local _ .vmem, ⟨34, _⟩ => ⟨S512x512, .f32⟩
  | .local _ .vmem, ⟨35, _⟩ => ⟨S512x112, .f32⟩
  | .local _ .vmem, ⟨36, _⟩ => ⟨S512x112, .f32⟩
  | .local _ .vmem, ⟨37, _⟩ => ⟨S512x112, .f32⟩
  | .local _ .vmem, ⟨38, _⟩ => ⟨S512x112, .f32⟩
  | .local _ .vmem, ⟨39, _⟩ => ⟨S512x112, .f32⟩
  | .local _ .vmem, ⟨40, _⟩ => ⟨S512x112, .f32⟩
  | .local _ .vmem, ⟨41, _⟩ => ⟨S512x112, .f32⟩
  | .local _ .vmem, ⟨42, _⟩ => ⟨S512x112, .f32⟩
  | .local _ .vmem, ⟨43, _⟩ => ⟨S512x112, .f32⟩
  | .local _ .vmem, ⟨44, _⟩ => ⟨S512x112, .f32⟩
  | .local _ .vmem, ⟨45, _⟩ => ⟨S512x112, .f32⟩
  | .local _ .vmem, ⟨46, _⟩ => ⟨S512x112, .f32⟩
  | .local _ .vmem, ⟨47, _⟩ => ⟨S512x112, .f32⟩
  | .local _ .vmem, ⟨48, _⟩ => ⟨S512x112, .f32⟩
  | .local _ .vmem, ⟨49, _⟩ => ⟨S512x112, .f32⟩
  | .local _ .vmem, ⟨50, _⟩ => ⟨S512x112, .f32⟩
  | .local _ .vmem, ⟨51, _⟩ => ⟨S512x112, .f32⟩
  | _, _ => ⟨S2x3072x14336, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | _, _ => false

abbrev semScoped : Fin 0 → Bool
  | ⟨_, h⟩ => absurd h (Nat.not_lt_zero _)

abbrev dmaSemScoped : Fin 51 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | _ => false

abbrev sig : RefSig :=
  ofTc nBuf bufTy 0 51 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev main_v3_4 : Ref sig .tc := ⟨.hbm, 13, rfl⟩
abbrev main_v3_5 : Ref sig .tc := ⟨.hbm, 14, rfl⟩
abbrev main_v4_0 : Ref sig .tc := ⟨.hbm, 15, rfl⟩
abbrev main_v4_1 : Ref sig .tc := ⟨.hbm, 16, rfl⟩
abbrev main_v5_0 : Ref sig .tc := ⟨.hbm, 17, rfl⟩
abbrev main_v5_1 : Ref sig .tc := ⟨.hbm, 18, rfl⟩
abbrev main_cst : Ref sig .tc := ⟨.hbm, 19, rfl⟩
abbrev main_v6 : Ref sig .tc := ⟨.hbm, 20, rfl⟩
abbrev main_cst_0 : Ref sig .tc := ⟨.hbm, 21, rfl⟩
abbrev main_v7 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg2_1 : Ref sig .tc := ⟨.vmem, 23, rfl⟩
abbrev cc1_stg3_0 : Ref sig .tc := ⟨.vmem, 24, rfl⟩
abbrev cc1_stg3_1 : Ref sig .tc := ⟨.vmem, 25, rfl⟩
abbrev cc1_stg4_0 : Ref sig .tc := ⟨.vmem, 26, rfl⟩
abbrev cc1_stg4_1 : Ref sig .tc := ⟨.vmem, 27, rfl⟩
abbrev cc1_stg5_0 : Ref sig .tc := ⟨.vmem, 28, rfl⟩
abbrev cc2_stg0_0 : Ref sig .tc := ⟨.vmem, 29, rfl⟩
abbrev cc2_stg0_1 : Ref sig .tc := ⟨.vmem, 30, rfl⟩
abbrev cc2_stg1_0 : Ref sig .tc := ⟨.vmem, 31, rfl⟩
abbrev cc2_stg1_1 : Ref sig .tc := ⟨.vmem, 32, rfl⟩
abbrev cc2_stg2_0 : Ref sig .tc := ⟨.vmem, 33, rfl⟩
abbrev cc2_stg2_1 : Ref sig .tc := ⟨.vmem, 34, rfl⟩
abbrev cc2_stg3_0 : Ref sig .tc := ⟨.vmem, 35, rfl⟩
abbrev cc2_stg3_1 : Ref sig .tc := ⟨.vmem, 36, rfl⟩
abbrev cc2_stg4_0 : Ref sig .tc := ⟨.vmem, 37, rfl⟩
abbrev cc2_stg4_1 : Ref sig .tc := ⟨.vmem, 38, rfl⟩
abbrev cc2_stg5_0 : Ref sig .tc := ⟨.vmem, 39, rfl⟩
abbrev cc2_stg5_1 : Ref sig .tc := ⟨.vmem, 40, rfl⟩
abbrev cc2_stg6_0 : Ref sig .tc := ⟨.vmem, 41, rfl⟩
abbrev cc2_stg6_1 : Ref sig .tc := ⟨.vmem, 42, rfl⟩
abbrev cc2_stg7_0 : Ref sig .tc := ⟨.vmem, 43, rfl⟩
abbrev cc2_stg7_1 : Ref sig .tc := ⟨.vmem, 44, rfl⟩
abbrev cc2_stg8_0 : Ref sig .tc := ⟨.vmem, 45, rfl⟩
abbrev cc2_stg8_1 : Ref sig .tc := ⟨.vmem, 46, rfl⟩
abbrev cc2_stg9_0 : Ref sig .tc := ⟨.vmem, 47, rfl⟩
abbrev cc2_stg9_1 : Ref sig .tc := ⟨.vmem, 48, rfl⟩
abbrev cc2_stg10_0 : Ref sig .tc := ⟨.vmem, 49, rfl⟩
abbrev cc2_stg10_1 : Ref sig .tc := ⟨.vmem, 50, rfl⟩
abbrev cc2_scratch0 : Ref sig .tc := ⟨.vmem, 51, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc1_sem0_0 : DmaSem sig := 18
abbrev cc1_sem0_1 : DmaSem sig := 19
abbrev cc1_sem1_0 : DmaSem sig := 20
abbrev cc1_sem1_1 : DmaSem sig := 21
abbrev cc1_sem2_0 : DmaSem sig := 22
abbrev cc1_sem2_1 : DmaSem sig := 23
abbrev cc1_sem3_0 : DmaSem sig := 24
abbrev cc1_sem3_1 : DmaSem sig := 25
abbrev cc1_sem4_0 : DmaSem sig := 26
abbrev cc1_sem4_1 : DmaSem sig := 27
abbrev cc1_sem5_0 : DmaSem sig := 28
abbrev cc2_sem0_0 : DmaSem sig := 29
abbrev cc2_sem0_1 : DmaSem sig := 30
abbrev cc2_sem1_0 : DmaSem sig := 31
abbrev cc2_sem1_1 : DmaSem sig := 32
abbrev cc2_sem2_0 : DmaSem sig := 33
abbrev cc2_sem2_1 : DmaSem sig := 34
abbrev cc2_sem3_0 : DmaSem sig := 35
abbrev cc2_sem3_1 : DmaSem sig := 36
abbrev cc2_sem4_0 : DmaSem sig := 37
abbrev cc2_sem4_1 : DmaSem sig := 38
abbrev cc2_sem5_0 : DmaSem sig := 39
abbrev cc2_sem5_1 : DmaSem sig := 40
abbrev cc2_sem6_0 : DmaSem sig := 41
abbrev cc2_sem6_1 : DmaSem sig := 42
abbrev cc2_sem7_0 : DmaSem sig := 43
abbrev cc2_sem7_1 : DmaSem sig := 44
abbrev cc2_sem8_0 : DmaSem sig := 45
abbrev cc2_sem8_1 : DmaSem sig := 46
abbrev cc2_sem9_0 : DmaSem sig := 47
abbrev cc2_sem9_1 : DmaSem sig := 48
abbrev cc2_sem10_0 : DmaSem sig := 49
abbrev cc2_sem10_1 : DmaSem sig := 50

abbrev nD : Nat := 1
abbrev τ : Topo := Topo.v7x

variable {F : FTy → Type} [FloatOps F]

abbrev grid0 : Pipeline.Grid := ⟨1, ![64], ![false]⟩

@[reducible] def k0_t1_loop : Scf.Loop 32 :=
  let c0_i32 : BitVec 32 := 0#32
  let c112_i32 : BitVec 32 := 112#32
  let v2 : BitVec 32 := Scalar.addi c0_i32 c112_i32
  let c1_i32 : BitVec 32 := 1#32
  ⟨c0_i32, v2, c1_i32⟩
def k0_mult1 (k0_t1 : Fin k0_t1_loop.trips) : BitVec 32 :=
  let c0_i32 : BitVec 32 := 0#32
  let c1_i32 : BitVec 32 := 1#32
  let arg10 : BitVec 32 := Scf.iv c0_i32 c1_i32 k0_t1
  let c128_i32 : BitVec 32 := 128#32
  let v2377 : BitVec 32 := Scalar.muli arg10 c128_i32
  v2377
def k0_off1 (k0_t1 : Fin k0_t1_loop.trips) : Fin 2 → Nat :=
  let c0_801 : Index := 0#32
  let c0_i32 : BitVec 32 := 0#32
  let c1_i32 : BitVec 32 := 1#32
  let arg10 : BitVec 32 := Scf.iv c0_i32 c1_i32 k0_t1
  let c128_i32 : BitVec 32 := 128#32
  let v2377 : BitVec 32 := Scalar.muli arg10 c128_i32
  let v2378 : BitVec 32 := v2377
  let v2379 : Index := Scalar.indexCast v2378
  ![0, v2379.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x14336 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x112 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x112 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x14336 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x14336 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x112 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x112 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x112 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S64x112 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨2, ![8, 12], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S512x14336 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x14336 .fp8e4m3 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S512x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S512x512 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 1 → Memref sig .tc .vmem S8x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev grid2 : Pipeline.Grid := ⟨2, ![8, 28], ![false, false]⟩

def k2_cond1 (i : grid2.Coords) : BitVec 1 :=
  let arg1 : BitVec 32 := BitVec.ofNat 32 (i 1).val
  let c27_i32 : BitVec 32 := 27#32
  let v178 : BitVec 1 := Scalar.cmpi .eq arg1 c27_i32
  let v179 : BitVec 32 := Scalar.extui v178
  let c0_i32_63 : BitVec 32 := 0#32
  let v180 : BitVec 1 := Scalar.cmpi .ne v179 c0_i32_63
  v180

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_8 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_9 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_10 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S512x6144 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S6144x512 .fp8e4m3 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S512x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S512x112 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 2 → Memref sig .tc .vmem S512x112 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

abbrev stage2_5 : Fin 2 → Memref sig .tc .vmem S512x112 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, false]

abbrev stage2_6 : Fin 2 → Memref sig .tc .vmem S512x112 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, false]

abbrev stage2_7 : Fin 2 → Memref sig .tc .vmem S512x112 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true, false]

abbrev stage2_8 : Fin 2 → Memref sig .tc .vmem S512x112 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true, false]

abbrev stage2_9 : Fin 2 → Memref sig .tc .vmem S512x112 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true, false]

abbrev stage2_10 : Fin 2 → Memref sig .tc .vmem S512x112 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true, false]
-- ==== ReferenceIdeal.lean ====
abbrev S2x3072x14336 : Shape := ⟨3, ![2, 3072, 14336]⟩
abbrev S2x3072 : Shape := ⟨2, ![2, 3072]⟩
abbrev S4096x14336 : Shape := ⟨2, ![4096, 14336]⟩
abbrev S4096x112 : Shape := ⟨2, ![4096, 112]⟩
abbrev S2x3072x4096 : Shape := ⟨3, ![2, 3072, 4096]⟩
abbrev S4096x112x128 : Shape := ⟨3, ![4096, 112, 128]⟩
abbrev S_ : Shape := ⟨0, ![]⟩
abbrev S4096x112x1 : Shape := ⟨3, ![4096, 112, 1]⟩
abbrev S2x3072x1 : Shape := ⟨3, ![2, 3072, 1]⟩

abbrev nBuf : Space → Nat
  | .hbm => 130
  | .vmem => 5
  | .smem => 0
  | _ => 0

abbrev hbmTy0_0 (i : Nat) : BufTy := match i % 128 with
  | 0 => ⟨S2x3072x14336, .fp8e4m3⟩
  | 1 => ⟨S2x3072, .f32⟩
  | 2 => ⟨S4096x14336, .f32⟩
  | 3 => ⟨S4096x112, .f32⟩
  | 4 => ⟨S4096x112, .f32⟩
  | 5 => ⟨S2x3072x4096, .bf16⟩
  | 6 => ⟨S4096x112x128, .f32⟩
  | 7 => ⟨S_, .f32⟩
  | 8 => ⟨S4096x112, .f32⟩
  | 9 => ⟨S_, .f32⟩
  | 10 => ⟨S4096x112, .f32⟩
  | 11 => ⟨S4096x112, .f32⟩
  | 12 => ⟨S4096x112, .f32⟩
  | 13 => ⟨S_, .f32⟩
  | 14 => ⟨S4096x112, .f32⟩
  | 15 => ⟨S4096x112, .f32⟩
  | 16 => ⟨S_, .f32⟩
  | 17 => ⟨S4096x112, .f32⟩
  | 18 => ⟨S4096x112, .f32⟩
  | 19 => ⟨S4096x112, .f32⟩
  | 20 => ⟨S4096x112, .f32⟩
  | 21 => ⟨S4096x112, .f32⟩
  | 22 => ⟨S_, .f32⟩
  | 23 => ⟨S4096x112, .f32⟩
  | 24 => ⟨S4096x112, .f32⟩
  | 25 => ⟨S_, .f32⟩
  | 26 => ⟨S4096x112, .f32⟩
  | 27 => ⟨S4096x112, .f32⟩
  | 28 => ⟨S4096x112, .f32⟩
  | 29 => ⟨S4096x112, .f32⟩
  | 30 => ⟨S_, .f32⟩
  | 31 => ⟨S4096x112, .f32⟩
  | 32 => ⟨S4096x112, .f32⟩
  | 33 => ⟨S_, .f32⟩
  | 34 => ⟨S4096x112, .f32⟩
  | 35 => ⟨S4096x112, .i1⟩
  | 36 => ⟨S_, .f32⟩
  | 37 => ⟨S_, .f32⟩
  | 38 => ⟨S4096x112, .f32⟩
  | 39 => ⟨S4096x112, .f32⟩
  | 40 => ⟨S4096x112, .f32⟩
  | 41 => ⟨S4096x112, .f32⟩
  | 42 => ⟨S4096x112, .f32⟩
  | 43 => ⟨S4096x112x1, .f32⟩
  | 44 => ⟨S4096x112x128, .f32⟩
  | 45 => ⟨S4096x112x128, .f32⟩
  | 46 => ⟨S4096x112x128, .f32⟩
  | 47 => ⟨S4096x112x1, .f32⟩
  | 48 => ⟨S4096x112x128, .f32⟩
  | 49 => ⟨S4096x112x128, .f32⟩
  | 50 => ⟨S4096x112x128, .i8⟩
  | 51 => ⟨S4096x112x128, .f32⟩
  | 52 => ⟨S2x3072x14336, .bf16⟩
  | 53 => ⟨S4096x112x1, .f32⟩
  | 54 => ⟨S4096x112x128, .f32⟩
  | 55 => ⟨S4096x112x128, .f32⟩
  | 56 => ⟨S4096x112x1, .f32⟩
  | 57 => ⟨S4096x112x128, .f32⟩
  | 58 => ⟨S4096x112x128, .f32⟩
  | 59 => ⟨S4096x14336, .f32⟩
  | 60 => ⟨S4096x14336, .bf16⟩
  | 61 => ⟨S2x3072x4096, .f32⟩
  | 62 => ⟨S2x3072x1, .f32⟩
  | 63 => ⟨S2x3072x4096, .f32⟩
  | 64 => ⟨S2x3072x4096, .f32⟩
  | 65 => ⟨S2x3072x4096, .f32⟩
  | 66 => ⟨S2x3072x4096, .f32⟩
  | 67 => ⟨S2x3072x4096, .f32⟩
  | 68 => ⟨S_, .f32⟩
  | 69 => ⟨S_, .f32⟩
  | 70 => ⟨S_, .f32⟩
  | 71 => ⟨S_, .f32⟩
  | 72 => ⟨S_, .f32⟩
  | 73 => ⟨S4096x112x128, .f32⟩
  | 74 => ⟨S4096x112x128, .i1⟩
  | 75 => ⟨S_, .f32⟩
  | 76 => ⟨S4096x112x128, .f32⟩
  | 77 => ⟨S4096x112x128, .i1⟩
  | 78 => ⟨S4096x112x128, .i1⟩
  | 79 => ⟨S4096x112x128, .f32⟩
  | 80 => ⟨S4096x112x128, .f32⟩
  | 81 => ⟨S4096x112x128, .f32⟩
  | 82 => ⟨S2x3072x1, .f32⟩
  | 83 => ⟨S2x3072x4096, .f32⟩
  | 84 => ⟨S2x3072x4096, .f32⟩
  | 85 => ⟨S2x3072x4096, .bf16⟩
  | 86 => ⟨S4096x14336, .f32⟩
  | 87 => ⟨S_, .f32⟩
  | 88 => ⟨S4096x14336, .f32⟩
  | 89 => ⟨S4096x14336, .f32⟩
  | 90 => ⟨S4096x112x128, .f32⟩
  | 91 => ⟨S4096x112x128, .f32⟩
  | 92 => ⟨S_, .f32⟩
  | 93 => ⟨S4096x112, .f32⟩
  | 94 => ⟨S4096x112, .f32⟩
  | 95 => ⟨S4096x112, .f32⟩
  | 96 => ⟨S_, .f32⟩
  | 97 => ⟨S4096x112, .f32⟩
  | 98 => ⟨S4096x112, .f32⟩
  | 99 => ⟨S_, .f32⟩
  | 100 => ⟨S4096x112, .f32⟩
  | 101 => ⟨S4096x112, .f32⟩
  | 102 => ⟨S4096x112, .f32⟩
  | 103 => ⟨S4096x112, .f32⟩
  | 104 => ⟨S_, .f32⟩
  | 105 => ⟨S4096x112, .f32⟩
  | 106 => ⟨S4096x112, .f32⟩
  | 107 => ⟨S_, .f32⟩
  | 108 => ⟨S4096x112, .f32⟩
  | 109 => ⟨S4096x112, .f32⟩
  | 110 => ⟨S4096x112, .f32⟩
  | 111 => ⟨S_, .f32⟩
  | 112 => ⟨S4096x112, .f32⟩
  | 113 => ⟨S4096x112, .f32⟩
  | 114 => ⟨S4096x112, .f32⟩
  | 115 => ⟨S4096x112, .f32⟩
  | 116 => ⟨S_, .f32⟩
  | 117 => ⟨S4096x112, .f32⟩
  | 118 => ⟨S4096x112, .f32⟩
  | 119 => ⟨S4096x112, .f32⟩
  | 120 => ⟨S4096x112, .f32⟩
  | 121 => ⟨S_, .f32⟩
  | 122 => ⟨S4096x112, .f32⟩
  | 123 => ⟨S4096x112, .f32⟩
  | 124 => ⟨S4096x112, .f32⟩
  | 125 => ⟨S4096x112, .f32⟩
  | 126 => ⟨S_, .f32⟩
  | 127 => ⟨S4096x112, .f32⟩
  | _ => ⟨S2x3072x14336, .fp8e4m3⟩

abbrev hbmTy0_1 (i : Nat) : BufTy := match i % 128 with
  | 0 => ⟨S4096x112, .f32⟩
  | 1 => ⟨S4096x14336, .i8⟩
  | _ => ⟨S2x3072x14336, .fp8e4m3⟩

abbrev hbmTy (i : Nat) : BufTy := match i / 128 with
  | 0 => hbmTy0_0 i
  | 1 => hbmTy0_1 i
  | _ => ⟨S2x3072x14336, .fp8e4m3⟩

abbrev bufTy : (tb : Table) → Fin (tcTables nBuf tb) → BufTy
  | .hbm, ⟨i, _⟩ => hbmTy i
  | .local _ .vmem, ⟨0, _⟩ => ⟨S4096x112x128, .f32⟩
  | .local _ .vmem, ⟨1, _⟩ => ⟨S2x3072x14336, .fp8e4m3⟩
  | .local _ .vmem, ⟨2, _⟩ => ⟨S4096x112x128, .i8⟩
  | .local _ .vmem, ⟨3, _⟩ => ⟨S4096x112x128, .f32⟩
  | .local _ .vmem, ⟨4, _⟩ => ⟨S2x3072x14336, .bf16⟩
  | _, _ => ⟨S2x3072x14336, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_cst_2 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_3 : Ref sig .tc := ⟨.hbm, 22, rfl⟩
abbrev main_v12 : Ref sig .tc := ⟨.hbm, 23, rfl⟩
abbrev main_v13 : Ref sig .tc := ⟨.hbm, 24, rfl⟩
abbrev main_cst_4 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_5 : Ref sig .tc := ⟨.hbm, 30, rfl⟩
abbrev main_v18 : Ref sig .tc := ⟨.hbm, 31, rfl⟩
abbrev main_v19 : Ref sig .tc := ⟨.hbm, 32, rfl⟩
abbrev main_cst_6 : Ref sig .tc := ⟨.hbm, 33, rfl⟩
abbrev main_v20 : Ref sig .tc := ⟨.hbm, 34, rfl⟩
abbrev main_v21 : Ref sig .tc := ⟨.hbm, 35, rfl⟩
abbrev main_cst_7 : Ref sig .tc := ⟨.hbm, 36, rfl⟩
abbrev main_call0_v0 : Ref sig .tc := ⟨.hbm, 37, rfl⟩
abbrev main_call0_v1 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33_0 : Ref sig .tc := ⟨.hbm, 50, rfl⟩
abbrev main_v33_1 : Ref sig .tc := ⟨.hbm, 51, rfl⟩
abbrev main_v33_2 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_8 : Ref sig .tc := ⟨.hbm, 68, rfl⟩
abbrev main_v49 : Ref sig .tc := ⟨.hbm, 69, rfl⟩
abbrev main_cst_9 : Ref sig .tc := ⟨.hbm, 70, rfl⟩
abbrev main_v50 : Ref sig .tc := ⟨.hbm, 71, rfl⟩
abbrev main_cst_10 : Ref sig .tc := ⟨.hbm, 72, rfl⟩
abbrev main_v51 : Ref sig .tc := ⟨.hbm, 73, rfl⟩
abbrev main_v52 : Ref sig .tc := ⟨.hbm, 74, rfl⟩
abbrev main_cst_11 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_cst_12 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_cst_13 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_cst_14 : Ref sig .tc := ⟨.hbm, 96, rfl⟩
abbrev main_v71 : Ref sig .tc := ⟨.hbm, 97, rfl⟩
abbrev main_v72 : Ref sig .tc := ⟨.hbm, 98, rfl⟩
abbrev main_cst_15 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_cst_16 : Ref sig .tc := ⟨.hbm, 104, rfl⟩
abbrev main_v77 : Ref sig .tc := ⟨.hbm, 105, rfl⟩
abbrev main_v78 : Ref sig .tc := ⟨.hbm, 106, rfl⟩
abbrev main_cst_17 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_cst_18 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_cst_19 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_cst_20 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_cst_21 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S4096x112x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x3072x14336 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x112x128 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096x112x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x3072x14336 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.KernelQuant.lean ====
/- The first call (the quantiser): what its body leaves in each output block, and its body obligation, at arbitrary
   entry contents `V` and any float instance `F`. The text follows the library's certificate of one region. -/
module

public import proofs.«01_k».proof.Proof.Gen.Kernel.Launch
public import proofs.«01_k».proof.Proof.Gen.Kernel.Skeleton
public import proofs.«01_k».proof.Proof.Gen.Kernel.Points
public import proofs.«01_k».proof.Proof.Gen.Kernel.Loops
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

-- membership in a rectangle of production extents (`View.cover_of_tiled`): the elaborator's structural look
-- recurses once per coordinate of the long axes
set_option maxRecDepth 16384

noncomputable section

namespace Cert.Kernel.Run

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # REGION 0 of @main: custom_call 0, `cc0_lwc_quant` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The kernel body on any staging memrefs: a subtype the run finds -/

/-- One staging buffer of output window 3, through which its contents are stated (`View.read_writes_of_cover`: the
    choice does not matter). -/
abbrev VO0_3 : View sig .tc .vmem S64x14336 .i8 := (Memref.whole cc0_stg3_0 : Memref sig .tc .vmem S64x14336 .i8).view
/-- One staging buffer of output window 4, through which its contents are stated (`View.read_writes_of_cover`: the
    choice does not matter). -/
abbrev VO0_4 : View sig .tc .vmem S64x14336 .bf16 := (Memref.whole cc0_stg4_0 : Memref sig .tc .vmem S64x14336 .bf16).view
/-- One staging buffer of output window 5, through which its contents are stated (`View.read_writes_of_cover`: the
    choice does not matter). -/
abbrev VO0_5 : View sig .tc .vmem S64x112 .f32 := (Memref.whole cc0_stg5_0 : Memref sig .tc .vmem S64x112 .f32).view
/-- One staging buffer of output window 6, through which its contents are stated (`View.read_writes_of_cover`: the
    choice does not matter). -/
abbrev VO0_6 : View sig .tc .vmem S64x112 .f32 := (Memref.whole cc0_stg6_0 : Memref sig .tc .vmem S64x112 .f32).view
/-- One staging buffer of output window 7, through which its contents are stated (`View.read_writes_of_cover`: the
    choice does not matter). -/
abbrev VO0_7 : View sig .tc .vmem S64x112 .f32 := (Memref.whole cc0_stg7_0 : Memref sig .tc .vmem S64x112 .f32).view
/-- One staging buffer of output window 8, through which its contents are stated (`View.read_writes_of_cover`: the
    choice does not matter). -/
abbrev VO0_8 : View sig .tc .vmem S64x112 .f32 := (Memref.whole cc0_stg8_0 : Memref sig .tc .vmem S64x112 .f32).view
/-- Each window's current staging memref at point `t`, spelled as the pipeline passes it (`bodyAt0`), and its wholeness. -/
abbrev ms0_0 (t : Fin cfg0.N) : Memref sig .tc .vmem S64x14336 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S64x112 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S64x112 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S64x14336 .i8 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S64x14336 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S64x112 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S64x112 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S64x112 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S64x112 .f32 := win0_8.stage (cfg0.slots t 8)
abbrev hs0_8 (t : Fin cfg0.N) : (ms0_8 t).IsWhole := hstage0_8 ((cfg0.slots t 8).cast nbuf0_8)

-- (the run's proof term is large: the definition's epilogue — `abstractNestedProofs` — walks it past the default budget)
set_option maxHeartbeats 2848000 in
/-- What the body's stores leave in each output's staging memref, as pieces (last first), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid0.Coords) (arg1 : Memref sig .tc .vmem S64x14336 .f32) (harg1 : arg1.IsWhole) (arg2 : Memref sig .tc .vmem S64x112 .f32) (harg2 : arg2.IsWhole) (arg3 : Memref sig .tc .vmem S64x112 .f32) (harg3 : arg3.IsWhole) (arg4 : Memref sig .tc .vmem S64x14336 .i8) (harg4 : arg4.IsWhole) (arg5 : Memref sig .tc .vmem S64x14336 .bf16) (harg5 : arg5.IsWhole) (arg6 : Memref sig .tc .vmem S64x112 .f32) (harg6 : arg6.IsWhole) (arg7 : Memref sig .tc .vmem S64x112 .f32) (harg7 : arg7.IsWhole) (arg8 : Memref sig .tc .vmem S64x112 .f32) (harg8 : arg8.IsWhole) (arg9 : Memref sig .tc .vmem S64x112 .f32) (harg9 : arg9.IsWhole)
    (x0 : Vec F S64x14336 .f32) (x1 : Vec F S64x112 .f32) (x2 : Vec F S64x112 .f32) :
    Σ' (L3 : List (View.Piece (Elt F) S64x14336 .i8)), Σ' (L4 : List (View.Piece (Elt F) S64x14336 .bf16)), Σ' (L5 : List (View.Piece (Elt F) S64x112 .f32)), Σ' (L6 : List (View.Piece (Elt F) S64x112 .f32)), Σ' (L7 : List (View.Piece (Elt F) S64x112 .f32)), { L8 : List (View.Piece (Elt F) S64x112 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8)) -∗ K ⟨⟩))
          ⊢ wp frame (wpE (defs₀ (F := F)) Variants.none c none) E (cc0_lwc_quant i arg1 harg1 arg2 harg2 arg3 harg3 arg4 harg4 arg5 harg5 arg6 harg6 arg7 harg7 arg8 harg8 arg9 harg9) K } := by
  refine ⟨?_, ?_, ?_, ?_, ?_, ?_, fun E K => ?run⟩
  case run =>
    simp only [cc0_lwc_quant_eq_skeleton]; unfold cc0_lwc_quant_skel
    simp only [k0_part59_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, Hk⟩
    obtain rfl := harg1.eq_unread hf0; obtain rfl := harg2.eq_unread hf1; obtain rfl := harg3.eq_unread hf2
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    isplitl [H5]; · iexists _; iexact H5
    isplitl [H6]; · iexists _; iexact H6
    isplitl [H7]; · iexists _; iexact H7
    iexists _; iexact H8

/-- The run's pieces for output 3 tile its block (112 stores of `S64x128`, checked by the kernel's evaluation: Lib/Ring.lean `Piece.tiledL`, linear in the pieces, through a loop's `@[irreducible]` trip theorem too), so they cover it. -/
theorem cover0_A_3 (c : Dev nD) (i : grid0.Coords) (arg1 : Memref sig .tc .vmem S64x14336 .f32) (harg1 : arg1.IsWhole) (arg2 : Memref sig .tc .vmem S64x112 .f32) (harg2 : arg2.IsWhole) (arg3 : Memref sig .tc .vmem S64x112 .f32) (harg3 : arg3.IsWhole) (arg4 : Memref sig .tc .vmem S64x14336 .i8) (harg4 : arg4.IsWhole) (arg5 : Memref sig .tc .vmem S64x14336 .bf16) (harg5 : arg5.IsWhole) (arg6 : Memref sig .tc .vmem S64x112 .f32) (harg6 : arg6.IsWhole) (arg7 : Memref sig .tc .vmem S64x112 .f32) (harg7 : arg7.IsWhole) (arg8 : Memref sig .tc .vmem S64x112 .f32) (harg8 : arg8.IsWhole) (arg9 : Memref sig .tc .vmem S64x112 .f32) (harg9 : arg9.IsWhole)
    (x0 : Vec F S64x14336 .f32) (x1 : Vec F S64x112 .f32) (x2 : Vec F S64x112 .f32) (y : S64x14336.Idx) :
    ∃ pc ∈ (kernelRun0_A c i arg1 harg1 arg2 harg2 arg3 harg3 arg4 harg4 arg5 harg5 arg6 harg6 arg7 harg7 arg8 harg8 arg9 harg9 x0 x1 x2).1, y ∈ pc.1.set :=
  View.cover_of_tiledL (kernelRun0_A c i arg1 harg1 arg2 harg2 arg3 harg3 arg4 harg4 arg5 harg5 arg6 harg6 arg7 harg7 arg8 harg8 arg9 harg9 x0 x1 x2).1 S64x128.size (by sl_kernel_rfl) y

/-- What the run leaves in output 3's staging buffer: its pieces read back over junk. -/
def out0_A_3 (c : Dev nD) (i : grid0.Coords) (arg1 : Memref sig .tc .vmem S64x14336 .f32) (harg1 : arg1.IsWhole) (arg2 : Memref sig .tc .vmem S64x112 .f32) (harg2 : arg2.IsWhole) (arg3 : Memref sig .tc .vmem S64x112 .f32) (harg3 : arg3.IsWhole) (arg4 : Memref sig .tc .vmem S64x14336 .i8) (harg4 : arg4.IsWhole) (arg5 : Memref sig .tc .vmem S64x14336 .bf16) (harg5 : arg5.IsWhole) (arg6 : Memref sig .tc .vmem S64x112 .f32) (harg6 : arg6.IsWhole) (arg7 : Memref sig .tc .vmem S64x112 .f32) (harg7 : arg7.IsWhole) (arg8 : Memref sig .tc .vmem S64x112 .f32) (harg8 : arg8.IsWhole) (arg9 : Memref sig .tc .vmem S64x112 .f32) (harg9 : arg9.IsWhole)
    (x0 : Vec F S64x14336 .f32) (x1 : Vec F S64x112 .f32) (x2 : Vec F S64x112 .f32) : Vec F S64x14336 .i8 :=
  VO0_3.read (Elt F) (VO0_3.writes (Elt F) VO0_3.junk (kernelRun0_A c i arg1 harg1 arg2 harg2 arg3 harg3 arg4 harg4 arg5 harg5 arg6 harg6 arg7 harg7 arg8 harg8 arg9 harg9 x0 x1 x2).1)

/-- The run's pieces for output 4 tile its block (112 stores of `S64x128`, checked by the kernel's evaluation: Lib/Ring.lean `Piece.tiledL`, linear in the pieces, through a loop's `@[irreducible]` trip theorem too), so they cover it. -/
theorem cover0_A_4 (c : Dev nD) (i : grid0.Coords) (arg1 : Memref sig .tc .vmem S64x14336 .f32) (harg1 : arg1.IsWhole) (arg2 : Memref sig .tc .vmem S64x112 .f32) (harg2 : arg2.IsWhole) (arg3 : Memref sig .tc .vmem S64x112 .f32) (harg3 : arg3.IsWhole) (arg4 : Memref sig .tc .vmem S64x14336 .i8) (harg4 : arg4.IsWhole) (arg5 : Memref sig .tc .vmem S64x14336 .bf16) (harg5 : arg5.IsWhole) (arg6 : Memref sig .tc .vmem S64x112 .f32) (harg6 : arg6.IsWhole) (arg7 : Memref sig .tc .vmem S64x112 .f32) (harg7 : arg7.IsWhole) (arg8 : Memref sig .tc .vmem S64x112 .f32) (harg8 : arg8.IsWhole) (arg9 : Memref sig .tc .vmem S64x112 .f32) (harg9 : arg9.IsWhole)
    (x0 : Vec F S64x14336 .f32) (x1 : Vec F S64x112 .f32) (x2 : Vec F S64x112 .f32) (y : S64x14336.Idx) :
    ∃ pc ∈ (kernelRun0_A c i arg1 harg1 arg2 harg2 arg3 harg3 arg4 harg4 arg5 harg5 arg6 harg6 arg7 harg7 arg8 harg8 arg9 harg9 x0 x1 x2).2.1, y ∈ pc.1.set :=
  View.cover_of_tiledL (kernelRun0_A c i arg1 harg1 arg2 harg2 arg3 harg3 arg4 harg4 arg5 harg5 arg6 harg6 arg7 harg7 arg8 harg8 arg9 harg9 x0 x1 x2).2.1 S64x128.size (by sl_kernel_rfl) y

/-- What the run leaves in output 4's staging buffer: its pieces read back over junk. -/
def out0_A_4 (c : Dev nD) (i : grid0.Coords) (arg1 : Memref sig .tc .vmem S64x14336 .f32) (harg1 : arg1.IsWhole) (arg2 : Memref sig .tc .vmem S64x112 .f32) (harg2 : arg2.IsWhole) (arg3 : Memref sig .tc .vmem S64x112 .f32) (harg3 : arg3.IsWhole) (arg4 : Memref sig .tc .vmem S64x14336 .i8) (harg4 : arg4.IsWhole) (arg5 : Memref sig .tc .vmem S64x14336 .bf16) (harg5 : arg5.IsWhole) (arg6 : Memref sig .tc .vmem S64x112 .f32) (harg6 : arg6.IsWhole) (arg7 : Memref sig .tc .vmem S64x112 .f32) (harg7 : arg7.IsWhole) (arg8 : Memref sig .tc .vmem S64x112 .f32) (harg8 : arg8.IsWhole) (arg9 : Memref sig .tc .vmem S64x112 .f32) (harg9 : arg9.IsWhole)
    (x0 : Vec F S64x14336 .f32) (x1 : Vec F S64x112 .f32) (x2 : Vec F S64x112 .f32) : Vec F S64x14336 .bf16 :=
  VO0_4.read (Elt F) (VO0_4.writes (Elt F) VO0_4.junk (kernelRun0_A c i arg1 harg1 arg2 harg2 arg3 harg3 arg4 harg4 arg5 harg5 arg6 harg6 arg7 harg7 arg8 harg8 arg9 harg9 x0 x1 x2).2.1)

/-- The run's pieces for output 5 tile its block (1 store of `S64x112`, checked by the kernel's evaluation: Lib/Ring.lean `Piece.tiledL`, linear in the pieces, through a loop's `@[irreducible]` trip theorem too), so they cover it. -/
theorem cover0_A_5 (c : Dev nD) (i : grid0.Coords) (arg1 : Memref sig .tc .vmem S64x14336 .f32) (harg1 : arg1.IsWhole) (arg2 : Memref sig .tc .vmem S64x112 .f32) (harg2 : arg2.IsWhole) (arg3 : Memref sig .tc .vmem S64x112 .f32) (harg3 : arg3.IsWhole) (arg4 : Memref sig .tc .vmem S64x14336 .i8) (harg4 : arg4.IsWhole) (arg5 : Memref sig .tc .vmem S64x14336 .bf16) (harg5 : arg5.IsWhole) (arg6 : Memref sig .tc .vmem S64x112 .f32) (harg6 : arg6.IsWhole) (arg7 : Memref sig .tc .vmem S64x112 .f32) (harg7 : arg7.IsWhole) (arg8 : Memref sig .tc .vmem S64x112 .f32) (harg8 : arg8.IsWhole) (arg9 : Memref sig .tc .vmem S64x112 .f32) (harg9 : arg9.IsWhole)
    (x0 : Vec F S64x14336 .f32) (x1 : Vec F S64x112 .f32) (x2 : Vec F S64x112 .f32) (y : S64x112.Idx) :
    ∃ pc ∈ (kernelRun0_A c i arg1 harg1 arg2 harg2 arg3 harg3 arg4 harg4 arg5 harg5 arg6 harg6 arg7 harg7 arg8 harg8 arg9 harg9 x0 x1 x2).2.2.1, y ∈ pc.1.set :=
  View.cover_of_tiledL (kernelRun0_A c i arg1 harg1 arg2 harg2 arg3 harg3 arg4 harg4 arg5 harg5 arg6 harg6 arg7 harg7 arg8 harg8 arg9 harg9 x0 x1 x2).2.2.1 S64x112.size (by sl_kernel_rfl) y

/-- What the run leaves in output 5's staging buffer: its pieces read back over junk. -/
def out0_A_5 (c : Dev nD) (i : grid0.Coords) (arg1 : Memref sig .tc .vmem S64x14336 .f32) (harg1 : arg1.IsWhole) (arg2 : Memref sig .tc .vmem S64x112 .f32) (harg2 : arg2.IsWhole) (arg3 : Memref sig .tc .vmem S64x112 .f32) (harg3 : arg3.IsWhole) (arg4 : Memref sig .tc .vmem S64x14336 .i8) (harg4 : arg4.IsWhole) (arg5 : Memref sig .tc .vmem S64x14336 .bf16) (harg5 : arg5.IsWhole) (arg6 : Memref sig .tc .vmem S64x112 .f32) (harg6 : arg6.IsWhole) (arg7 : Memref sig .tc .vmem S64x112 .f32) (harg7 : arg7.IsWhole) (arg8 : Memref sig .tc .vmem S64x112 .f32) (harg8 : arg8.IsWhole) (arg9 : Memref sig .tc .vmem S64x112 .f32) (harg9 : arg9.IsWhole)
    (x0 : Vec F S64x14336 .f32) (x1 : Vec F S64x112 .f32) (x2 : Vec F S64x112 .f32) : Vec F S64x112 .f32 :=
  VO0_5.read (Elt F) (VO0_5.writes (Elt F) VO0_5.junk (kernelRun0_A c i arg1 harg1 arg2 harg2 arg3 harg3 arg4 harg4 arg5 harg5 arg6 harg6 arg7 harg7 arg8 harg8 arg9 harg9 x0 x1 x2).2.2.1)

/-- The run's pieces for output 6 tile its block (1 store of `S64x112`, checked by the kernel's evaluation: Lib/Ring.lean `Piece.tiledL`, linear in the pieces, through a loop's `@[irreducible]` trip theorem too), so they cover it. -/
theorem cover0_A_6 (c : Dev nD) (i : grid0.Coords) (arg1 : Memref sig .tc .vmem S64x14336 .f32) (harg1 : arg1.IsWhole) (arg2 : Memref sig .tc .vmem S64x112 .f32) (harg2 : arg2.IsWhole) (arg3 : Memref sig .tc .vmem S64x112 .f32) (harg3 : arg3.IsWhole) (arg4 : Memref sig .tc .vmem S64x14336 .i8) (harg4 : arg4.IsWhole) (arg5 : Memref sig .tc .vmem S64x14336 .bf16) (harg5 : arg5.IsWhole) (arg6 : Memref sig .tc .vmem S64x112 .f32) (harg6 : arg6.IsWhole) (arg7 : Memref sig .tc .vmem S64x112 .f32) (harg7 : arg7.IsWhole) (arg8 : Memref sig .tc .vmem S64x112 .f32) (harg8 : arg8.IsWhole) (arg9 : Memref sig .tc .vmem S64x112 .f32) (harg9 : arg9.IsWhole)
    (x0 : Vec F S64x14336 .f32) (x1 : Vec F S64x112 .f32) (x2 : Vec F S64x112 .f32) (y : S64x112.Idx) :
    ∃ pc ∈ (kernelRun0_A c i arg1 harg1 arg2 harg2 arg3 harg3 arg4 harg4 arg5 harg5 arg6 harg6 arg7 harg7 arg8 harg8 arg9 harg9 x0 x1 x2).2.2.2.1, y ∈ pc.1.set :=
  View.cover_of_tiledL (kernelRun0_A c i arg1 harg1 arg2 harg2 arg3 harg3 arg4 harg4 arg5 harg5 arg6 harg6 arg7 harg7 arg8 harg8 arg9 harg9 x0 x1 x2).2.2.2.1 S64x112.size (by sl_kernel_rfl) y

/-- What the run leaves in output 6's staging buffer: its pieces read back over junk. -/
def out0_A_6 (c : Dev nD) (i : grid0.Coords) (arg1 : Memref sig .tc .vmem S64x14336 .f32) (harg1 : arg1.IsWhole) (arg2 : Memref sig .tc .vmem S64x112 .f32) (harg2 : arg2.IsWhole) (arg3 : Memref sig .tc .vmem S64x112 .f32) (harg3 : arg3.IsWhole) (arg4 : Memref sig .tc .vmem S64x14336 .i8) (harg4 : arg4.IsWhole) (arg5 : Memref sig .tc .vmem S64x14336 .bf16) (harg5 : arg5.IsWhole) (arg6 : Memref sig .tc .vmem S64x112 .f32) (harg6 : arg6.IsWhole) (arg7 : Memref sig .tc .vmem S64x112 .f32) (harg7 : arg7.IsWhole) (arg8 : Memref sig .tc .vmem S64x112 .f32) (harg8 : arg8.IsWhole) (arg9 : Memref sig .tc .vmem S64x112 .f32) (harg9 : arg9.IsWhole)
    (x0 : Vec F S64x14336 .f32) (x1 : Vec F S64x112 .f32) (x2 : Vec F S64x112 .f32) : Vec F S64x112 .f32 :=
  VO0_6.read (Elt F) (VO0_6.writes (Elt F) VO0_6.junk (kernelRun0_A c i arg1 harg1 arg2 harg2 arg3 harg3 arg4 harg4 arg5 harg5 arg6 harg6 arg7 harg7 arg8 harg8 arg9 harg9 x0 x1 x2).2.2.2.1)

/-- The run's pieces for output 7 tile its block (1 store of `S64x112`, checked by the kernel's evaluation: Lib/Ring.lean `Piece.tiledL`, linear in the pieces, through a loop's `@[irreducible]` trip theorem too), so they cover it. -/
theorem cover0_A_7 (c : Dev nD) (i : grid0.Coords) (arg1 : Memref sig .tc .vmem S64x14336 .f32) (harg1 : arg1.IsWhole) (arg2 : Memref sig .tc .vmem S64x112 .f32) (harg2 : arg2.IsWhole) (arg3 : Memref sig .tc .vmem S64x112 .f32) (harg3 : arg3.IsWhole) (arg4 : Memref sig .tc .vmem S64x14336 .i8) (harg4 : arg4.IsWhole) (arg5 : Memref sig .tc .vmem S64x14336 .bf16) (harg5 : arg5.IsWhole) (arg6 : Memref sig .tc .vmem S64x112 .f32) (harg6 : arg6.IsWhole) (arg7 : Memref sig .tc .vmem S64x112 .f32) (harg7 : arg7.IsWhole) (arg8 : Memref sig .tc .vmem S64x112 .f32) (harg8 : arg8.IsWhole) (arg9 : Memref sig .tc .vmem S64x112 .f32) (harg9 : arg9.IsWhole)
    (x0 : Vec F S64x14336 .f32) (x1 : Vec F S64x112 .f32) (x2 : Vec F S64x112 .f32) (y : S64x112.Idx) :
    ∃ pc ∈ (kernelRun0_A c i arg1 harg1 arg2 harg2 arg3 harg3 arg4 harg4 arg5 harg5 arg6 harg6 arg7 harg7 arg8 harg8 arg9 harg9 x0 x1 x2).2.2.2.2.1, y ∈ pc.1.set :=
  View.cover_of_tiledL (kernelRun0_A c i arg1 harg1 arg2 harg2 arg3 harg3 arg4 harg4 arg5 harg5 arg6 harg6 arg7 harg7 arg8 harg8 arg9 harg9 x0 x1 x2).2.2.2.2.1 S64x112.size (by sl_kernel_rfl) y

/-- What the run leaves in output 7's staging buffer: its pieces read back over junk. -/
def out0_A_7 (c : Dev nD) (i : grid0.Coords) (arg1 : Memref sig .tc .vmem S64x14336 .f32) (harg1 : arg1.IsWhole) (arg2 : Memref sig .tc .vmem S64x112 .f32) (harg2 : arg2.IsWhole) (arg3 : Memref sig .tc .vmem S64x112 .f32) (harg3 : arg3.IsWhole) (arg4 : Memref sig .tc .vmem S64x14336 .i8) (harg4 : arg4.IsWhole) (arg5 : Memref sig .tc .vmem S64x14336 .bf16) (harg5 : arg5.IsWhole) (arg6 : Memref sig .tc .vmem S64x112 .f32) (harg6 : arg6.IsWhole) (arg7 : Memref sig .tc .vmem S64x112 .f32) (harg7 : arg7.IsWhole) (arg8 : Memref sig .tc .vmem S64x112 .f32) (harg8 : arg8.IsWhole) (arg9 : Memref sig .tc .vmem S64x112 .f32) (harg9 : arg9.IsWhole)
    (x0 : Vec F S64x14336 .f32) (x1 : Vec F S64x112 .f32) (x2 : Vec F S64x112 .f32) : Vec F S64x112 .f32 :=
  VO0_7.read (Elt F) (VO0_7.writes (Elt F) VO0_7.junk (kernelRun0_A c i arg1 harg1 arg2 harg2 arg3 harg3 arg4 harg4 arg5 harg5 arg6 harg6 arg7 harg7 arg8 harg8 arg9 harg9 x0 x1 x2).2.2.2.2.1)

/-- The run's pieces for output 8 tile its block (1 store of `S64x112`, checked by the kernel's evaluation: Lib/Ring.lean `Piece.tiledL`, linear in the pieces, through a loop's `@[irreducible]` trip theorem too), so they cover it. -/
theorem cover0_A_8 (c : Dev nD) (i : grid0.Coords) (arg1 : Memref sig .tc .vmem S64x14336 .f32) (harg1 : arg1.IsWhole) (arg2 : Memref sig .tc .vmem S64x112 .f32) (harg2 : arg2.IsWhole) (arg3 : Memref sig .tc .vmem S64x112 .f32) (harg3 : arg3.IsWhole) (arg4 : Memref sig .tc .vmem S64x14336 .i8) (harg4 : arg4.IsWhole) (arg5 : Memref sig .tc .vmem S64x14336 .bf16) (harg5 : arg5.IsWhole) (arg6 : Memref sig .tc .vmem S64x112 .f32) (harg6 : arg6.IsWhole) (arg7 : Memref sig .tc .vmem S64x112 .f32) (harg7 : arg7.IsWhole) (arg8 : Memref sig .tc .vmem S64x112 .f32) (harg8 : arg8.IsWhole) (arg9 : Memref sig .tc .vmem S64x112 .f32) (harg9 : arg9.IsWhole)
    (x0 : Vec F S64x14336 .f32) (x1 : Vec F S64x112 .f32) (x2 : Vec F S64x112 .f32) (y : S64x112.Idx) :
    ∃ pc ∈ (kernelRun0_A c i arg1 harg1 arg2 harg2 arg3 harg3 arg4 harg4 arg5 harg5 arg6 harg6 arg7 harg7 arg8 harg8 arg9 harg9 x0 x1 x2).2.2.2.2.2.1, y ∈ pc.1.set :=
  View.cover_of_tiledL (kernelRun0_A c i arg1 harg1 arg2 harg2 arg3 harg3 arg4 harg4 arg5 harg5 arg6 harg6 arg7 harg7 arg8 harg8 arg9 harg9 x0 x1 x2).2.2.2.2.2.1 S64x112.size (by sl_kernel_rfl) y

/-- What the run leaves in output 8's staging buffer: its pieces read back over junk. -/
def out0_A_8 (c : Dev nD) (i : grid0.Coords) (arg1 : Memref sig .tc .vmem S64x14336 .f32) (harg1 : arg1.IsWhole) (arg2 : Memref sig .tc .vmem S64x112 .f32) (harg2 : arg2.IsWhole) (arg3 : Memref sig .tc .vmem S64x112 .f32) (harg3 : arg3.IsWhole) (arg4 : Memref sig .tc .vmem S64x14336 .i8) (harg4 : arg4.IsWhole) (arg5 : Memref sig .tc .vmem S64x14336 .bf16) (harg5 : arg5.IsWhole) (arg6 : Memref sig .tc .vmem S64x112 .f32) (harg6 : arg6.IsWhole) (arg7 : Memref sig .tc .vmem S64x112 .f32) (harg7 : arg7.IsWhole) (arg8 : Memref sig .tc .vmem S64x112 .f32) (harg8 : arg8.IsWhole) (arg9 : Memref sig .tc .vmem S64x112 .f32) (harg9 : arg9.IsWhole)
    (x0 : Vec F S64x14336 .f32) (x1 : Vec F S64x112 .f32) (x2 : Vec F S64x112 .f32) : Vec F S64x112 .f32 :=
  VO0_8.read (Elt F) (VO0_8.writes (Elt F) VO0_8.junk (kernelRun0_A c i arg1 harg1 arg2 harg2 arg3 harg3 arg4 harg4 arg5 harg5 arg6 harg6 arg7 harg7 arg8 harg8 arg9 harg9 x0 x1 x2).2.2.2.2.2.1)

/-! ## What the outputs hold after each point -/

/-- What the outputs' staging buffers hold after the body at point `t` (as a tuple, in window order): the run's contents at
    the point's memrefs and input blocks. -/
def outsAt0 (c : Dev nD) (t : Fin cfg0.N) : Vec F S64x14336 .i8 × Vec F S64x14336 .bf16 × Vec F S64x112 .f32 × Vec F S64x112 .f32 × Vec F S64x112 .f32 × Vec F S64x112 .f32 :=
  (out0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk0 V c 0 t) (iblk0 V c 1 t) (iblk0 V c 2 t), out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk0 V c 0 t) (iblk0 V c 1 t) (iblk0 V c 2 t), out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk0 V c 0 t) (iblk0 V c 1 t) (iblk0 V c 2 t), out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk0 V c 0 t) (iblk0 V c 1 t) (iblk0 V c 2 t), out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk0 V c 0 t) (iblk0 V c 1 t) (iblk0 V c 2 t), out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk0 V c 0 t) (iblk0 V c 1 t) (iblk0 V c 2 t))

/-! ## The pipeline's proof data -/

/-- The proof data of pipeline 0 on core `c`: the arrays as the region finds them (`V`); after the body at
    point `t` each input's buffer at its block and the outputs' at `outsAt0`; the invariant the class's
    (Lib/Pipeline/Frame.lean `ΦA`: the scoped rest and the generator register); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t).1
    | ⟨4, _⟩ => (outsAt0 V c t).2.1
    | ⟨5, _⟩ => (outsAt0 V c t).2.2.1
    | ⟨6, _⟩ => (outsAt0 V c t).2.2.2.1
    | ⟨7, _⟩ => (outsAt0 V c t).2.2.2.2.1
    | ⟨8, _⟩ => (outsAt0 V c t).2.2.2.2.2
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t).1 := by dsimp only [dat0]
theorem after0_4 (c : Dev nD) (t : Fin cfg0.N) : (dat0 V c).after 4 t = (outsAt0 V c t).2.1 := by dsimp only [dat0]
theorem after0_5 (c : Dev nD) (t : Fin cfg0.N) : (dat0 V c).after 5 t = (outsAt0 V c t).2.2.1 := by dsimp only [dat0]
theorem after0_6 (c : Dev nD) (t : Fin cfg0.N) : (dat0 V c).after 6 t = (outsAt0 V c t).2.2.2.1 := by dsimp only [dat0]
theorem after0_7 (c : Dev nD) (t : Fin cfg0.N) : (dat0 V c).after 7 t = (outsAt0 V c t).2.2.2.2.1 := by dsimp only [dat0]
theorem after0_8 (c : Dev nD) (t : Fin cfg0.N) : (dat0 V c).after 8 t = (outsAt0 V c t).2.2.2.2.2 := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t)
    ∗ owns (c : Thread nD τ) (ms0_6 t) fullShare ((dat0 V c).after 6 t)
    ∗ owns (c : Thread nD τ) (ms0_7 t) fullShare ((dat0 V c).after 7 t)
    ∗ owns (c : Thread nD τ) (ms0_8 t) fullShare ((dat0 V c).after 8 t))

set_option maxHeartbeats 800000 in
/-- The body at any point: the inputs' memrefs hold their blocks (`before0_W`); so the
    run applies; the invariant passes through unread; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8]
  unfold outsAt0
  unfold out0_A_3 out0_A_4 out0_A_5 out0_A_6 out0_A_7 out0_A_8; (try dsimp only)
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((kernelRun0_A c (grid0.coords t) _ _ _ _ _ _ _ _ _ _ _ _ _ _ _ _ _ _ (iblk0 V c 0 t) (iblk0 V c 1 t) (iblk0 V c 2 t)).2.2.2.2.2.2 Set.univ _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [H6]; · iexists _; iexact H6
  isplitl [H7]; · iexists _; iexact H7
  isplitl [H8]; · iexists _; iexact H8
  iintro ⟨H0, H1, H2, ⟨%e3, H3⟩, ⟨%e4, H4⟩, ⟨%e5, H5⟩, ⟨%e6, H6⟩, ⟨%e7, H7⟩, ⟨%e8, H8⟩⟩
  isplitl [HΦ]; · iexact HΦ
  isplitl [Ho]; · iexact Ho
  isplitl [H0]; · iexact H0
  isplitl [H1]; · iexact H1
  isplitl [H2]; · iexact H2
  isplitl [H3]
  · unfold owns; iexists _; isplitr
    swap; · iexact H3
    ipureintro; exact View.read_writes_of_cover _ _ _ _ _ (cover0_A_3 c _ _ _ _ _ _ _ _ _ _ _ _ _ _ _ _ _ _ _ _ _ _)
  isplitl [H4]
  · unfold owns; iexists _; isplitr
    swap; · iexact H4
    ipureintro; exact View.read_writes_of_cover _ _ _ _ _ (cover0_A_4 c _ _ _ _ _ _ _ _ _ _ _ _ _ _ _ _ _ _ _ _ _ _)
  isplitl [H5]
  · unfold owns; iexists _; isplitr
    swap; · iexact H5
    ipureintro; exact View.read_writes_of_cover _ _ _ _ _ (cover0_A_5 c _ _ _ _ _ _ _ _ _ _ _ _ _ _ _ _ _ _ _ _ _ _)
  isplitl [H6]
  · unfold owns; iexists _; isplitr
    swap; · iexact H6
    ipureintro; exact View.read_writes_of_cover _ _ _ _ _ (cover0_A_6 c _ _ _ _ _ _ _ _ _ _ _ _ _ _ _ _ _ _ _ _ _ _)
  isplitl [H7]
  · unfold owns; iexists _; isplitr
    swap; · iexact H7
    ipureintro; exact View.read_writes_of_cover _ _ _ _ _ (cover0_A_7 c _ _ _ _ _ _ _ _ _ _ _ _ _ _ _ _ _ _ _ _ _ _)
  unfold owns; iexists _; isplitr
  swap; · iexact H8
  ipureintro; exact View.read_writes_of_cover _ _ _ _ _ (cover0_A_8 c _ _ _ _ _ _ _ _ _ _ _ _ _ _ _ _ _ _ _ _ _ _)

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Cert.Kernel.Run

end
-- ==== Proof.KernelFwd.lean ====
/- The second call (the forward product and the loss): what its body leaves in each output block, and its body
   obligation, at arbitrary entry contents `V` and any float instance `F`. The text follows the library's certificate of
   one region. -/
module

public import proofs.«01_k».proof.Proof.Gen.Kernel.Launch
public import proofs.«01_k».proof.Proof.Gen.Kernel.Skeleton
public import proofs.«01_k».proof.Proof.Gen.Kernel.Points
public import proofs.«01_k».proof.Proof.Gen.Kernel.Loops
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

-- membership in a rectangle of production extents (`View.cover_of_tiled`): the elaborator's structural look
-- recurses once per coordinate of the long axes
set_option maxRecDepth 16384

noncomputable section

namespace Cert.Kernel.Run

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # REGION 1 of @main: custom_call 1, `cc1_lwc_fwd` (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The condition of the body's `scf.if` 0 (`k1_h1`), from the grid coordinates (the skeleton's scalar
    chain substituted). -/
abbrev cond1_0 (i : grid1.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first point only — by arithmetic of the point. -/
theorem hcond1_0 : ∀ t : Fin cfg1.N, cond1_0 (grid1.coords t) ↔ t.val % 96 = 0 :=
  (fun t => by
    have ht : t.val < 96 := Nat.lt_of_lt_of_eq t.isLt N_1
    have e0 : (grid1.coords t 0).val = t.val / 12 % 8 := Pipeline.Grid.coords_val t 0 (by decide) rfl
    have e1 : (grid1.coords t 1).val = t.val / 1 % 12 := Pipeline.Grid.coords_val t 1 (by decide) rfl
    simp only [cond1_0, e0, e1]
    word_cmp
   : ∀ t : Fin grid1.N, cond1_0 (grid1.coords t) ↔ t.val % 96 = 0)

/-! ## The kernel body on any staging memrefs: a subtype the run finds -/

/-- One staging buffer of output window 4, through which its contents are stated (`View.read_writes_of_cover`: the
    choice does not matter). -/
abbrev VO1_4 : View sig .tc .vmem S512x512 .bf16 := (Memref.whole cc1_stg4_0 : Memref sig .tc .vmem S512x512 .bf16).view
/-- One staging buffer of output window 5, through which its contents are stated (`View.read_writes_of_cover`: the
    choice does not matter). -/
abbrev VO1_5 : View sig .tc .vmem S8x128 .f32 := (Memref.whole cc1_stg5_0 : Memref sig .tc .vmem S8x128 .f32).view
/-- Each window's current staging memref at point `t`, spelled as the pipeline passes it (`bodyAt1`), and its wholeness. -/
abbrev ms1_0 (t : Fin cfg1.N) : Memref sig .tc .vmem S512x14336 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x14336 .fp8e4m3 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512x512 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S512x512 .bf16 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S8x128 .f32 := win1_5.stage (cfg1.slots t 5)
abbrev hs1_5 (t : Fin cfg1.N) : (ms1_5 t).IsWhole := hstage1_5 ((cfg1.slots t 5).cast nbuf1_5)

-- (the run's proof term is large: the definition's epilogue — `abstractNestedProofs` — walks it past the default budget)
set_option maxHeartbeats 1000000 in
/-- What the body's stores leave in each output's staging memref, as pieces (last first) IN CASE A (`scf.if` 0 taken: points 0), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun1_A (c : Dev nD) (i : grid1.Coords) (arg2 : Memref sig .tc .vmem S512x14336 .bf16) (harg2 : arg2.IsWhole) (arg3 : Memref sig .tc .vmem S512x14336 .fp8e4m3) (harg3 : arg3.IsWhole) (arg4 : Memref sig .tc .vmem S1x512 .f32) (harg4 : arg4.IsWhole) (arg5 : Memref sig .tc .vmem S512x512 .bf16) (harg5 : arg5.IsWhole) (arg6 : Memref sig .tc .vmem S512x512 .bf16) (harg6 : arg6.IsWhole) (arg7 : Memref sig .tc .vmem S8x128 .f32) (harg7 : arg7.IsWhole) (hc0 : cond1_0 i)
    (x0 : Vec F S512x14336 .bf16) (x1 : Vec F S512x14336 .fp8e4m3) (x2 : Vec F S1x512 .f32) (x3 : Vec F S512x512 .bf16) :
    Σ' (L4 : List (View.Piece (Elt F) S512x512 .bf16)), { L5 : List (View.Piece (Elt F) S8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5)) -∗ K ⟨⟩))
          ⊢ wp frame (wpE (defs₀ (F := F)) Variants.none c none) E (cc1_lwc_fwd i arg2 harg2 arg3 harg3 arg4 harg4 arg5 harg5 arg6 harg6 arg7 harg7) K } := by
  refine ⟨?_, ?_, fun E K => ?run⟩
  case run =>
    simp only [cc1_lwc_fwd_eq_skeleton]; unfold cc1_lwc_fwd_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
    obtain rfl := harg2.eq_unread hf0; obtain rfl := harg3.eq_unread hf1; obtain rfl := harg4.eq_unread hf2; obtain rfl := harg5.eq_unread hf3
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact H5

/-- Case A's pieces for output 4 tile its block (1 store of `S512x512`, checked by the kernel's evaluation: Lib/Ring.lean `Piece.tiledL`, linear in the pieces, through a loop's `@[irreducible]` trip theorem too), so they cover it. -/
theorem cover1_A_4 (c : Dev nD) (i : grid1.Coords) (arg2 : Memref sig .tc .vmem S512x14336 .bf16) (harg2 : arg2.IsWhole) (arg3 : Memref sig .tc .vmem S512x14336 .fp8e4m3) (harg3 : arg3.IsWhole) (arg4 : Memref sig .tc .vmem S1x512 .f32) (harg4 : arg4.IsWhole) (arg5 : Memref sig .tc .vmem S512x512 .bf16) (harg5 : arg5.IsWhole) (arg6 : Memref sig .tc .vmem S512x512 .bf16) (harg6 : arg6.IsWhole) (arg7 : Memref sig .tc .vmem S8x128 .f32) (harg7 : arg7.IsWhole) (hc0 : cond1_0 i)
    (x0 : Vec F S512x14336 .bf16) (x1 : Vec F S512x14336 .fp8e4m3) (x2 : Vec F S1x512 .f32) (x3 : Vec F S512x512 .bf16) (y : S512x512.Idx) :
    ∃ pc ∈ (kernelRun1_A c i arg2 harg2 arg3 harg3 arg4 harg4 arg5 harg5 arg6 harg6 arg7 harg7 hc0 x0 x1 x2 x3).1, y ∈ pc.1.set :=
  View.cover_of_tiledL (kernelRun1_A c i arg2 harg2 arg3 harg3 arg4 harg4 arg5 harg5 arg6 harg6 arg7 harg7 hc0 x0 x1 x2 x3).1 S512x512.size (by sl_kernel_rfl) y

/-- What case A leaves in output 4's staging buffer: its pieces read back over junk. -/
def out1_A_4 (c : Dev nD) (i : grid1.Coords) (arg2 : Memref sig .tc .vmem S512x14336 .bf16) (harg2 : arg2.IsWhole) (arg3 : Memref sig .tc .vmem S512x14336 .fp8e4m3) (harg3 : arg3.IsWhole) (arg4 : Memref sig .tc .vmem S1x512 .f32) (harg4 : arg4.IsWhole) (arg5 : Memref sig .tc .vmem S512x512 .bf16) (harg5 : arg5.IsWhole) (arg6 : Memref sig .tc .vmem S512x512 .bf16) (harg6 : arg6.IsWhole) (arg7 : Memref sig .tc .vmem S8x128 .f32) (harg7 : arg7.IsWhole) (hc0 : cond1_0 i)
    (x0 : Vec F S512x14336 .bf16) (x1 : Vec F S512x14336 .fp8e4m3) (x2 : Vec F S1x512 .f32) (x3 : Vec F S512x512 .bf16) : Vec F S512x512 .bf16 :=
  VO1_4.read (Elt F) (VO1_4.writes (Elt F) VO1_4.junk (kernelRun1_A c i arg2 harg2 arg3 harg3 arg4 harg4 arg5 harg5 arg6 harg6 arg7 harg7 hc0 x0 x1 x2 x3).1)

/-- Case A's pieces for output 5 tile its block (2 stores of `S8x128`, checked by the kernel's evaluation: Lib/Ring.lean `Piece.tiledL`, linear in the pieces, through a loop's `@[irreducible]` trip theorem too), so they cover it. -/
theorem cover1_A_5 (c : Dev nD) (i : grid1.Coords) (arg2 : Memref sig .tc .vmem S512x14336 .bf16) (harg2 : arg2.IsWhole) (arg3 : Memref sig .tc .vmem S512x14336 .fp8e4m3) (harg3 : arg3.IsWhole) (arg4 : Memref sig .tc .vmem S1x512 .f32) (harg4 : arg4.IsWhole) (arg5 : Memref sig .tc .vmem S512x512 .bf16) (harg5 : arg5.IsWhole) (arg6 : Memref sig .tc .vmem S512x512 .bf16) (harg6 : arg6.IsWhole) (arg7 : Memref sig .tc .vmem S8x128 .f32) (harg7 : arg7.IsWhole) (hc0 : cond1_0 i)
    (x0 : Vec F S512x14336 .bf16) (x1 : Vec F S512x14336 .fp8e4m3) (x2 : Vec F S1x512 .f32) (x3 : Vec F S512x512 .bf16) (y : S8x128.Idx) :
    ∃ pc ∈ (kernelRun1_A c i arg2 harg2 arg3 harg3 arg4 harg4 arg5 harg5 arg6 harg6 arg7 harg7 hc0 x0 x1 x2 x3).2.1, y ∈ pc.1.set :=
  View.cover_of_tiledL (kernelRun1_A c i arg2 harg2 arg3 harg3 arg4 harg4 arg5 harg5 arg6 harg6 arg7 harg7 hc0 x0 x1 x2 x3).2.1 S8x128.size (by sl_kernel_rfl) y

/-- What case A leaves in output 5's staging buffer: its pieces read back over junk. -/
def out1_A_5 (c : Dev nD) (i : grid1.Coords) (arg2 : Memref sig .tc .vmem S512x14336 .bf16) (harg2 : arg2.IsWhole) (arg3 : Memref sig .tc .vmem S512x14336 .fp8e4m3) (harg3 : arg3.IsWhole) (arg4 : Memref sig .tc .vmem S1x512 .f32) (harg4 : arg4.IsWhole) (arg5 : Memref sig .tc .vmem S512x512 .bf16) (harg5 : arg5.IsWhole) (arg6 : Memref sig .tc .vmem S512x512 .bf16) (harg6 : arg6.IsWhole) (arg7 : Memref sig .tc .vmem S8x128 .f32) (harg7 : arg7.IsWhole) (hc0 : cond1_0 i)
    (x0 : Vec F S512x14336 .bf16) (x1 : Vec F S512x14336 .fp8e4m3) (x2 : Vec F S1x512 .f32) (x3 : Vec F S512x512 .bf16) : Vec F S8x128 .f32 :=
  VO1_5.read (Elt F) (VO1_5.writes (Elt F) VO1_5.junk (kernelRun1_A c i arg2 harg2 arg3 harg3 arg4 harg4 arg5 harg5 arg6 harg6 arg7 harg7 hc0 x0 x1 x2 x3).2.1)

-- (the run's proof term is large: the definition's epilogue — `abstractNestedProofs` — walks it past the default budget)
set_option maxHeartbeats 1000000 in
/-- What the body's stores leave in each output's staging memref, as pieces (last first) IN CASE B (`scf.if` 0 not taken: points 1, 2, … 95: 95 of 96), WITH the
    proof that on whole staging memrefs — the inputs' at their contents, the outputs it reads before covering (5) at their running contents `xo·`, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun1_B (c : Dev nD) (i : grid1.Coords) (arg2 : Memref sig .tc .vmem S512x14336 .bf16) (harg2 : arg2.IsWhole) (arg3 : Memref sig .tc .vmem S512x14336 .fp8e4m3) (harg3 : arg3.IsWhole) (arg4 : Memref sig .tc .vmem S1x512 .f32) (harg4 : arg4.IsWhole) (arg5 : Memref sig .tc .vmem S512x512 .bf16) (harg5 : arg5.IsWhole) (arg6 : Memref sig .tc .vmem S512x512 .bf16) (harg6 : arg6.IsWhole) (arg7 : Memref sig .tc .vmem S8x128 .f32) (harg7 : arg7.IsWhole) (hc0 : ¬cond1_0 i)
    (x0 : Vec F S512x14336 .bf16) (x1 : Vec F S512x14336 .fp8e4m3) (x2 : Vec F S1x512 .f32) (x3 : Vec F S512x512 .bf16) (xo5 : Vec F S8x128 .f32) :
    Σ' (L4 : List (View.Piece (Elt F) S512x512 .bf16)), { L5 : List (View.Piece (Elt F) S8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xo5
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5)) -∗ K ⟨⟩))
          ⊢ wp frame (wpE (defs₀ (F := F)) Variants.none c none) E (cc1_lwc_fwd i arg2 harg2 arg3 harg3 arg4 harg4 arg5 harg5 arg6 harg6 arg7 harg7) K } := by
  refine ⟨?_, ?_, fun E K => ?run⟩
  case run =>
    simp only [cc1_lwc_fwd_eq_skeleton]; unfold cc1_lwc_fwd_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, Hk⟩
    obtain rfl := harg2.eq_unread hf0; obtain rfl := harg3.eq_unread hf1; obtain rfl := harg4.eq_unread hf2; obtain rfl := harg5.eq_unread hf3; obtain rfl := harg7.eq_unread hf5
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact H5

/-- Case B's pieces for output 4 tile its block (1 store of `S512x512`, checked by the kernel's evaluation: Lib/Ring.lean `Piece.tiledL`, linear in the pieces, through a loop's `@[irreducible]` trip theorem too), so they cover it. -/
theorem cover1_B_4 (c : Dev nD) (i : grid1.Coords) (arg2 : Memref sig .tc .vmem S512x14336 .bf16) (harg2 : arg2.IsWhole) (arg3 : Memref sig .tc .vmem S512x14336 .fp8e4m3) (harg3 : arg3.IsWhole) (arg4 : Memref sig .tc .vmem S1x512 .f32) (harg4 : arg4.IsWhole) (arg5 : Memref sig .tc .vmem S512x512 .bf16) (harg5 : arg5.IsWhole) (arg6 : Memref sig .tc .vmem S512x512 .bf16) (harg6 : arg6.IsWhole) (arg7 : Memref sig .tc .vmem S8x128 .f32) (harg7 : arg7.IsWhole) (hc0 : ¬cond1_0 i)
    (x0 : Vec F S512x14336 .bf16) (x1 : Vec F S512x14336 .fp8e4m3) (x2 : Vec F S1x512 .f32) (x3 : Vec F S512x512 .bf16) (xo5 : Vec F S8x128 .f32) (y : S512x512.Idx) :
    ∃ pc ∈ (kernelRun1_B c i arg2 harg2 arg3 harg3 arg4 harg4 arg5 harg5 arg6 harg6 arg7 harg7 hc0 x0 x1 x2 x3 xo5).1, y ∈ pc.1.set :=
  View.cover_of_tiledL (kernelRun1_B c i arg2 harg2 arg3 harg3 arg4 harg4 arg5 harg5 arg6 harg6 arg7 harg7 hc0 x0 x1 x2 x3 xo5).1 S512x512.size (by sl_kernel_rfl) y

/-- What case B leaves in output 4's staging buffer: its pieces read back over junk. -/
def out1_B_4 (c : Dev nD) (i : grid1.Coords) (arg2 : Memref sig .tc .vmem S512x14336 .bf16) (harg2 : arg2.IsWhole) (arg3 : Memref sig .tc .vmem S512x14336 .fp8e4m3) (harg3 : arg3.IsWhole) (arg4 : Memref sig .tc .vmem S1x512 .f32) (harg4 : arg4.IsWhole) (arg5 : Memref sig .tc .vmem S512x512 .bf16) (harg5 : arg5.IsWhole) (arg6 : Memref sig .tc .vmem S512x512 .bf16) (harg6 : arg6.IsWhole) (arg7 : Memref sig .tc .vmem S8x128 .f32) (harg7 : arg7.IsWhole) (hc0 : ¬cond1_0 i)
    (x0 : Vec F S512x14336 .bf16) (x1 : Vec F S512x14336 .fp8e4m3) (x2 : Vec F S1x512 .f32) (x3 : Vec F S512x512 .bf16) (xo5 : Vec F S8x128 .f32) : Vec F S512x512 .bf16 :=
  VO1_4.read (Elt F) (VO1_4.writes (Elt F) VO1_4.junk (kernelRun1_B c i arg2 harg2 arg3 harg3 arg4 harg4 arg5 harg5 arg6 harg6 arg7 harg7 hc0 x0 x1 x2 x3 xo5).1)

/-- Case B's pieces for output 5 tile its block (1 store of `S8x128`, checked by the kernel's evaluation: Lib/Ring.lean `Piece.tiledL`, linear in the pieces, through a loop's `@[irreducible]` trip theorem too), so they cover it. -/
theorem cover1_B_5 (c : Dev nD) (i : grid1.Coords) (arg2 : Memref sig .tc .vmem S512x14336 .bf16) (harg2 : arg2.IsWhole) (arg3 : Memref sig .tc .vmem S512x14336 .fp8e4m3) (harg3 : arg3.IsWhole) (arg4 : Memref sig .tc .vmem S1x512 .f32) (harg4 : arg4.IsWhole) (arg5 : Memref sig .tc .vmem S512x512 .bf16) (harg5 : arg5.IsWhole) (arg6 : Memref sig .tc .vmem S512x512 .bf16) (harg6 : arg6.IsWhole) (arg7 : Memref sig .tc .vmem S8x128 .f32) (harg7 : arg7.IsWhole) (hc0 : ¬cond1_0 i)
    (x0 : Vec F S512x14336 .bf16) (x1 : Vec F S512x14336 .fp8e4m3) (x2 : Vec F S1x512 .f32) (x3 : Vec F S512x512 .bf16) (xo5 : Vec F S8x128 .f32) (y : S8x128.Idx) :
    ∃ pc ∈ (kernelRun1_B c i arg2 harg2 arg3 harg3 arg4 harg4 arg5 harg5 arg6 harg6 arg7 harg7 hc0 x0 x1 x2 x3 xo5).2.1, y ∈ pc.1.set :=
  View.cover_of_tiledL (kernelRun1_B c i arg2 harg2 arg3 harg3 arg4 harg4 arg5 harg5 arg6 harg6 arg7 harg7 hc0 x0 x1 x2 x3 xo5).2.1 S8x128.size (by sl_kernel_rfl) y

/-- What case B leaves in output 5's staging buffer: its pieces read back over junk. -/
def out1_B_5 (c : Dev nD) (i : grid1.Coords) (arg2 : Memref sig .tc .vmem S512x14336 .bf16) (harg2 : arg2.IsWhole) (arg3 : Memref sig .tc .vmem S512x14336 .fp8e4m3) (harg3 : arg3.IsWhole) (arg4 : Memref sig .tc .vmem S1x512 .f32) (harg4 : arg4.IsWhole) (arg5 : Memref sig .tc .vmem S512x512 .bf16) (harg5 : arg5.IsWhole) (arg6 : Memref sig .tc .vmem S512x512 .bf16) (harg6 : arg6.IsWhole) (arg7 : Memref sig .tc .vmem S8x128 .f32) (harg7 : arg7.IsWhole) (hc0 : ¬cond1_0 i)
    (x0 : Vec F S512x14336 .bf16) (x1 : Vec F S512x14336 .fp8e4m3) (x2 : Vec F S1x512 .f32) (x3 : Vec F S512x512 .bf16) (xo5 : Vec F S8x128 .f32) : Vec F S8x128 .f32 :=
  VO1_5.read (Elt F) (VO1_5.writes (Elt F) VO1_5.junk (kernelRun1_B c i arg2 harg2 arg3 harg3 arg4 harg4 arg5 harg5 arg6 harg6 arg7 harg7 hc0 x0 x1 x2 x3 xo5).2.1)

/-! ## What the outputs hold after each point -/

/-- THE ACCUMULATION. What the outputs' staging buffers hold after the body at position `n` (a tuple, in window order):
    the case the closed forms select at `n`, run at the point's memrefs and input blocks, an output it reads before covering
    at what this leaves at `n - 1` (its buffer is not written back between: `before1_W_κ`). An assignment of the conditions no point meets is no case (`False.elim`). -/
def outsAt1 (c : Dev nD) : (n : ℕ) → n < cfg1.N → Vec F S512x512 .bf16 × Vec F S8x128 .f32
  | 0, hn => (out1_A_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩), out1_A_5 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩))
  | n + 1, hn =>
    if h0 : (n + 1) % 96 = 0 then
      (out1_A_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩), out1_A_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩))
    else
      (out1_B_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (fun h => h0 ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2, out1_B_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (fun h => h0 ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2)

/-- `outsAt1` at a point of case A: that case's contents. -/
theorem outsAt1_A (c : Dev nD) (t : Fin cfg1.N) (h0 : t.val % 96 = 0) :
    outsAt1 V c t.val t.isLt = (out1_A_4 c (grid1.coords t) (ms1_0 t) (hs1_0 t) (ms1_1 t) (hs1_1 t) (ms1_2 t) (hs1_2 t) (ms1_3 t) (hs1_3 t) (ms1_4 t) (hs1_4 t) (ms1_5 t) (hs1_5 t) ((hcond1_0 t).mpr h0) (iblk1 V c 0 t) (iblk1 V c 1 t) (iblk1 V c 2 t) (iblk1 V c 3 t), out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) ((hcond1_0 t).mpr h0) (iblk1 V c 0 t) (iblk1 V c 1 t) (iblk1 V c 2 t) (iblk1 V c 3 t)) := by
  obtain ⟨n, hn⟩ := t
  cases n with
  | zero => exact rfl
  | succ n => exact (dif_pos h0).trans rfl

/-- `outsAt1` at a point of case B: that case's contents, over what the point before left. -/
theorem outsAt1_B (c : Dev nD) (t : Fin cfg1.N) (h0 : ¬t.val % 96 = 0) :
    outsAt1 V c t.val t.isLt = (out1_B_4 c (grid1.coords t) (ms1_0 t) (hs1_0 t) (ms1_1 t) (hs1_1 t) (ms1_2 t) (hs1_2 t) (ms1_3 t) (hs1_3 t) (ms1_4 t) (hs1_4 t) (ms1_5 t) (hs1_5 t) (fun h => h0 ((hcond1_0 t).mp h)) (iblk1 V c 0 t) (iblk1 V c 1 t) (iblk1 V c 2 t) (iblk1 V c 3 t) (outsAt1 V c (t.val - 1) (Nat.lt_of_le_of_lt (Nat.sub_le _ _) t.isLt)).2, out1_B_5 c (grid1.coords t) (ms1_0 t) (hs1_0 t) (ms1_1 t) (hs1_1 t) (ms1_2 t) (hs1_2 t) (ms1_3 t) (hs1_3 t) (ms1_4 t) (hs1_4 t) (ms1_5 t) (hs1_5 t) (fun h => h0 ((hcond1_0 t).mp h)) (iblk1 V c 0 t) (iblk1 V c 1 t) (iblk1 V c 2 t) (iblk1 V c 3 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The pipeline's proof data -/

/-- The proof data of pipeline 1 on core `c`: the arrays as the region finds them (`V`); after the body at
    point `t` each input's buffer at its block and the outputs' at `outsAt1`; the invariant the class's
    (Lib/Pipeline/Frame.lean `ΦA`: the scoped rest and the generator register); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
    | ⟨5, _⟩ => (outsAt1 V c t.val t.isLt).2
  Φ _ := Pipeline.ΦA spec1 c
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]
theorem after1_5 (c : Dev nD) (t : Fin cfg1.N) : (dat1 V c).after 5 t = (outsAt1 V c t.val t.isLt).2 := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
/-- At a point of case B output 5's current staging buffer holds what the body left at the point before: the point is
    not the first, the buffer was not written back between (`flush1_5`), the window is live and uncut (Lib/Pipeline/Frame.lean
    `Dat.before_out_kept`). -/
theorem before1_5_B (c : Dev nD) (t : Fin cfg1.N) (h0 : ¬t.val % 96 = 0) (d) :
    (dat1 V c).before 5 t d = (outsAt1 V c (t.val - 1) (Nat.lt_of_le_of_lt (Nat.sub_le _ _) t.isLt)).2 := by
  have hN : t.val < 96 := lt_of_lt_of_eq t.isLt (show cfg1.N = 96 from N_1)
  rw [Dat.before_out_kept _ 5 rfl t (by omega) (Bool.eq_false_iff.mpr fun h => by have := (flush1_5 _).mp h; dsimp only at this; omega)
    (fun _ => rfl) (fun _ _ => rfl)]
  dsimp only [dat1]

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t))

set_option maxHeartbeats 800000 in
/-- The body at any point: the inputs' memrefs hold their blocks (`before1_W`); the closed forms say which case the point is in (`by_cases`), an output the case reads before covering holds what the point before left (`before1_W_κ`); so the
    run applies; the invariant passes through unread; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4, after1_5]
  have hN : t.val < 96 := lt_of_lt_of_eq t.isLt (show cfg1.N = 96 from N_1)
  by_cases h0 : t.val % 96 = 0
  · rw [outsAt1_A V c t h0]
    unfold out1_A_4 out1_A_5; (try dsimp only)
    iintro ⟨HΦ, Ho, ⟨%d0, H0⟩, ⟨%d1, H1⟩, ⟨%d2, H2⟩, ⟨%d3, H3⟩, ⟨%d4, H4⟩, ⟨%d5, H5⟩⟩
    iapply ((kernelRun1_A c (grid1.coords t) _ _ _ _ _ _ _ _ _ _ _ _ ((hcond1_0 t).mpr h0) (iblk1 V c 0 t) (iblk1 V c 1 t) (iblk1 V c 2 t) (iblk1 V c 3 t)).2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    iintro ⟨H0, H1, H2, H3, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover1_A_4 c _ _ _ _ _ _ _ _ _ _ _ _ _ _ _ _ _ _)
    unfold owns; iexists _; isplitr
    swap; · iexact H5
    ipureintro; exact View.read_writes_of_cover _ _ _ _ _ (cover1_A_5 c _ _ _ _ _ _ _ _ _ _ _ _ _ _ _ _ _ _)
  · rw [outsAt1_B V c t h0]
    simp only [before1_5_B V c t h0]
    unfold out1_B_4 out1_B_5; (try dsimp only)
    iintro ⟨HΦ, Ho, ⟨%d0, H0⟩, ⟨%d1, H1⟩, ⟨%d2, H2⟩, ⟨%d3, H3⟩, ⟨%d4, H4⟩, ⟨%d5, H5⟩⟩
    iapply ((kernelRun1_B c (grid1.coords t) _ _ _ _ _ _ _ _ _ _ _ _ (fun h => h0 ((hcond1_0 t).mp h)) (iblk1 V c 0 t) (iblk1 V c 1 t) (iblk1 V c 2 t) (iblk1 V c 3 t) _).2.2 Set.univ _)
    isplitl [H0]; · iexact H0
    isplitl [H1]; · iexact H1
    isplitl [H2]; · iexact H2
    isplitl [H3]; · iexact H3
    isplitl [H4]; · iexists _; iexact H4
    isplitl [H5]; · iexact H5
    iintro ⟨H0, H1, H2, H3, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover1_B_4 c _ _ _ _ _ _ _ _ _ _ _ _ _ _ _ _ _ _ _)
    unfold owns; iexists _; isplitr
    swap; · iexact H5
    ipureintro; exact View.read_writes_of_cover _ _ _ _ _ (cover1_B_5 c _ _ _ _ _ _ _ _ _ _ _ _ _ _ _ _ _ _ _)

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Cert.Kernel.Run

end
-- ==== Proof.KernelBwd.lean ====
/- The third call (the backward product and the two gradients): its scratch carries the row sums from point to
   point, each point writing four lanes, and the results are stored at the last point of each row block. What the body
   leaves, and its body obligation, at arbitrary entry contents `V` and any float instance `F`. -/
module

public import proofs.«01_k».proof.Proof.Gen.Kernel.Launch
public import proofs.«01_k».proof.Proof.Gen.Kernel.Skeleton
public import proofs.«01_k».proof.Proof.Gen.Kernel.Points
public import proofs.«01_k».proof.Proof.Gen.Kernel.Loops
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp
public import Idealize.ShloMosaic.Lib.Pipeline.Value
public import Idealize.ShloMosaic.Lib.ValueIdx
public import Idealize.ShloMosaic.Lib.Pointwise

@[expose] public section

-- membership in a rectangle of production extents (`View.cover_of_tiled`): the elaborator's structural look
-- recurses once per coordinate of the long axes
set_option maxRecDepth 16384

noncomputable section

namespace Cert.Kernel.Run

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # REGION 2 of @main: custom_call 2, `cc2_lwc_bwd` (pipeline 2), at the entry contents `V` -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_8_of {c : Dev nD} (dat : Dat τ (Elt F) Unit ℕ (UR sig nD τ) ℕ cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

abbrev r2_0 : Rect S512x6144 := Rect.unit (s := S512x6144) ![0, 0] S512x6144.size inb_S512x6144_S512x6144_0_0
abbrev r2_1 : Rect S6144x512 := Rect.unit (s := S6144x512) ![0, 0] S6144x512.size inb_S6144x512_S6144x512_0_0
abbrev r2_2 : Rect S512x112 := Rect.unit (s := S512x112) ![0, 0] S512x112.size inb_S512x112_S512x112_0_0
abbrev r2_3 : Rect S512x512 := Rect.unit (s := S512x512) ![0, 0] S512x128.size inb_S512x512_S512x128_0_0
abbrev r2_4 : Rect S512x512 := Rect.unit (s := S512x512) ![0, 128] S512x128.size inb_S512x512_S512x128_0_128
abbrev r2_5 : Rect S512x512 := Rect.unit (s := S512x512) ![0, 256] S512x128.size inb_S512x512_S512x128_0_256
abbrev r2_6 : Rect S512x512 := Rect.unit (s := S512x512) ![0, 384] S512x128.size inb_S512x512_S512x128_0_384

/-! ## The row sums of one point, and the lanes they are written to

The body keeps a running array of 112 row sums per row (the scratch). At point `(·, j)` it computes four of them, the
groups `4j … 4j+3`, and writes each into its own lane by a select over the lane number; every other lane keeps what
the scratch held. -/

/-- The scratch after the first of the four groups. -/
def sA (i : grid2.Coords) (x0 : Vec F S512x6144 .bf16) (x1 : Vec F S6144x512 .fp8e4m3) (x2 : Vec F S512x512 .f32) (x3 : Vec F S512x112 .f32) (x4 : Vec F S512x112 .f32) (s : Vec F S512x112 .f32) : FVec F S512x112 .f32 :=
  k2_pay14 (k2_pay5 (View.ld x0 r2_0) (View.ld x1 r2_1)) (View.ld s r2_2) (k2_pay8 i) (k2_pay10 i (View.ld x3 r2_2) (View.ld x2 r2_3))
    (k2_pay11 i (View.ld x3 r2_2) (View.ld x4 r2_2) (View.ld x2 r2_3)) (k2_pay12 i (View.ld x3 r2_2) (View.ld x4 r2_2) (View.ld x2 r2_3)) (k2_pay13 (F := F))
/-- The lane numbers, and the grid's second coordinate as a word. -/
abbrev lanes2 : IVec S512x112 32 := iota .tc S512x112 32 [1] iota_S512x112_d1_w32
abbrev jw (i : grid2.Coords) : BitVec 32 := BitVec.ofNat 32 (i 1).val
/-- The scratch after the second group. -/
def sB (i : grid2.Coords) (x0 : Vec F S512x6144 .bf16) (x1 : Vec F S6144x512 .fp8e4m3) (x2 : Vec F S512x512 .f32) (x3 : Vec F S512x112 .f32) (x4 : Vec F S512x112 .f32) (s : Vec F S512x112 .f32) : FVec F S512x112 .f32 :=
  k2_pay22 (k2_pay5 (View.ld x0 r2_0) (View.ld x1 r2_1)) (sA i x0 x1 x2 x3 x4 s) (k2_pay15 (jw i) lanes2) (k2_pay17 (jw i) lanes2 (k2_pay6 (View.ld x3 r2_2)) (View.ld x2 r2_4))
    (k2_pay19 (jw i) lanes2 (k2_pay6 (View.ld x3 r2_2)) (k2_pay7 (View.ld x4 r2_2)) (View.ld x2 r2_4)) (k2_pay20 (jw i) lanes2 (k2_pay6 (View.ld x3 r2_2)) (k2_pay7 (View.ld x4 r2_2)) (View.ld x2 r2_4))
    (k2_pay21 (jw i) lanes2 (k2_pay6 (View.ld x3 r2_2)) (k2_pay7 (View.ld x4 r2_2)) (View.ld x2 r2_4))
/-- The scratch after the third group. -/
def sC (i : grid2.Coords) (x0 : Vec F S512x6144 .bf16) (x1 : Vec F S6144x512 .fp8e4m3) (x2 : Vec F S512x512 .f32) (x3 : Vec F S512x112 .f32) (x4 : Vec F S512x112 .f32) (s : Vec F S512x112 .f32) : FVec F S512x112 .f32 :=
  k2_pay29 (k2_pay5 (View.ld x0 r2_0) (View.ld x1 r2_1)) (sB i x0 x1 x2 x3 x4 s) (k2_pay23 (jw i) lanes2) (k2_pay27 (jw i) lanes2 (k2_pay6 (View.ld x3 r2_2)) (k2_pay7 (View.ld x4 r2_2)) (View.ld x2 r2_5))
    (k2_pay28 (jw i) lanes2 (k2_pay6 (View.ld x3 r2_2)) (k2_pay7 (View.ld x4 r2_2)) (View.ld x2 r2_5))
/-- The fourth group's `u` less its in-range part. -/
def sK (i : grid2.Coords) (x0 : Vec F S512x6144 .bf16) (x1 : Vec F S6144x512 .fp8e4m3) (x2 : Vec F S512x512 .f32) (x3 : Vec F S512x112 .f32) (x4 : Vec F S512x112 .f32) : FVec F S512x128 .f32 :=
  k2_pay31 (jw i) lanes2 (k2_pay6 (View.ld x3 r2_2)) (k2_pay7 (View.ld x4 r2_2)) (View.ld x2 r2_6)
/-- The scratch after all four groups: what the point leaves in it. -/
def sD (i : grid2.Coords) (x0 : Vec F S512x6144 .bf16) (x1 : Vec F S6144x512 .fp8e4m3) (x2 : Vec F S512x512 .f32) (x3 : Vec F S512x112 .f32) (x4 : Vec F S512x112 .f32) (s : Vec F S512x112 .f32) : FVec F S512x112 .f32 :=
  k2_pay1 (sC i x0 x1 x2 x3 x4 s) (k2_pay30 (jw i) lanes2) (sK i x0 x1 x2 x3 x4) (k2_pay32 (k2_pay5 (View.ld x0 r2_0) (View.ld x1 r2_1))) (k2_pay33 (F := F))

/-- What the store of the scratch leaves, as a piece. -/
def sout2 (i : grid2.Coords) (x0 : Vec F S512x6144 .bf16) (x1 : Vec F S6144x512 .fp8e4m3) (x2 : Vec F S512x512 .f32) (x3 : Vec F S512x112 .f32) (x4 : Vec F S512x112 .f32) (s : Vec F S512x112 .f32) : Vec F S512x112 .f32 :=
  View.canon [⟨r2_2, k2_pay2 (sC i x0 x1 x2 x3 x4 s) (k2_pay30 (jw i) lanes2) (sK i x0 x1 x2 x3 x4) (k2_pay32 (k2_pay5 (View.ld x0 r2_0) (View.ld x1 r2_1))) (k2_pay33 (F := F))⟩]
/-- What the last point of a row block leaves in window 9's buffer (`dgamma`), -/
def out2_9 (i : grid2.Coords) (x0 : Vec F S512x6144 .bf16) (x1 : Vec F S6144x512 .fp8e4m3) (x2 : Vec F S512x512 .f32) (x3 : Vec F S512x112 .f32) (x4 : Vec F S512x112 .f32) (x5 : Vec F S512x112 .f32) (x6 : Vec F S512x112 .f32) (x7 : Vec F S512x112 .f32) (x8 : Vec F S512x112 .f32) (s : Vec F S512x112 .f32) : Vec F S512x112 .f32 :=
  View.canon [⟨r2_2, k2_pay3 (sC i x0 x1 x2 x3 x4 s) (k2_pay30 (jw i) lanes2) (sK i x0 x1 x2 x3 x4) (k2_pay32 (k2_pay5 (View.ld x0 r2_0) (View.ld x1 r2_1))) (k2_pay33 (F := F)) (View.ld x7 r2_2) (View.ld x5 r2_2)⟩]
/-- and in window 10's (`dbeta`). -/
def out2_10 (i : grid2.Coords) (x0 : Vec F S512x6144 .bf16) (x1 : Vec F S6144x512 .fp8e4m3) (x2 : Vec F S512x512 .f32) (x3 : Vec F S512x112 .f32) (x4 : Vec F S512x112 .f32) (x5 : Vec F S512x112 .f32) (x6 : Vec F S512x112 .f32) (x7 : Vec F S512x112 .f32) (x8 : Vec F S512x112 .f32) (s : Vec F S512x112 .f32) : Vec F S512x112 .f32 :=
  View.canon [⟨r2_2, k2_pay4 (sC i x0 x1 x2 x3 x4 s) (k2_pay30 (jw i) lanes2) (sK i x0 x1 x2 x3 x4) (k2_pay32 (k2_pay5 (View.ld x0 r2_0) (View.ld x1 r2_1))) (k2_pay33 (F := F)) (View.ld x8 r2_2) (View.ld x6 r2_2)⟩]

/-- A whole-buffer store covers the buffer. -/
theorem cover2 (p0 : Vec F S512x112 .f32) (y : S512x112.Idx) :
    ∃ pc ∈ ([⟨r2_2, p0⟩] : List (View.Piece (Elt F) S512x112 .f32)), y ∈ pc.1.set :=
  View.cover_of_tiled [⟨r2_2, p0⟩] S512x112.size (by rfl) y

theorem off_zero : ∀ a : Fin S512x112.rank, (![0, 0] : Fin 2 → ℕ) a = 0 := by decide

/-- The scratch is left at `sD`. -/
theorem sout2_eq (i : grid2.Coords) (x0 : Vec F S512x6144 .bf16) (x1 : Vec F S6144x512 .fp8e4m3) (x2 : Vec F S512x512 .f32) (x3 : Vec F S512x112 .f32) (x4 : Vec F S512x112 .f32) (s : Vec F S512x112 .f32) : sout2 i x0 x1 x2 x3 x4 s = sD i x0 x1 x2 x3 x4 s :=
  (View.canon_unit_zero (funext off_zero) _ _).trans (shapeCast_self _ _)

/-! ### The lanes -/

/-- The select of lane `4j + k` at the lane `y`: its word comparison, as numbers. -/
theorem pick_iff (i : grid2.Coords) (k : ℕ) (hk : k < 4) (y : S512x112.Idx) :
    IntOp.cmpi .eq (BitVec.ofNat 32 (y 1).val) (Scalar.addi (Scalar.muli (jw i) 4#32) (BitVec.ofNat 32 k)) = 1 ↔ (y 1).val = 4 * (i 1).val + k := by
  have hy : (y 1).val < 112 := (y 1).isLt
  have hi : (i 1).val < 28 := (i 1).isLt
  have e : (Scalar.addi (Scalar.muli (jw i) 4#32) (BitVec.ofNat 32 k)) = BitVec.ofNat 32 (4 * (i 1).val + k) := by
    apply BitVec.eq_of_toNat_eq
    simp only [Scalar.addi, Scalar.muli, IntOp.addi, IntOp.muli, jw, BitVec.toNat_add, BitVec.toNat_mul, BitVec.toNat_ofNat]
    omega
  rw [e]
  unfold IntOp.cmpi
  constructor
  · intro h
    have h' : (BitVec.ofNat 32 (y 1).val == BitVec.ofNat 32 (4 * (i 1).val + k)) = true := by
      revert h; cases (BitVec.ofNat 32 (y 1).val == BitVec.ofNat 32 (4 * (i 1).val + k)) <;> simp
    have h2 := congrArg BitVec.toNat (beq_iff_eq.mp h')
    simp only [BitVec.toNat_ofNat] at h2
    omega
  · intro h
    rw [h]; simp

theorem pickA (i : grid2.Coords) (y : S512x112.Idx) : k2_pay8 i y = 1 ↔ (y 1).val = 4 * (i 1).val + 0 := by
  rw [← pick_iff i 0 (by omega) y]
  unfold k2_pay8
  simp only [cmpi_apply, iota_apply, List.foldl_cons, List.foldl_nil, Nat.zero_mul, Nat.zero_add]; exact Iff.rfl
theorem pickB (i : grid2.Coords) (y : S512x112.Idx) : k2_pay15 (jw i) lanes2 y = 1 ↔ (y 1).val = 4 * (i 1).val + 1 := by
  rw [← pick_iff i 1 (by omega) y]
  unfold k2_pay15
  simp only [cmpi_apply, iota_apply, List.foldl_cons, List.foldl_nil, Nat.zero_mul, Nat.zero_add]; exact Iff.rfl
theorem pickC (i : grid2.Coords) (y : S512x112.Idx) : k2_pay23 (jw i) lanes2 y = 1 ↔ (y 1).val = 4 * (i 1).val + 2 := by
  rw [← pick_iff i 2 (by omega) y]
  unfold k2_pay23
  simp only [cmpi_apply, iota_apply, List.foldl_cons, List.foldl_nil, Nat.zero_mul, Nat.zero_add]; exact Iff.rfl
theorem pickD (i : grid2.Coords) (y : S512x112.Idx) : k2_pay30 (jw i) lanes2 y = 1 ↔ (y 1).val = 4 * (i 1).val + 3 := by
  rw [← pick_iff i 3 (by omega) y]
  unfold k2_pay30
  simp only [cmpi_apply, iota_apply, List.foldl_cons, List.foldl_nil, Nat.zero_mul, Nat.zero_add]; exact Iff.rfl

/-- Each of the four writes is a select: on its lane a value the scratch does not enter, elsewhere the scratch. -/
theorem sA_at (i : grid2.Coords) (x0 : Vec F S512x6144 .bf16) (x1 : Vec F S6144x512 .fp8e4m3) (x2 : Vec F S512x512 .f32) (x3 : Vec F S512x112 .f32) (x4 : Vec F S512x112 .f32) (y : S512x112.Idx) : ∃ v, ∀ s : Vec F S512x112 .f32,
    sA i x0 x1 x2 x3 x4 s y = if (y 1).val = 4 * (i 1).val + 0 then v else s y :=
  ⟨_, fun s => (if_congr (pickA i y) rfl (by rw [View.ld_unit_zero (funext off_zero)]))⟩
theorem sB_at (i : grid2.Coords) (x0 : Vec F S512x6144 .bf16) (x1 : Vec F S6144x512 .fp8e4m3) (x2 : Vec F S512x512 .f32) (x3 : Vec F S512x112 .f32) (x4 : Vec F S512x112 .f32) (y : S512x112.Idx) : ∃ v, ∀ s : Vec F S512x112 .f32,
    sB i x0 x1 x2 x3 x4 s y = if (y 1).val = 4 * (i 1).val + 1 then v else sA i x0 x1 x2 x3 x4 s y :=
  ⟨_, fun s => (if_congr (pickB i y) rfl rfl)⟩
theorem sC_at (i : grid2.Coords) (x0 : Vec F S512x6144 .bf16) (x1 : Vec F S6144x512 .fp8e4m3) (x2 : Vec F S512x512 .f32) (x3 : Vec F S512x112 .f32) (x4 : Vec F S512x112 .f32) (y : S512x112.Idx) : ∃ v, ∀ s : Vec F S512x112 .f32,
    sC i x0 x1 x2 x3 x4 s y = if (y 1).val = 4 * (i 1).val + 2 then v else sB i x0 x1 x2 x3 x4 s y :=
  ⟨_, fun s => (if_congr (pickC i y) rfl rfl)⟩
theorem sD_at (i : grid2.Coords) (x0 : Vec F S512x6144 .bf16) (x1 : Vec F S6144x512 .fp8e4m3) (x2 : Vec F S512x512 .f32) (x3 : Vec F S512x112 .f32) (x4 : Vec F S512x112 .f32) (y : S512x112.Idx) : ∃ v, ∀ s : Vec F S512x112 .f32,
    sD i x0 x1 x2 x3 x4 s y = if (y 1).val = 4 * (i 1).val + 3 then v else sC i x0 x1 x2 x3 x4 s y :=
  ⟨_, fun s => (if_congr (pickD i y) rfl rfl)⟩

/-- On the point's own four lanes what it leaves does not depend on the scratch; -/
theorem sD_own (i : grid2.Coords) (x0 : Vec F S512x6144 .bf16) (x1 : Vec F S6144x512 .fp8e4m3) (x2 : Vec F S512x512 .f32) (x3 : Vec F S512x112 .f32) (x4 : Vec F S512x112 .f32) (y : S512x112.Idx) (h : (y 1).val / 4 = (i 1).val) (s s' : Vec F S512x112 .f32) :
    sD i x0 x1 x2 x3 x4 s y = sD i x0 x1 x2 x3 x4 s' y := by
  obtain ⟨a, ha⟩ := sA_at i x0 x1 x2 x3 x4 y; obtain ⟨b, hb⟩ := sB_at i x0 x1 x2 x3 x4 y; obtain ⟨d, hd⟩ := sC_at i x0 x1 x2 x3 x4 y; obtain ⟨e, he⟩ := sD_at i x0 x1 x2 x3 x4 y
  rw [he, he, hd, hd, hb, hb, ha, ha]
  split_ifs <;> first | rfl | omega
/-- on every other lane it is the scratch. -/
theorem sD_other (i : grid2.Coords) (x0 : Vec F S512x6144 .bf16) (x1 : Vec F S6144x512 .fp8e4m3) (x2 : Vec F S512x512 .f32) (x3 : Vec F S512x112 .f32) (x4 : Vec F S512x112 .f32) (y : S512x112.Idx) (h : (y 1).val / 4 ≠ (i 1).val) (s : Vec F S512x112 .f32) :
    sD i x0 x1 x2 x3 x4 s y = s y := by
  obtain ⟨a, ha⟩ := sA_at i x0 x1 x2 x3 x4 y; obtain ⟨b, hb⟩ := sB_at i x0 x1 x2 x3 x4 y; obtain ⟨d, hd⟩ := sC_at i x0 x1 x2 x3 x4 y; obtain ⟨e, he⟩ := sD_at i x0 x1 x2 x3 x4 y
  rw [he, hd, hb, ha]
  split_ifs <;> first | rfl | omega

/-- The results depend on the scratch through `sD` alone. -/
theorem out2_9_congr (i : grid2.Coords) (x0 : Vec F S512x6144 .bf16) (x1 : Vec F S6144x512 .fp8e4m3) (x2 : Vec F S512x512 .f32) (x3 : Vec F S512x112 .f32) (x4 : Vec F S512x112 .f32) (x5 : Vec F S512x112 .f32) (x6 : Vec F S512x112 .f32) (x7 : Vec F S512x112 .f32) (x8 : Vec F S512x112 .f32) (s s' : Vec F S512x112 .f32) (h : sD i x0 x1 x2 x3 x4 s = sD i x0 x1 x2 x3 x4 s') :
    out2_9 i x0 x1 x2 x3 x4 x5 x6 x7 x8 s = out2_9 i x0 x1 x2 x3 x4 x5 x6 x7 x8 s' := by
  unfold out2_9 k2_pay3; unfold sD at h; rw [h]
theorem out2_10_congr (i : grid2.Coords) (x0 : Vec F S512x6144 .bf16) (x1 : Vec F S6144x512 .fp8e4m3) (x2 : Vec F S512x512 .f32) (x3 : Vec F S512x112 .f32) (x4 : Vec F S512x112 .f32) (x5 : Vec F S512x112 .f32) (x6 : Vec F S512x112 .f32) (x7 : Vec F S512x112 .f32) (x8 : Vec F S512x112 .f32) (s s' : Vec F S512x112 .f32) (h : sD i x0 x1 x2 x3 x4 s = sD i x0 x1 x2 x3 x4 s') :
    out2_10 i x0 x1 x2 x3 x4 x5 x6 x7 x8 s = out2_10 i x0 x1 x2 x3 x4 x5 x6 x7 x8 s' := by
  unfold out2_10 k2_pay4; unfold sD at h; rw [h]

/-! ## The body's triples -/

set_option maxHeartbeats 1000000 in
/-- The body at a point that does not close a row block: the inputs as they were, the scratch from `s` to `sout2` of `s` (the results untouched). -/
theorem sound_kernel2_B (c : Dev nD) (E : Set ℕ) (i : grid2.Coords) (arg2 : Memref sig .tc .vmem S512x6144 .bf16) (harg2 : arg2.IsWhole) (arg3 : Memref sig .tc .vmem S6144x512 .fp8e4m3) (harg3 : arg3.IsWhole) (arg4 : Memref sig .tc .vmem S512x512 .f32) (harg4 : arg4.IsWhole) (arg5 : Memref sig .tc .vmem S512x112 .f32) (harg5 : arg5.IsWhole) (arg6 : Memref sig .tc .vmem S512x112 .f32) (harg6 : arg6.IsWhole) (arg7 : Memref sig .tc .vmem S512x112 .f32) (harg7 : arg7.IsWhole) (arg8 : Memref sig .tc .vmem S512x112 .f32) (harg8 : arg8.IsWhole) (arg9 : Memref sig .tc .vmem S512x112 .f32) (harg9 : arg9.IsWhole) (arg10 : Memref sig .tc .vmem S512x112 .f32) (harg10 : arg10.IsWhole) (arg11 : Memref sig .tc .vmem S512x112 .f32) (harg11 : arg11.IsWhole) (arg12 : Memref sig .tc .vmem S512x112 .f32) (harg12 : arg12.IsWhole) (arg13 : Memref sig .tc .vmem S512x112 .f32) (harg13 : arg13.IsWhole) (hc : ¬ (k2_cond1 i = 1#1))
    (x0 : Vec F S512x6144 .bf16) (x1 : Vec F S6144x512 .fp8e4m3) (x2 : Vec F S512x512 .f32) (x3 : Vec F S512x112 .f32) (x4 : Vec F S512x112 .f32) (x5 : Vec F S512x112 .f32) (x6 : Vec F S512x112 .f32) (x7 : Vec F S512x112 .f32) (x8 : Vec F S512x112 .f32) (s : Vec F S512x112 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg13 fullShare s ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg13 fullShare (sout2 i x0 x1 x2 x3 x4 s)) -∗ K ⟨⟩))
      ⊢ wp frame (wpE (defs₀ (F := F)) Variants.none c none) E (cc2_lwc_bwd i arg2 harg2 arg3 harg3 arg4 harg4 arg5 harg5 arg6 harg6 arg7 harg7 arg8 harg8 arg9 harg9 arg10 harg10 arg11 harg11 arg12 harg12 arg13 harg13) K := by
  simp only [cc2_lwc_bwd_eq_skeleton]; unfold cc2_lwc_bwd_skel
  simp only [k2_part1_eq_skeleton, k2_part2_eq_skeleton, k2_part3_eq_skeleton, k2_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs, %hfs, HS⟩, Hk⟩
  subst hf0 hf1 hf2 hf3 hf4 hf5 hf6 hf7 hf8 hfs
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact HS
  ipureintro
  refine (View.read_writes_eq_canon _ _ _ (cover2 _)).trans ?_
  rfl

set_option maxHeartbeats 1000000 in
/-- The body at a point that closes a row block: the inputs as they were, the scratch from `s` to `sout2` of `s`, the results stored. -/
theorem sound_kernel2_C (c : Dev nD) (E : Set ℕ) (i : grid2.Coords) (arg2 : Memref sig .tc .vmem S512x6144 .bf16) (harg2 : arg2.IsWhole) (arg3 : Memref sig .tc .vmem S6144x512 .fp8e4m3) (harg3 : arg3.IsWhole) (arg4 : Memref sig .tc .vmem S512x512 .f32) (harg4 : arg4.IsWhole) (arg5 : Memref sig .tc .vmem S512x112 .f32) (harg5 : arg5.IsWhole) (arg6 : Memref sig .tc .vmem S512x112 .f32) (harg6 : arg6.IsWhole) (arg7 : Memref sig .tc .vmem S512x112 .f32) (harg7 : arg7.IsWhole) (arg8 : Memref sig .tc .vmem S512x112 .f32) (harg8 : arg8.IsWhole) (arg9 : Memref sig .tc .vmem S512x112 .f32) (harg9 : arg9.IsWhole) (arg10 : Memref sig .tc .vmem S512x112 .f32) (harg10 : arg10.IsWhole) (arg11 : Memref sig .tc .vmem S512x112 .f32) (harg11 : arg11.IsWhole) (arg12 : Memref sig .tc .vmem S512x112 .f32) (harg12 : arg12.IsWhole) (arg13 : Memref sig .tc .vmem S512x112 .f32) (harg13 : arg13.IsWhole) (hc : (k2_cond1 i = 1#1))
    (x0 : Vec F S512x6144 .bf16) (x1 : Vec F S6144x512 .fp8e4m3) (x2 : Vec F S512x512 .f32) (x3 : Vec F S512x112 .f32) (x4 : Vec F S512x112 .f32) (x5 : Vec F S512x112 .f32) (x6 : Vec F S512x112 .f32) (x7 : Vec F S512x112 .f32) (x8 : Vec F S512x112 .f32) (s : Vec F S512x112 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ owns (c : Thread nD τ) arg13 fullShare s ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare (out2_9 i x0 x1 x2 x3 x4 x5 x6 x7 x8 s) ∗ owns (c : Thread nD τ) arg12 fullShare (out2_10 i x0 x1 x2 x3 x4 x5 x6 x7 x8 s) ∗ owns (c : Thread nD τ) arg13 fullShare (sout2 i x0 x1 x2 x3 x4 s)) -∗ K ⟨⟩))
      ⊢ wp frame (wpE (defs₀ (F := F)) Variants.none c none) E (cc2_lwc_bwd i arg2 harg2 arg3 harg3 arg4 harg4 arg5 harg5 arg6 harg6 arg7 harg7 arg8 harg8 arg9 harg9 arg10 harg10 arg11 harg11 arg12 harg12 arg13 harg13) K := by
  simp only [cc2_lwc_bwd_eq_skeleton]; unfold cc2_lwc_bwd_skel
  simp only [k2_part1_eq_skeleton, k2_part2_eq_skeleton, k2_part3_eq_skeleton, k2_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%fs, %hfs, HS⟩, Hk⟩
  subst hf0 hf1 hf2 hf3 hf4 hf5 hf6 hf7 hf8 hfs
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    refine (View.read_writes_eq_canon _ _ _ (cover2 _)).trans ?_
    rfl
  isplitl [H10]
  · iexists _; isplitr
    swap; · iexact H10
    ipureintro
    refine (View.read_writes_eq_canon _ _ _ (cover2 _)).trans ?_
    rfl
  iexists _; isplitr
  swap; · iexact HS
  ipureintro
  refine (View.read_writes_eq_canon _ _ _ (cover2 _)).trans ?_
  rfl

/-! ## The carried scratch -/

/-- The scratch operand as the body is handed it. -/
abbrev scM2 : Memref sig .tc .vmem S512x112 .f32 := Memref.whole cc2_scratch0

/-- The row sums after `n` points, started from arbitrary contents: on the lanes a row block has written, what the
    scratch holds (`Good`). -/
def sdet (c : Dev nD) : ℕ → Vec F S512x112 .f32
  | 0 => fun _ => Scalar.ofBits .f32 0x00000000#32
  | n + 1 => if h : n < cfg2.N then
      let t : Fin cfg2.N := ⟨n, h⟩
      sD (grid2.coords t) (iblk2 V c 0 t) (iblk2 V c 1 t) (iblk2 V c 2 t) (iblk2 V c 3 t) (iblk2 V c 4 t) (sdet c n)
    else sdet c n
theorem sdet_succ (c : Dev nD) (t : Fin cfg2.N) :
    sdet V c (t.val + 1) = sD (grid2.coords t) (iblk2 V c 0 t) (iblk2 V c 1 t) (iblk2 V c 2 t) (iblk2 V c 3 t) (iblk2 V c 4 t) (sdet V c t.val) := by
  rw [sdet]; exact dif_pos t.isLt

/-- `s` agrees with the tracked contents on the lanes the current row block has written so far. -/
def Good (c : Dev nD) (n : ℕ) (s : Vec F S512x112 .f32) : Prop := ∀ y : S512x112.Idx, (y 1).val < 4 * (n % 28) → s y = sdet V c n y

theorem coords2_1 (t : Fin cfg2.N) : (grid2.coords t 1).val = t.val % 28 := by
  have e : (grid2.coords t 1).val = t.val / 1 % 28 := Pipeline.Grid.coords_val t 1 (by decide) rfl
  rw [e, Nat.div_one]

/-- The agreement before a point gives it on four lanes more after it, -/
theorem Good.lanes {c : Dev nD} (t : Fin cfg2.N) {s : Vec F S512x112 .f32} (h : Good V c t.val s) (y : S512x112.Idx) (hy : (y 1).val < 4 * (t.val % 28 + 1)) :
    sD (grid2.coords t) (iblk2 V c 0 t) (iblk2 V c 1 t) (iblk2 V c 2 t) (iblk2 V c 3 t) (iblk2 V c 4 t) s y = sdet V c (t.val + 1) y := by
  rw [sdet_succ]
  by_cases hj : (y 1).val / 4 = (grid2.coords t 1).val
  · exact sD_own _ _ _ _ _ _ y hj _ _
  · rw [sD_other _ _ _ _ _ _ y hj, sD_other _ _ _ _ _ _ y hj]
    rw [coords2_1] at hj
    exact h y (by omega)
/-- so it is kept by the point, -/
theorem Good.succ {c : Dev nD} (t : Fin cfg2.N) {s : Vec F S512x112 .f32} (h : Good V c t.val s) :
    Good V c (t.val + 1) (sD (grid2.coords t) (iblk2 V c 0 t) (iblk2 V c 1 t) (iblk2 V c 2 t) (iblk2 V c 3 t) (iblk2 V c 4 t) s) := by
  intro y hy
  exact Good.lanes V t h y (by omega)
/-- and at the last point of a row block every lane agrees. -/
theorem Good.full {c : Dev nD} (t : Fin cfg2.N) (ht : t.val % 28 = 27) {s : Vec F S512x112 .f32} (h : Good V c t.val s) :
    sD (grid2.coords t) (iblk2 V c 0 t) (iblk2 V c 1 t) (iblk2 V c 2 t) (iblk2 V c 3 t) (iblk2 V c 4 t) s = sD (grid2.coords t) (iblk2 V c 0 t) (iblk2 V c 1 t) (iblk2 V c 2 t) (iblk2 V c 3 t) (iblk2 V c 4 t) (sdet V c t.val) := by
  funext y
  have := Good.lanes V t h y (by have : (y 1).val < 112 := (y 1).isLt; omega)
  rw [this, sdet_succ]
/-- Before a row block's first point nothing is asked. -/
theorem Good.start {c : Dev nD} (s : Vec F S512x112 .f32) : Good V c 0 s := fun y hy => absurd hy (by omega)

/-- The scratch's invariant: some contents that agree with the tracked ones where written; the rest of the scoped
    memory and the generator register untouched. -/
def Phi2 (c : Dev nD) (n : ℕ) : sProp 𝕄 :=
  iprop(((∃ s, ⌜Good V c n s⌝ ∗ owns (c : Thread nD τ) scM2 fullShare s)
    ∗ Pipeline.scopedRestBut (Ix := Unit) (Name := ℕ) (U := UR sig nD τ) (Lvl := ℕ) (Val := Elt F) spec2 c [cc2_scratch0]) ∗ (∃ r, prngReg c r))

theorem PhiA2_eq (c : Dev nD) :
    (Pipeline.ΦA spec2 c : sProp 𝕄)
      = iprop(((∃ d, owns (c : Thread nD τ) scM2 fullShare d)
          ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scM2, owns_whole]; try rfl

/-- What the launch hands the region is the invariant before the first point, -/
theorem hin2 (c : Dev nD) : (Pipeline.ΦA spec2 c : sProp 𝕄) ⊢ Phi2 V c 0 := by
  rw [PhiA2_eq]; unfold Phi2
  iintro ⟨⟨⟨%d, HS⟩, HR⟩, Hg⟩
  isplitr [Hg]
  · isplitl [HS]
    · iexists d; isplitr; · ipureintro; exact Good.start V d
      iexact HS
    iexact HR
  iexact Hg
/-- and after any point the invariant gives it back. -/
theorem hout2 (c : Dev nD) (n : ℕ) : Phi2 V c n ⊢ (Pipeline.ΦA spec2 c : sProp 𝕄) := by
  rw [PhiA2_eq]; unfold Phi2
  iintro ⟨⟨⟨%d, -, HS⟩, HR⟩, Hg⟩
  isplitr [Hg]
  · isplitl [HS]
    · iexists d; iexact HS
    iexact HR
  iexact Hg

/-! ## Where the result windows are idle -/

theorem cond2_iff (t : Fin cfg2.N) : k2_cond1 (grid2.coords t) = 1#1 ↔ t.val % 28 = 27 := by
  have ht : t.val < 224 := Nat.lt_of_lt_of_eq t.isLt N_2
  have e1 : (grid2.coords t 1).val = t.val / 1 % 28 := Pipeline.Grid.coords_val t 1 (by decide) rfl
  simp only [k2_cond1, e1]
  word_cmp
theorem idle2_9 (t : Fin cfg2.N) (h : ¬ t.val % 28 = 27) : cfg2.idle 9 (cfg2.grid.coords t) = true := by
  show (!(k2_cond1 (grid2.coords t) == 1#1)) = true
  rw [Bool.not_eq_true', beq_eq_false_iff_ne]; exact fun e => h ((cond2_iff t).mp e)
theorem idle2_10 (t : Fin cfg2.N) (h : ¬ t.val % 28 = 27) : cfg2.idle 10 (cfg2.grid.coords t) = true := idle2_9 t h
theorem live2_9 (t : Fin cfg2.N) (h : t.val % 28 = 27) : cfg2.idle 9 (cfg2.grid.coords t) = false := by
  show (!(k2_cond1 (grid2.coords t) == 1#1)) = false
  rw [(cond2_iff t).mpr h]; rfl
theorem live2_10 (t : Fin cfg2.N) (h : t.val % 28 = 27) : cfg2.idle 10 (cfg2.grid.coords t) = false := live2_9 t h
theorem noflush2_9 (t : Fin cfg2.N) (h : ¬ t.val % 28 = 27) : (cfg2.win 9).flush t = false := by
  rw [Bool.eq_false_iff]; exact fun e => h ((flush2_9 t).mp e)
theorem noflush2_10 (t : Fin cfg2.N) (h : ¬ t.val % 28 = 27) : (cfg2.win 10).flush t = false := by
  rw [Bool.eq_false_iff]; exact fun e => h ((flush2_10 t).mp e)

/-- The proof data of pipeline 2 on core `c`: the arrays as the region finds them (`V`); after the body at
    point `t` each input's buffer at its block and each output's at `out2_W` of the input blocks; the invariant
    the scratch's (`Phi2`); nothing owed;
    full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => out2_9 (grid2.coords t) (iblk2 V c 0 t) (iblk2 V c 1 t) (iblk2 V c 2 t) (iblk2 V c 3 t) (iblk2 V c 4 t) (iblk2 V c 5 t) (iblk2 V c 6 t) (iblk2 V c 7 t) (iblk2 V c 8 t) (sdet V c t.val)
    | ⟨10, _⟩ => out2_10 (grid2.coords t) (iblk2 V c 0 t) (iblk2 V c 1 t) (iblk2 V c 2 t) (iblk2 V c 3 t) (iblk2 V c 4 t) (iblk2 V c 5 t) (iblk2 V c 6 t) (iblk2 V c 7 t) (iblk2 V c 8 t) (sdet V c t.val)
  Φ t := Phi2 V c t.val
  q _ := fullShare
  owed _ := 0

/-- The proof data's arrays are the region-entry contents, by projecting the definition (`dsimp`): a region record cites
    this for its arrays rather than have Lean unfold `V`, the fold through @main up to the region's entry. -/
theorem A_eq2 (c : Dev nD) (w : Fin cfg2.W) : (dat2 V c).A w = V c (Pipeline.arrRef spec2 w) := by
  dsimp only [dat2]

/-- What the body leaves, window by window (the proof data's `match` reduced by `dsimp`, never `rfl`: Lib/Pipeline.lean `Dat`). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = iblk2 V c 8 t := by dsimp only [dat2]
theorem after2_9 (c : Dev nD) (t : Fin cfg2.N) : (dat2 V c).after 9 t = out2_9 (grid2.coords t) (iblk2 V c 0 t) (iblk2 V c 1 t) (iblk2 V c 2 t) (iblk2 V c 3 t) (iblk2 V c 4 t) (iblk2 V c 5 t) (iblk2 V c 6 t) (iblk2 V c 7 t) (iblk2 V c 8 t) (sdet V c t.val) := by dsimp only [dat2]
theorem after2_10 (c : Dev nD) (t : Fin cfg2.N) : (dat2 V c).after 10 t = out2_10 (grid2.coords t) (iblk2 V c 0 t) (iblk2 V c 1 t) (iblk2 V c 2 t) (iblk2 V c 3 t) (iblk2 V c 4 t) (iblk2 V c 5 t) (iblk2 V c 6 t) (iblk2 V c 7 t) (iblk2 V c 8 t) (sdet V c t.val) := by dsimp only [dat2]

/-- Each input's current staging buffer holds its block at every point, fetched there or not (`beforeK_W_of`). -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d
theorem before2_8 (c : Dev nD) (t : Fin cfg2.N) (d) : (dat2 V c).before 8 t d = iblk2 V c 8 t :=
  before2_8_of V (dat2 V c) (A_eq2 V c 8) (after2_8 V c) t d

/-! ## The body obligation, at a generic point -/

/-- What the body is called with at point `t` (Lib/Pipeline.lean `BodyObligation`'s precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d))
    ∗ (∃ d, owns (c : Thread nD τ) (st2_10 t) fullShare ((dat2 V c).before 10 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t)
    ∗ (dat2 V c).leavesExact 9 t
    ∗ (dat2 V c).leavesExact 10 t)

/-- The body at any point: the inputs' memrefs hold their blocks (`before2_W`), so the triples apply; the scratch's
    invariant is carried by `Good`. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8]
  rw [show (dat2 V c).Φ t.succ = Phi2 V c (t.val + 1) from rfl, show (dat2 V c).Φ t.castSucc = Phi2 V c t.val from rfl,
    show (dat2 V c).owesAt () t.succ = (dat2 V c).owesAt () t.castSucc from rfl,
    after2_0, after2_1, after2_2, after2_3, after2_4, after2_5, after2_6, after2_7, after2_8]
  unfold Phi2
  by_cases h : t.val % 28 = 27
  · rw [show (dat2 V c).leavesExact 9 t = owns (c : Thread nD τ) (st2_9 t) fullShare ((dat2 V c).after 9 t) from by
        unfold Dat.leavesExact; rw [live2_9 t h],
      show (dat2 V c).leavesExact 10 t = owns (c : Thread nD τ) (st2_10 t) fullShare ((dat2 V c).after 10 t) from by
        unfold Dat.leavesExact; rw [live2_10 t h], after2_9, after2_10]
    iintro ⟨⟨⟨⟨%s, %hs, HS⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (sound_kernel2_C c Set.univ (grid2.coords t) _ _ _ _ _ _ _ _ _ _ _ _ _ _ _ _ _ _ _ _ _ _ _ _ ((cond2_iff t).mpr h) (iblk2 V c 0 t) (iblk2 V c 1 t) (iblk2 V c 2 t) (iblk2 V c 3 t) (iblk2 V c 4 t) (iblk2 V c 5 t) (iblk2 V c 6 t) (iblk2 V c 7 t) (iblk2 V c 8 t) s _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [HS]; · iexact HS
    rw [out2_9_congr (grid2.coords t) (iblk2 V c 0 t) (iblk2 V c 1 t) (iblk2 V c 2 t) (iblk2 V c 3 t) (iblk2 V c 4 t) (iblk2 V c 5 t) (iblk2 V c 6 t) (iblk2 V c 7 t) (iblk2 V c 8 t) s (sdet V c t.val) (Good.full V t h hs), out2_10_congr (grid2.coords t) (iblk2 V c 0 t) (iblk2 V c 1 t) (iblk2 V c 2 t) (iblk2 V c 3 t) (iblk2 V c 4 t) (iblk2 V c 5 t) (iblk2 V c 6 t) (iblk2 V c 7 t) (iblk2 V c 8 t) s (sdet V c t.val) (Good.full V t h hs)]
    iintro ⟨H0, H1, H2, H3, H4, H5, H6, H7, H8, H9, H10, HS⟩
    isplitl [HS HR Hg]
    · isplitr [Hg]
      · isplitl [HS]
        · iexists (sout2 (grid2.coords t) (iblk2 V c 0 t) (iblk2 V c 1 t) (iblk2 V c 2 t) (iblk2 V c 3 t) (iblk2 V c 4 t) s); isplitr
          · ipureintro; rw [sout2_eq]; exact Good.succ V t hs
          iexact HS
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · rw [(dat2 V c).leavesExact_idle 9 t (idle2_9 t h) (noflush2_9 t h), (dat2 V c).leavesExact_idle 10 t (idle2_10 t h) (noflush2_10 t h)]
    iintro ⟨⟨⟨⟨%s, %hs, HS⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, H9, H10⟩
    iapply (sound_kernel2_B c Set.univ (grid2.coords t) _ _ _ _ _ _ _ _ _ _ _ _ _ _ _ _ _ _ _ _ _ _ _ _ (fun e => h ((cond2_iff t).mp e)) (iblk2 V c 0 t) (iblk2 V c 1 t) (iblk2 V c 2 t) (iblk2 V c 3 t) (iblk2 V c 4 t) (iblk2 V c 5 t) (iblk2 V c 6 t) (iblk2 V c 7 t) (iblk2 V c 8 t) s _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HS]; · iexact HS
    iintro ⟨H0, H1, H2, H3, H4, H5, H6, H7, H8, HS⟩
    isplitl [HS HR Hg]
    · isplitr [Hg]
      · isplitl [HS]
        · iexists (sout2 (grid2.coords t) (iblk2 V c 0 t) (iblk2 V c 1 t) (iblk2 V c 2 t) (iblk2 V c 3 t) (iblk2 V c 4 t) s); isplitr
          · ipureintro; rw [sout2_eq]; exact Good.succ V t hs
          iexact HS
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

/-- The body table's row at point `t`'s slots is the body as `bodyAt2` spells it. -/
theorem defs₀_row2 (t : Fin cfg2.N) :
    defs₀ (F := F) .tc cfg2.body (cfg2.bodyArgs t (cfg2.slots t)) = bodyAt2 t := by
  unfold defs₀; rw [Defs.onTc_tc]

/-- The library's body obligation, at every point: the body's triple restated (Lib/Pipeline/FrameBody.lean `triple_restated`). -/
theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

/-- The invariant at the ends, as the region hands it over. -/
theorem datPhi2_in (c : Dev nD) (V : (c : Dev nD) → (b : Ref sig .tc) → Buf (Elt F) ((c : Thread nD τ).loc b)) : (Pipeline.ΦA spec2 c : sProp 𝕄) ⊢ (dat2 V c).Φ 0 := hin2 V c
theorem datPhi2_out (c : Dev nD) (V : (c : Dev nD) → (b : Ref sig .tc) → Buf (Elt F) ((c : Thread nD τ).loc b)) (t : Fin (cfg2.N + 1)) : (dat2 V c).Φ t ⊢ (Pipeline.ΦA spec2 c : sProp 𝕄) := hout2 V c _

end Cert.Kernel.Run

end
-- ==== Proof.KernelRun.lean ====
/- The whole program: its three calls and the host operations between them as one chain of segments, and its run
   from any memory. The text follows the library's certificate of a program with several regions. -/
module

public import proofs.«01_k».proof.Proof.Gen.Kernel.Launch
public import proofs.«01_k».proof.Proof.Gen.Kernel.Skeleton
public import proofs.«01_k».proof.Proof.Gen.Kernel.Points
public import proofs.«01_k».proof.Proof.Gen.Kernel.Loops
public import proofs.«01_k».proof.Proof.KernelQuant
public import proofs.«01_k».proof.Proof.KernelFwd
public import proofs.«01_k».proof.Proof.KernelBwd
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

-- membership in a rectangle of production extents (`View.cover_of_tiled`): the elaborator's structural look
-- recurses once per coordinate of the long axes
set_option maxRecDepth 16384

noncomputable section

namespace Cert.Kernel.Run

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2, main_arg3, main_arg4, main_arg5]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1, main_v2]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps3` allocates a buffer. -/
theorem hostOps3_fresh : (hostOps3 : List (HloOp τ sig (Elt F))).Forall fun op => op.fresh = ∅ := by
  simp only [List.Forall]; repeat' constructor
/-- The reference each operation of `hostOps3` writes, in order. -/
abbrev hostOps3_W : List (Ref sig .tc) := [main_cst, main_v6, main_cst_0, main_v7]
theorem hostOps3_writes : (hostOps3 : List (HloOp τ sig (Elt F))).Forall fun op => op.writes ⊆ (hostOps3_W.map (Proc.devRef (τ := τ) .tc)).toFinset :=
  StableHlo.forall_writes_sub_of_map rfl
/-- `hostOps3` writes none of the argument arrays (checked: each argument against each reference it writes). -/
theorem hostOps3_args : ∀ a ∈ argRefs, a ∉ hostOps3_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`) (region 1's entry). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what the pipeline leaves (the inputs as entered, each output's write-backs
    folded: `Dat.arrAt … N`), every other buffer as entered (Lib/Pipeline/FrameSuffix.lean `withArrays`) (region 2's entry). -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- A reference that is none of region 1's OUTPUT arrays keeps its entry contents across it: an input window's
    array is never written back (`Dat.arrAt_in`, `A_eq1`); any other buffer is left as is. -/
theorem W3_of (c : Dev nD) (r : Ref sig .tc) (h : ∀ w : Fin cfg1.W, Pipeline.arrRef spec1 w = r → (cfg1.win w).isOut = false) :
    W3 m ρ c (Proc.devRef .tc r) = W2 m ρ c (Proc.devRef .tc r) := by
  by_cases hw : ∃ w : Fin cfg1.W, Pipeline.arrRef spec1 w = r
  · obtain ⟨w, rfl⟩ := hw
    exact (W3_arr m ρ c w).trans (((dat1 (V2 m ρ) c).arrAt_in w (h w rfl) _).trans (A_eq1 (V2 m ρ) c w))
  · exact W3_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W3_args (c : Dev nD) : ∀ a ∈ argRefs, W3 m ρ c (Proc.devRef .tc a) = m ((c : Thread nD τ).loc a) :=
  fun a ha => (W3_of m ρ c a (argsIn1 a ha)).trans (W2_args m ρ c a ha)
/-- The same read at the TensorCore's references (region 1's exit contents). -/
abbrev V3 : (c : Dev nD) → (b : Ref sig .tc) → Buf (Elt F) ((c : Thread nD τ).loc b) := fun c b => W3 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- At region 2's exit: its arrays at what the pipeline leaves (the inputs as entered, each output's write-backs
    folded: `Dat.arrAt … N`), every other buffer as entered (Lib/Pipeline/FrameSuffix.lean `withArrays`). -/
def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
/-- A reference that is none of region 2's OUTPUT arrays keeps its entry contents across it: an input window's
    array is never written back (`Dat.arrAt_in`, `A_eq2`); any other buffer is left as is. -/
theorem W4_of (c : Dev nD) (r : Ref sig .tc) (h : ∀ w : Fin cfg2.W, Pipeline.arrRef spec2 w = r → (cfg2.win w).isOut = false) :
    W4 m ρ c (Proc.devRef .tc r) = W3 m ρ c (Proc.devRef .tc r) := by
  by_cases hw : ∃ w : Fin cfg2.W, Pipeline.arrRef spec2 w = r
  · obtain ⟨w, rfl⟩ := hw
    exact (W4_arr m ρ c w).trans (((dat2 (V3 m ρ) c).arrAt_in w (h w rfl) _).trans (A_eq2 (V3 m ρ) c w))
  · exact W4_of_ne m ρ c r fun w e => hw ⟨w, e⟩
/-- Every argument among region 2's arrays is an input window's (checked: each argument against each window). -/
theorem argsIn2 : ∀ a ∈ argRefs, ∀ w : Fin cfg2.W, Pipeline.arrRef spec2 w = a → (cfg2.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn2 a ha)).trans (W3_args m ρ c a ha)
/-- The same read at the TensorCore's references (region 2's exit contents). -/
abbrev V4 : (c : Dev nD) → (b : Ref sig .tc) → Buf (Elt F) ((c : Thread nD τ).loc b) := fun c b => W4 m ρ c b
/-- At region 2's exit each of its arrays holds what the pipeline leaves (`hF2`) and every other buffer what it
    held at entry (`hrest2`): the two hypotheses of Lib/Pipeline/RegionsLoop.lean `unscopedBufs_of_arrays`. -/
theorem hF2 (c : Dev nD) (w : Fin cfg2.W) : (dat2 (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

/-- After `hostOps3`. -/
abbrev W5 : Dev nD → Valuation τ sig (Elt F) := fun c => StableHlo.after hostOps3 (W4 m ρ c)
/-- A reference `hostOps3` does not write keeps its contents across it. -/
theorem W5_of (c : Dev nD) (r : Ref sig .tc) (h : r ∉ hostOps3_W) : W5 m ρ c (Proc.devRef .tc r) = W4 m ρ c (Proc.devRef .tc r) :=
  StableHlo.after_of_writes_sub hostOps3 _ hostOps3_writes h
theorem W5_args (c : Dev nD) : ∀ a ∈ argRefs, W5 m ρ c (Proc.devRef .tc a) = m ((c : Thread nD τ).loc a) :=
  fun a ha => (W5_of m ρ c a (hostOps3_args a ha)).trans (W4_args m ρ c a ha)

/-! ### The arguments end as launched: no host stretch writes one and no region may change one (a region reads it
    through an input window or bypasses it) -/

theorem W5_main_arg0 (c : Dev nD) : W5 m ρ c (Proc.devRef .tc main_arg0) = m ((c : Thread nD τ).loc main_arg0) :=
  W5_args m ρ c main_arg0 (by decide)
theorem W5_main_arg1 (c : Dev nD) : W5 m ρ c (Proc.devRef .tc main_arg1) = m ((c : Thread nD τ).loc main_arg1) :=
  W5_args m ρ c main_arg1 (by decide)
theorem W5_main_arg2 (c : Dev nD) : W5 m ρ c (Proc.devRef .tc main_arg2) = m ((c : Thread nD τ).loc main_arg2) :=
  W5_args m ρ c main_arg2 (by decide)
theorem W5_main_arg3 (c : Dev nD) : W5 m ρ c (Proc.devRef .tc main_arg3) = m ((c : Thread nD τ).loc main_arg3) :=
  W5_args m ρ c main_arg3 (by decide)
theorem W5_main_arg4 (c : Dev nD) : W5 m ρ c (Proc.devRef .tc main_arg4) = m ((c : Thread nD τ).loc main_arg4) :=
  W5_args m ρ c main_arg4 (by decide)
theorem W5_main_arg5 (c : Dev nD) : W5 m ρ c (Proc.devRef .tc main_arg5) = m ((c : Thread nD τ).loc main_arg5) :=
  W5_args m ρ c main_arg5 (by decide)

/-! ## The proof data family and the thread state -/

/-- The prefetched tables' admissible contents: no pipeline has a table. -/
abbrev adm : (p : Fin 3) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W5`, the generator register at some state. -/
abbrev Tₙ (c : Dev nD) : sProp 𝕄 := iprop(StableHlo.held (c : Thread nD τ) (Pipeline.ucRefs τ sig) (W5 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W2`, left at `W3`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) (A_eq1 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 2 (custom_call 2) over the thread state: entered from every unscoped buffer at `W3`, left at `W4`
    (what the next segment is entered from). Its arrays split out of the unscoped buffers
    (`arrays_of_unscopedBufs`) and put back at the exit contents (`unscopedBufs_of_arrays`); the generator register into the
    class invariant `ΦA` and out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) (A_eq2 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (datPhi2_in c (V3 m ρ))
    unfold Pipeline.ΦA
    iintro ⟨Hp, -, Hr⟩
    isplitl [Hr]; · iexact Hr
    iexact Hp
  hout c := by
    rw [Pipeline.ownSems0_none]
    refine BIBase.Entails.trans (datPhi2_out c (V3 m ρ) (Fin.last _)) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 5 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .region (reg2 m ρ),
    .host (hseg hostOps3 hostOps3_sub hostOps3_fresh (W4 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- THE RUN: at the compiled mesh, from any memory with zero counters, every weakly fair execution of @main on the
    TensorCores terminates, nothing faulting, and every final state has every unscoped buffer at `W5` and every semaphore
    counter of the machine at zero: the kit's launch over the segments, the last thread state read against the final state
    (`pointsTo_read_all`). -/
theorem run : θ_run defs (onTc (τ := τ) (main (F := F))) ⟨m, fun _ => 0, ρ⟩ (fun r => (∀ c : Dev nD,
      ∀ b ∈ Pipeline.ucRefs τ sig, r.2.mem (((c : Thread nD τ)).1, b) = W5 m ρ c b)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨h, funext fun g => hz g (.inr (no_unscoped g.2))⟩)

/-- THE FRAME: `Cert.quiescent_Kernel`'s statement (Defs.lean) at any `F`: the arguments end unchanged, every semaphore
    counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨(fun c =>
      ⟨(h.1 c _ (mem_uc main_arg0 (by decide))).trans (W5_main_arg0 m ρ c),
       (h.1 c _ (mem_uc main_arg1 (by decide))).trans (W5_main_arg1 m ρ c),
       (h.1 c _ (mem_uc main_arg2 (by decide))).trans (W5_main_arg2 m ρ c),
       (h.1 c _ (mem_uc main_arg3 (by decide))).trans (W5_main_arg3 m ρ c),
       (h.1 c _ (mem_uc main_arg4 (by decide))).trans (W5_main_arg4 m ρ c),
       (h.1 c _ (mem_uc main_arg5 (by decide))).trans (W5_main_arg5 m ρ c)⟩), h.2⟩) (run m ρ)

end Cert.Kernel.Run

end
-- ==== Proof.KernelIdealQuant.lean ====
/- The first call (the quantiser): what its body leaves in each output block, and its body obligation, at arbitrary
   entry contents `V` and any float instance `F`. The text follows the library's certificate of one region. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Run

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # REGION 0 of @main: custom_call 0, `cc0_lwc_quant` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The kernel body on any staging memrefs: a subtype the run finds -/

/-- One staging buffer of output window 3, through which its contents are stated (`View.read_writes_of_cover`: the
    choice does not matter). -/
abbrev VO0_3 : View sig .tc .vmem S64x14336 .i8 := (Memref.whole cc0_stg3_0 : Memref sig .tc .vmem S64x14336 .i8).view
/-- One staging buffer of output window 4, through which its contents are stated (`View.read_writes_of_cover`: the
    choice does not matter). -/
abbrev VO0_4 : View sig .tc .vmem S64x14336 .bf16 := (Memref.whole cc0_stg4_0 : Memref sig .tc .vmem S64x14336 .bf16).view
/-- One staging buffer of output window 5, through which its contents are stated (`View.read_writes_of_cover`: the
    choice does not matter). -/
abbrev VO0_5 : View sig .tc .vmem S64x112 .f32 := (Memref.whole cc0_stg5_0 : Memref sig .tc .vmem S64x112 .f32).view
/-- One staging buffer of output window 6, through which its contents are stated (`View.read_writes_of_cover`: the
    choice does not matter). -/
abbrev VO0_6 : View sig .tc .vmem S64x112 .f32 := (Memref.whole cc0_stg6_0 : Memref sig .tc .vmem S64x112 .f32).view
/-- One staging buffer of output window 7, through which its contents are stated (`View.read_writes_of_cover`: the
    choice does not matter). -/
abbrev VO0_7 : View sig .tc .vmem S64x112 .f32 := (Memref.whole cc0_stg7_0 : Memref sig .tc .vmem S64x112 .f32).view
/-- One staging buffer of output window 8, through which its contents are stated (`View.read_writes_of_cover`: the
    choice does not matter). -/
abbrev VO0_8 : View sig .tc .vmem S64x112 .f32 := (Memref.whole cc0_stg8_0 : Memref sig .tc .vmem S64x112 .f32).view
/-- Each window's current staging memref at point `t`, spelled as the pipeline passes it (`bodyAt0`), and its wholeness. -/
abbrev ms0_0 (t : Fin cfg0.N) : Memref sig .tc .vmem S64x14336 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S64x112 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S64x112 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S64x14336 .i8 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S64x14336 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S64x112 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S64x112 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S64x112 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S64x112 .f32 := win0_8.stage (cfg0.slots t 8)
abbrev hs0_8 (t : Fin cfg0.N) : (ms0_8 t).IsWhole := hstage0_8 ((cfg0.slots t 8).cast nbuf0_8)

-- (the run's proof term is large: the definition's epilogue — `abstractNestedProofs` — walks it past the default budget)
set_option maxHeartbeats 2848000 in
/-- What the body's stores leave in each output's staging memref, as pieces (last first), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid0.Coords) (arg1 : Memref sig .tc .vmem S64x14336 .f32) (harg1 : arg1.IsWhole) (arg2 : Memref sig .tc .vmem S64x112 .f32) (harg2 : arg2.IsWhole) (arg3 : Memref sig .tc .vmem S64x112 .f32) (harg3 : arg3.IsWhole) (arg4 : Memref sig .tc .vmem S64x14336 .i8) (harg4 : arg4.IsWhole) (arg5 : Memref sig .tc .vmem S64x14336 .bf16) (harg5 : arg5.IsWhole) (arg6 : Memref sig .tc .vmem S64x112 .f32) (harg6 : arg6.IsWhole) (arg7 : Memref sig .tc .vmem S64x112 .f32) (harg7 : arg7.IsWhole) (arg8 : Memref sig .tc .vmem S64x112 .f32) (harg8 : arg8.IsWhole) (arg9 : Memref sig .tc .vmem S64x112 .f32) (harg9 : arg9.IsWhole)
    (x0 : Vec F S64x14336 .f32) (x1 : Vec F S64x112 .f32) (x2 : Vec F S64x112 .f32) :
    Σ' (L3 : List (View.Piece (Elt F) S64x14336 .i8)), Σ' (L4 : List (View.Piece (Elt F) S64x14336 .bf16)), Σ' (L5 : List (View.Piece (Elt F) S64x112 .f32)), Σ' (L6 : List (View.Piece (Elt F) S64x112 .f32)), Σ' (L7 : List (View.Piece (Elt F) S64x112 .f32)), { L8 : List (View.Piece (Elt F) S64x112 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8)) -∗ K ⟨⟩))
          ⊢ wp frame (wpE (defs₀ (F := F)) Variants.none c none) E (cc0_lwc_quant i arg1 harg1 arg2 harg2 arg3 harg3 arg4 harg4 arg5 harg5 arg6 harg6 arg7 harg7 arg8 harg8 arg9 harg9) K } := by
  refine ⟨?_, ?_, ?_, ?_, ?_, ?_, fun E K => ?run⟩
  case run =>
    simp only [cc0_lwc_quant_eq_skeleton]; unfold cc0_lwc_quant_skel
    simp only [k0_part59_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, Hk⟩
    obtain rfl := harg1.eq_unread hf0; obtain rfl := harg2.eq_unread hf1; obtain rfl := harg3.eq_unread hf2
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    isplitl [H5]; · iexists _; iexact H5
    isplitl [H6]; · iexists _; iexact H6
    isplitl [H7]; · iexists _; iexact H7
    iexists _; iexact H8

/-- The run's pieces for output 3 tile its block (112 stores of `S64x128`, checked by the kernel's evaluation: Lib/Ring.lean `Piece.tiledL`, linear in the pieces, through a loop's `@[irreducible]` trip theorem too), so they cover it. -/
theorem cover0_A_3 (c : Dev nD) (i : grid0.Coords) (arg1 : Memref sig .tc .vmem S64x14336 .f32) (harg1 : arg1.IsWhole) (arg2 : Memref sig .tc .vmem S64x112 .f32) (harg2 : arg2.IsWhole) (arg3 : Memref sig .tc .vmem S64x112 .f32) (harg3 : arg3.IsWhole) (arg4 : Memref sig .tc .vmem S64x14336 .i8) (harg4 : arg4.IsWhole) (arg5 : Memref sig .tc .vmem S64x14336 .bf16) (harg5 : arg5.IsWhole) (arg6 : Memref sig .tc .vmem S64x112 .f32) (harg6 : arg6.IsWhole) (arg7 : Memref sig .tc .vmem S64x112 .f32) (harg7 : arg7.IsWhole) (arg8 : Memref sig .tc .vmem S64x112 .f32) (harg8 : arg8.IsWhole) (arg9 : Memref sig .tc .vmem S64x112 .f32) (harg9 : arg9.IsWhole)
    (x0 : Vec F S64x14336 .f32) (x1 : Vec F S64x112 .f32) (x2 : Vec F S64x112 .f32) (y : S64x14336.Idx) :
    ∃ pc ∈ (kernelRun0_A c i arg1 harg1 arg2 harg2 arg3 harg3 arg4 harg4 arg5 harg5 arg6 harg6 arg7 harg7 arg8 harg8 arg9 harg9 x0 x1 x2).1, y ∈ pc.1.set :=
  View.cover_of_tiledL (kernelRun0_A c i arg1 harg1 arg2 harg2 arg3 harg3 arg4 harg4 arg5 harg5 arg6 harg6 arg7 harg7 arg8 harg8 arg9 harg9 x0 x1 x2).1 S64x128.size (by sl_kernel_rfl) y

/-- What the run leaves in output 3's staging buffer: its pieces read back over junk. -/
def out0_A_3 (c : Dev nD) (i : grid0.Coords) (arg1 : Memref sig .tc .vmem S64x14336 .f32) (harg1 : arg1.IsWhole) (arg2 : Memref sig .tc .vmem S64x112 .f32) (harg2 : arg2.IsWhole) (arg3 : Memref sig .tc .vmem S64x112 .f32) (harg3 : arg3.IsWhole) (arg4 : Memref sig .tc .vmem S64x14336 .i8) (harg4 : arg4.IsWhole) (arg5 : Memref sig .tc .vmem S64x14336 .bf16) (harg5 : arg5.IsWhole) (arg6 : Memref sig .tc .vmem S64x112 .f32) (harg6 : arg6.IsWhole) (arg7 : Memref sig .tc .vmem S64x112 .f32) (harg7 : arg7.IsWhole) (arg8 : Memref sig .tc .vmem S64x112 .f32) (harg8 : arg8.IsWhole) (arg9 : Memref sig .tc .vmem S64x112 .f32) (harg9 : arg9.IsWhole)
    (x0 : Vec F S64x14336 .f32) (x1 : Vec F S64x112 .f32) (x2 : Vec F S64x112 .f32) : Vec F S64x14336 .i8 :=
  VO0_3.read (Elt F) (VO0_3.writes (Elt F) VO0_3.junk (kernelRun0_A c i arg1 harg1 arg2 harg2 arg3 harg3 arg4 harg4 arg5 harg5 arg6 harg6 arg7 harg7 arg8 harg8 arg9 harg9 x0 x1 x2).1)

/-- The run's pieces for output 4 tile its block (112 stores of `S64x128`, checked by the kernel's evaluation: Lib/Ring.lean `Piece.tiledL`, linear in the pieces, through a loop's `@[irreducible]` trip theorem too), so they cover it. -/
theorem cover0_A_4 (c : Dev nD) (i : grid0.Coords) (arg1 : Memref sig .tc .vmem S64x14336 .f32) (harg1 : arg1.IsWhole) (arg2 : Memref sig .tc .vmem S64x112 .f32) (harg2 : arg2.IsWhole) (arg3 : Memref sig .tc .vmem S64x112 .f32) (harg3 : arg3.IsWhole) (arg4 : Memref sig .tc .vmem S64x14336 .i8) (harg4 : arg4.IsWhole) (arg5 : Memref sig .tc .vmem S64x14336 .bf16) (harg5 : arg5.IsWhole) (arg6 : Memref sig .tc .vmem S64x112 .f32) (harg6 : arg6.IsWhole) (arg7 : Memref sig .tc .vmem S64x112 .f32) (harg7 : arg7.IsWhole) (arg8 : Memref sig .tc .vmem S64x112 .f32) (harg8 : arg8.IsWhole) (arg9 : Memref sig .tc .vmem S64x112 .f32) (harg9 : arg9.IsWhole)
    (x0 : Vec F S64x14336 .f32) (x1 : Vec F S64x112 .f32) (x2 : Vec F S64x112 .f32) (y : S64x14336.Idx) :
    ∃ pc ∈ (kernelRun0_A c i arg1 harg1 arg2 harg2 arg3 harg3 arg4 harg4 arg5 harg5 arg6 harg6 arg7 harg7 arg8 harg8 arg9 harg9 x0 x1 x2).2.1, y ∈ pc.1.set :=
  View.cover_of_tiledL (kernelRun0_A c i arg1 harg1 arg2 harg2 arg3 harg3 arg4 harg4 arg5 harg5 arg6 harg6 arg7 harg7 arg8 harg8 arg9 harg9 x0 x1 x2).2.1 S64x128.size (by sl_kernel_rfl) y

/-- What the run leaves in output 4's staging buffer: its pieces read back over junk. -/
def out0_A_4 (c : Dev nD) (i : grid0.Coords) (arg1 : Memref sig .tc .vmem S64x14336 .f32) (harg1 : arg1.IsWhole) (arg2 : Memref sig .tc .vmem S64x112 .f32) (harg2 : arg2.IsWhole) (arg3 : Memref sig .tc .vmem S64x112 .f32) (harg3 : arg3.IsWhole) (arg4 : Memref sig .tc .vmem S64x14336 .i8) (harg4 : arg4.IsWhole) (arg5 : Memref sig .tc .vmem S64x14336 .bf16) (harg5 : arg5.IsWhole) (arg6 : Memref sig .tc .vmem S64x112 .f32) (harg6 : arg6.IsWhole) (arg7 : Memref sig .tc .vmem S64x112 .f32) (harg7 : arg7.IsWhole) (arg8 : Memref sig .tc .vmem S64x112 .f32) (harg8 : arg8.IsWhole) (arg9 : Memref sig .tc .vmem S64x112 .f32) (harg9 : arg9.IsWhole)
    (x0 : Vec F S64x14336 .f32) (x1 : Vec F S64x112 .f32) (x2 : Vec F S64x112 .f32) : Vec F S64x14336 .bf16 :=
  VO0_4.read (Elt F) (VO0_4.writes (Elt F) VO0_4.junk (kernelRun0_A c i arg1 harg1 arg2 harg2 arg3 harg3 arg4 harg4 arg5 harg5 arg6 harg6 arg7 harg7 arg8 harg8 arg9 harg9 x0 x1 x2).2.1)

/-- The run's pieces for output 5 tile its block (1 store of `S64x112`, checked by the kernel's evaluation: Lib/Ring.lean `Piece.tiledL`, linear in the pieces, through a loop's `@[irreducible]` trip theorem too), so they cover it. -/
theorem cover0_A_5 (c : Dev nD) (i : grid0.Coords) (arg1 : Memref sig .tc .vmem S64x14336 .f32) (harg1 : arg1.IsWhole) (arg2 : Memref sig .tc .vmem S64x112 .f32) (harg2 : arg2.IsWhole) (arg3 : Memref sig .tc .vmem S64x112 .f32) (harg3 : arg3.IsWhole) (arg4 : Memref sig .tc .vmem S64x14336 .i8) (harg4 : arg4.IsWhole) (arg5 : Memref sig .tc .vmem S64x14336 .bf16) (harg5 : arg5.IsWhole) (arg6 : Memref sig .tc .vmem S64x112 .f32) (harg6 : arg6.IsWhole) (arg7 : Memref sig .tc .vmem S64x112 .f32) (harg7 : arg7.IsWhole) (arg8 : Memref sig .tc .vmem S64x112 .f32) (harg8 : arg8.IsWhole) (arg9 : Memref sig .tc .vmem S64x112 .f32) (harg9 : arg9.IsWhole)
    (x0 : Vec F S64x14336 .f32) (x1 : Vec F S64x112 .f32) (x2 : Vec F S64x112 .f32) (y : S64x112.Idx) :
    ∃ pc ∈ (kernelRun0_A c i arg1 harg1 arg2 harg2 arg3 harg3 arg4 harg4 arg5 harg5 arg6 harg6 arg7 harg7 arg8 harg8 arg9 harg9 x0 x1 x2).2.2.1, y ∈ pc.1.set :=
  View.cover_of_tiledL (kernelRun0_A c i arg1 harg1 arg2 harg2 arg3 harg3 arg4 harg4 arg5 harg5 arg6 harg6 arg7 harg7 arg8 harg8 arg9 harg9 x0 x1 x2).2.2.1 S64x112.size (by sl_kernel_rfl) y

/-- What the run leaves in output 5's staging buffer: its pieces read back over junk. -/
def out0_A_5 (c : Dev nD) (i : grid0.Coords) (arg1 : Memref sig .tc .vmem S64x14336 .f32) (harg1 : arg1.IsWhole) (arg2 : Memref sig .tc .vmem S64x112 .f32) (harg2 : arg2.IsWhole) (arg3 : Memref sig .tc .vmem S64x112 .f32) (harg3 : arg3.IsWhole) (arg4 : Memref sig .tc .vmem S64x14336 .i8) (harg4 : arg4.IsWhole) (arg5 : Memref sig .tc .vmem S64x14336 .bf16) (harg5 : arg5.IsWhole) (arg6 : Memref sig .tc .vmem S64x112 .f32) (harg6 : arg6.IsWhole) (arg7 : Memref sig .tc .vmem S64x112 .f32) (harg7 : arg7.IsWhole) (arg8 : Memref sig .tc .vmem S64x112 .f32) (harg8 : arg8.IsWhole) (arg9 : Memref sig .tc .vmem S64x112 .f32) (harg9 : arg9.IsWhole)
    (x0 : Vec F S64x14336 .f32) (x1 : Vec F S64x112 .f32) (x2 : Vec F S64x112 .f32) : Vec F S64x112 .f32 :=
  VO0_5.read (Elt F) (VO0_5.writes (Elt F) VO0_5.junk (kernelRun0_A c i arg1 harg1 arg2 harg2 arg3 harg3 arg4 harg4 arg5 harg5 arg6 harg6 arg7 harg7 arg8 harg8 arg9 harg9 x0 x1 x2).2.2.1)

/-- The run's pieces for output 6 tile its block (1 store of `S64x112`, checked by the kernel's evaluation: Lib/Ring.lean `Piece.tiledL`, linear in the pieces, through a loop's `@[irreducible]` trip theorem too), so they cover it. -/
theorem cover0_A_6 (c : Dev nD) (i : grid0.Coords) (arg1 : Memref sig .tc .vmem S64x14336 .f32) (harg1 : arg1.IsWhole) (arg2 : Memref sig .tc .vmem S64x112 .f32) (harg2 : arg2.IsWhole) (arg3 : Memref sig .tc .vmem S64x112 .f32) (harg3 : arg3.IsWhole) (arg4 : Memref sig .tc .vmem S64x14336 .i8) (harg4 : arg4.IsWhole) (arg5 : Memref sig .tc .vmem S64x14336 .bf16) (harg5 : arg5.IsWhole) (arg6 : Memref sig .tc .vmem S64x112 .f32) (harg6 : arg6.IsWhole) (arg7 : Memref sig .tc .vmem S64x112 .f32) (harg7 : arg7.IsWhole) (arg8 : Memref sig .tc .vmem S64x112 .f32) (harg8 : arg8.IsWhole) (arg9 : Memref sig .tc .vmem S64x112 .f32) (harg9 : arg9.IsWhole)
    (x0 : Vec F S64x14336 .f32) (x1 : Vec F S64x112 .f32) (x2 : Vec F S64x112 .f32) (y : S64x112.Idx) :
    ∃ pc ∈ (kernelRun0_A c i arg1 harg1 arg2 harg2 arg3 harg3 arg4 harg4 arg5 harg5 arg6 harg6 arg7 harg7 arg8 harg8 arg9 harg9 x0 x1 x2).2.2.2.1, y ∈ pc.1.set :=
  View.cover_of_tiledL (kernelRun0_A c i arg1 harg1 arg2 harg2 arg3 harg3 arg4 harg4 arg5 harg5 arg6 harg6 arg7 harg7 arg8 harg8 arg9 harg9 x0 x1 x2).2.2.2.1 S64x112.size (by sl_kernel_rfl) y

/-- What the run leaves in output 6's staging buffer: its pieces read back over junk. -/
def out0_A_6 (c : Dev nD) (i : grid0.Coords) (arg1 : Memref sig .tc .vmem S64x14336 .f32) (harg1 : arg1.IsWhole) (arg2 : Memref sig .tc .vmem S64x112 .f32) (harg2 : arg2.IsWhole) (arg3 : Memref sig .tc .vmem S64x112 .f32) (harg3 : arg3.IsWhole) (arg4 : Memref sig .tc .vmem S64x14336 .i8) (harg4 : arg4.IsWhole) (arg5 : Memref sig .tc .vmem S64x14336 .bf16) (harg5 : arg5.IsWhole) (arg6 : Memref sig .tc .vmem S64x112 .f32) (harg6 : arg6.IsWhole) (arg7 : Memref sig .tc .vmem S64x112 .f32) (harg7 : arg7.IsWhole) (arg8 : Memref sig .tc .vmem S64x112 .f32) (harg8 : arg8.IsWhole) (arg9 : Memref sig .tc .vmem S64x112 .f32) (harg9 : arg9.IsWhole)
    (x0 : Vec F S64x14336 .f32) (x1 : Vec F S64x112 .f32) (x2 : Vec F S64x112 .f32) : Vec F S64x112 .f32 :=
  VO0_6.read (Elt F) (VO0_6.writes (Elt F) VO0_6.junk (kernelRun0_A c i arg1 harg1 arg2 harg2 arg3 harg3 arg4 harg4 arg5 harg5 arg6 harg6 arg7 harg7 arg8 harg8 arg9 harg9 x0 x1 x2).2.2.2.1)

/-- The run's pieces for output 7 tile its block (1 store of `S64x112`, checked by the kernel's evaluation: Lib/Ring.lean `Piece.tiledL`, linear in the pieces, through a loop's `@[irreducible]` trip theorem too), so they cover it. -/
theorem cover0_A_7 (c : Dev nD) (i : grid0.Coords) (arg1 : Memref sig .tc .vmem S64x14336 .f32) (harg1 : arg1.IsWhole) (arg2 : Memref sig .tc .vmem S64x112 .f32) (harg2 : arg2.IsWhole) (arg3 : Memref sig .tc .vmem S64x112 .f32) (harg3 : arg3.IsWhole) (arg4 : Memref sig .tc .vmem S64x14336 .i8) (harg4 : arg4.IsWhole) (arg5 : Memref sig .tc .vmem S64x14336 .bf16) (harg5 : arg5.IsWhole) (arg6 : Memref sig .tc .vmem S64x112 .f32) (harg6 : arg6.IsWhole) (arg7 : Memref sig .tc .vmem S64x112 .f32) (harg7 : arg7.IsWhole) (arg8 : Memref sig .tc .vmem S64x112 .f32) (harg8 : arg8.IsWhole) (arg9 : Memref sig .tc .vmem S64x112 .f32) (harg9 : arg9.IsWhole)
    (x0 : Vec F S64x14336 .f32) (x1 : Vec F S64x112 .f32) (x2 : Vec F S64x112 .f32) (y : S64x112.Idx) :
    ∃ pc ∈ (kernelRun0_A c i arg1 harg1 arg2 harg2 arg3 harg3 arg4 harg4 arg5 harg5 arg6 harg6 arg7 harg7 arg8 harg8 arg9 harg9 x0 x1 x2).2.2.2.2.1, y ∈ pc.1.set :=
  View.cover_of_tiledL (kernelRun0_A c i arg1 harg1 arg2 harg2 arg3 harg3 arg4 harg4 arg5 harg5 arg6 harg6 arg7 harg7 arg8 harg8 arg9 harg9 x0 x1 x2).2.2.2.2.1 S64x112.size (by sl_kernel_rfl) y

/-- What the run leaves in output 7's staging buffer: its pieces read back over junk. -/
def out0_A_7 (c : Dev nD) (i : grid0.Coords) (arg1 : Memref sig .tc .vmem S64x14336 .f32) (harg1 : arg1.IsWhole) (arg2 : Memref sig .tc .vmem S64x112 .f32) (harg2 : arg2.IsWhole) (arg3 : Memref sig .tc .vmem S64x112 .f32) (harg3 : arg3.IsWhole) (arg4 : Memref sig .tc .vmem S64x14336 .i8) (harg4 : arg4.IsWhole) (arg5 : Memref sig .tc .vmem S64x14336 .bf16) (harg5 : arg5.IsWhole) (arg6 : Memref sig .tc .vmem S64x112 .f32) (harg6 : arg6.IsWhole) (arg7 : Memref sig .tc .vmem S64x112 .f32) (harg7 : arg7.IsWhole) (arg8 : Memref sig .tc .vmem S64x112 .f32) (harg8 : arg8.IsWhole) (arg9 : Memref sig .tc .vmem S64x112 .f32) (harg9 : arg9.IsWhole)
    (x0 : Vec F S64x14336 .f32) (x1 : Vec F S64x112 .f32) (x2 : Vec F S64x112 .f32) : Vec F S64x112 .f32 :=
  VO0_7.read (Elt F) (VO0_7.writes (Elt F) VO0_7.junk (kernelRun0_A c i arg1 harg1 arg2 harg2 arg3 harg3 arg4 harg4 arg5 harg5 arg6 harg6 arg7 harg7 arg8 harg8 arg9 harg9 x0 x1 x2).2.2.2.2.1)

/-- The run's pieces for output 8 tile its block (1 store of `S64x112`, checked by the kernel's evaluation: Lib/Ring.lean `Piece.tiledL`, linear in the pieces, through a loop's `@[irreducible]` trip theorem too), so they cover it. -/
theorem cover0_A_8 (c : Dev nD) (i : grid0.Coords) (arg1 : Memref sig .tc .vmem S64x14336 .f32) (harg1 : arg1.IsWhole) (arg2 : Memref sig .tc .vmem S64x112 .f32) (harg2 : arg2.IsWhole) (arg3 : Memref sig .tc .vmem S64x112 .f32) (harg3 : arg3.IsWhole) (arg4 : Memref sig .tc .vmem S64x14336 .i8) (harg4 : arg4.IsWhole) (arg5 : Memref sig .tc .vmem S64x14336 .bf16) (harg5 : arg5.IsWhole) (arg6 : Memref sig .tc .vmem S64x112 .f32) (harg6 : arg6.IsWhole) (arg7 : Memref sig .tc .vmem S64x112 .f32) (harg7 : arg7.IsWhole) (arg8 : Memref sig .tc .vmem S64x112 .f32) (harg8 : arg8.IsWhole) (arg9 : Memref sig .tc .vmem S64x112 .f32) (harg9 : arg9.IsWhole)
    (x0 : Vec F S64x14336 .f32) (x1 : Vec F S64x112 .f32) (x2 : Vec F S64x112 .f32) (y : S64x112.Idx) :
    ∃ pc ∈ (kernelRun0_A c i arg1 harg1 arg2 harg2 arg3 harg3 arg4 harg4 arg5 harg5 arg6 harg6 arg7 harg7 arg8 harg8 arg9 harg9 x0 x1 x2).2.2.2.2.2.1, y ∈ pc.1.set :=
  View.cover_of_tiledL (kernelRun0_A c i arg1 harg1 arg2 harg2 arg3 harg3 arg4 harg4 arg5 harg5 arg6 harg6 arg7 harg7 arg8 harg8 arg9 harg9 x0 x1 x2).2.2.2.2.2.1 S64x112.size (by sl_kernel_rfl) y

/-- What the run leaves in output 8's staging buffer: its pieces read back over junk. -/
def out0_A_8 (c : Dev nD) (i : grid0.Coords) (arg1 : Memref sig .tc .vmem S64x14336 .f32) (harg1 : arg1.IsWhole) (arg2 : Memref sig .tc .vmem S64x112 .f32) (harg2 : arg2.IsWhole) (arg3 : Memref sig .tc .vmem S64x112 .f32) (harg3 : arg3.IsWhole) (arg4 : Memref sig .tc .vmem S64x14336 .i8) (harg4 : arg4.IsWhole) (arg5 : Memref sig .tc .vmem S64x14336 .bf16) (harg5 : arg5.IsWhole) (arg6 : Memref sig .tc .vmem S64x112 .f32) (harg6 : arg6.IsWhole) (arg7 : Memref sig .tc .vmem S64x112 .f32) (harg7 : arg7.IsWhole) (arg8 : Memref sig .tc .vmem S64x112 .f32) (harg8 : arg8.IsWhole) (arg9 : Memref sig .tc .vmem S64x112 .f32) (harg9 : arg9.IsWhole)
    (x0 : Vec F S64x14336 .f32) (x1 : Vec F S64x112 .f32) (x2 : Vec F S64x112 .f32) : Vec F S64x112 .f32 :=
  VO0_8.read (Elt F) (VO0_8.writes (Elt F) VO0_8.junk (kernelRun0_A c i arg1 harg1 arg2 harg2 arg3 harg3 arg4 harg4 arg5 harg5 arg6 harg6 arg7 harg7 arg8 harg8 arg9 harg9 x0 x1 x2).2.2.2.2.2.1)

/-! ## What the outputs hold after each point -/

/-- What the outputs' staging buffers hold after the body at point `t` (as a tuple, in window order): the run's contents at
    the point's memrefs and input blocks. -/
def outsAt0 (c : Dev nD) (t : Fin cfg0.N) : Vec F S64x14336 .i8 × Vec F S64x14336 .bf16 × Vec F S64x112 .f32 × Vec F S64x112 .f32 × Vec F S64x112 .f32 × Vec F S64x112 .f32 :=
  (out0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk0 V c 0 t) (iblk0 V c 1 t) (iblk0 V c 2 t), out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk0 V c 0 t) (iblk0 V c 1 t) (iblk0 V c 2 t), out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk0 V c 0 t) (iblk0 V c 1 t) (iblk0 V c 2 t), out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk0 V c 0 t) (iblk0 V c 1 t) (iblk0 V c 2 t), out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk0 V c 0 t) (iblk0 V c 1 t) (iblk0 V c 2 t), out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk0 V c 0 t) (iblk0 V c 1 t) (iblk0 V c 2 t))

/-! ## The pipeline's proof data -/

/-- The proof data of pipeline 0 on core `c`: the arrays as the region finds them (`V`); after the body at
    point `t` each input's buffer at its block and the outputs' at `outsAt0`; the invariant the class's
    (Lib/Pipeline/Frame.lean `ΦA`: the scoped rest and the generator register); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t).1
    | ⟨4, _⟩ => (outsAt0 V c t).2.1
    | ⟨5, _⟩ => (outsAt0 V c t).2.2.1
    | ⟨6, _⟩ => (outsAt0 V c t).2.2.2.1
    | ⟨7, _⟩ => (outsAt0 V c t).2.2.2.2.1
    | ⟨8, _⟩ => (outsAt0 V c t).2.2.2.2.2
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t).1 := by dsimp only [dat0]
theorem after0_4 (c : Dev nD) (t : Fin cfg0.N) : (dat0 V c).after 4 t = (outsAt0 V c t).2.1 := by dsimp only [dat0]
theorem after0_5 (c : Dev nD) (t : Fin cfg0.N) : (dat0 V c).after 5 t = (outsAt0 V c t).2.2.1 := by dsimp only [dat0]
theorem after0_6 (c : Dev nD) (t : Fin cfg0.N) : (dat0 V c).after 6 t = (outsAt0 V c t).2.2.2.1 := by dsimp only [dat0]
theorem after0_7 (c : Dev nD) (t : Fin cfg0.N) : (dat0 V c).after 7 t = (outsAt0 V c t).2.2.2.2.1 := by dsimp only [dat0]
theorem after0_8 (c : Dev nD) (t : Fin cfg0.N) : (dat0 V c).after 8 t = (outsAt0 V c t).2.2.2.2.2 := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t)
    ∗ owns (c : Thread nD τ) (ms0_6 t) fullShare ((dat0 V c).after 6 t)
    ∗ owns (c : Thread nD τ) (ms0_7 t) fullShare ((dat0 V c).after 7 t)
    ∗ owns (c : Thread nD τ) (ms0_8 t) fullShare ((dat0 V c).after 8 t))

set_option maxHeartbeats 800000 in
/-- The body at any point: the inputs' memrefs hold their blocks (`before0_W`); so the
    run applies; the invariant passes through unread; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8]
  unfold outsAt0
  unfold out0_A_3 out0_A_4 out0_A_5 out0_A_6 out0_A_7 out0_A_8; (try dsimp only)
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((kernelRun0_A c (grid0.coords t) _ _ _ _ _ _ _ _ _ _ _ _ _ _ _ _ _ _ (iblk0 V c 0 t) (iblk0 V c 1 t) (iblk0 V c 2 t)).2.2.2.2.2.2 Set.univ _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [H6]; · iexists _; iexact H6
  isplitl [H7]; · iexists _; iexact H7
  isplitl [H8]; · iexists _; iexact H8
  iintro ⟨H0, H1, H2, ⟨%e3, H3⟩, ⟨%e4, H4⟩, ⟨%e5, H5⟩, ⟨%e6, H6⟩, ⟨%e7, H7⟩, ⟨%e8, H8⟩⟩
  isplitl [HΦ]; · iexact HΦ
  isplitl [Ho]; · iexact Ho
  isplitl [H0]; · iexact H0
  isplitl [H1]; · iexact H1
  isplitl [H2]; · iexact H2
  isplitl [H3]
  · unfold owns; iexists _; isplitr
    swap; · iexact H3
    ipureintro; exact View.read_writes_of_cover _ _ _ _ _ (cover0_A_3 c _ _ _ _ _ _ _ _ _ _ _ _ _ _ _ _ _ _ _ _ _ _)
  isplitl [H4]
  · unfold owns; iexists _; isplitr
    swap; · iexact H4
    ipureintro; exact View.read_writes_of_cover _ _ _ _ _ (cover0_A_4 c _ _ _ _ _ _ _ _ _ _ _ _ _ _ _ _ _ _ _ _ _ _)
  isplitl [H5]
  · unfold owns; iexists _; isplitr
    swap; · iexact H5
    ipureintro; exact View.read_writes_of_cover _ _ _ _ _ (cover0_A_5 c _ _ _ _ _ _ _ _ _ _ _ _ _ _ _ _ _ _ _ _ _ _)
  isplitl [H6]
  · unfold owns; iexists _; isplitr
    swap; · iexact H6
    ipureintro; exact View.read_writes_of_cover _ _ _ _ _ (cover0_A_6 c _ _ _ _ _ _ _ _ _ _ _ _ _ _ _ _ _ _ _ _ _ _)
  isplitl [H7]
  · unfold owns; iexists _; isplitr
    swap; · iexact H7
    ipureintro; exact View.read_writes_of_cover _ _ _ _ _ (cover0_A_7 c _ _ _ _ _ _ _ _ _ _ _ _ _ _ _ _ _ _ _ _ _ _)
  unfold owns; iexists _; isplitr
  swap; · iexact H8
  ipureintro; exact View.read_writes_of_cover _ _ _ _ _ (cover0_A_8 c _ _ _ _ _ _ _ _ _ _ _ _ _ _ _ _ _ _ _ _ _ _)

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Cert.KernelIdeal.Run

end
-- ==== Proof.KernelIdealFwd.lean ====
/- The second call (the forward product and the loss): what its body leaves in each output block, and its body
   obligation, at arbitrary entry contents `V` and any float instance `F`. The text follows the library's certificate of
   one region. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Run

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # REGION 1 of @main: custom_call 1, `cc1_lwc_fwd` (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The condition of the body's `scf.if` 0 (`k1_h1`), from the grid coordinates (the skeleton's scalar
    chain substituted). -/
abbrev cond1_0 (i : grid1.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first point only — by arithmetic of the point. -/
theorem hcond1_0 : ∀ t : Fin cfg1.N, cond1_0 (grid1.coords t) ↔ t.val % 96 = 0 :=
  (fun t => by
    have ht : t.val < 96 := Nat.lt_of_lt_of_eq t.isLt N_1
    have e0 : (grid1.coords t 0).val = t.val / 12 % 8 := Pipeline.Grid.coords_val t 0 (by decide) rfl
    have e1 : (grid1.coords t 1).val = t.val / 1 % 12 := Pipeline.Grid.coords_val t 1 (by decide) rfl
    simp only [cond1_0, e0, e1]
    word_cmp
   : ∀ t : Fin grid1.N, cond1_0 (grid1.coords t) ↔ t.val % 96 = 0)

/-! ## The kernel body on any staging memrefs: a subtype the run finds -/

/-- One staging buffer of output window 4, through which its contents are stated (`View.read_writes_of_cover`: the
    choice does not matter). -/
abbrev VO1_4 : View sig .tc .vmem S512x512 .bf16 := (Memref.whole cc1_stg4_0 : Memref sig .tc .vmem S512x512 .bf16).view
/-- One staging buffer of output window 5, through which its contents are stated (`View.read_writes_of_cover`: the
    choice does not matter). -/
abbrev VO1_5 : View sig .tc .vmem S8x128 .f32 := (Memref.whole cc1_stg5_0 : Memref sig .tc .vmem S8x128 .f32).view
/-- Each window's current staging memref at point `t`, spelled as the pipeline passes it (`bodyAt1`), and its wholeness. -/
abbrev ms1_0 (t : Fin cfg1.N) : Memref sig .tc .vmem S512x14336 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x14336 .fp8e4m3 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512x512 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S512x512 .bf16 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S8x128 .f32 := win1_5.stage (cfg1.slots t 5)
abbrev hs1_5 (t : Fin cfg1.N) : (ms1_5 t).IsWhole := hstage1_5 ((cfg1.slots t 5).cast nbuf1_5)

-- (the run's proof term is large: the definition's epilogue — `abstractNestedProofs` — walks it past the default budget)
set_option maxHeartbeats 1000000 in
/-- What the body's stores leave in each output's staging memref, as pieces (last first) IN CASE A (`scf.if` 0 taken: points 0), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun1_A (c : Dev nD) (i : grid1.Coords) (arg2 : Memref sig .tc .vmem S512x14336 .bf16) (harg2 : arg2.IsWhole) (arg3 : Memref sig .tc .vmem S512x14336 .fp8e4m3) (harg3 : arg3.IsWhole) (arg4 : Memref sig .tc .vmem S1x512 .f32) (harg4 : arg4.IsWhole) (arg5 : Memref sig .tc .vmem S512x512 .bf16) (harg5 : arg5.IsWhole) (arg6 : Memref sig .tc .vmem S512x512 .bf16) (harg6 : arg6.IsWhole) (arg7 : Memref sig .tc .vmem S8x128 .f32) (harg7 : arg7.IsWhole) (hc0 : cond1_0 i)
    (x0 : Vec F S512x14336 .bf16) (x1 : Vec F S512x14336 .fp8e4m3) (x2 : Vec F S1x512 .f32) (x3 : Vec F S512x512 .bf16) :
    Σ' (L4 : List (View.Piece (Elt F) S512x512 .bf16)), { L5 : List (View.Piece (Elt F) S8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5)) -∗ K ⟨⟩))
          ⊢ wp frame (wpE (defs₀ (F := F)) Variants.none c none) E (cc1_lwc_fwd i arg2 harg2 arg3 harg3 arg4 harg4 arg5 harg5 arg6 harg6 arg7 harg7) K } := by
  refine ⟨?_, ?_, fun E K => ?run⟩
  case run =>
    simp only [cc1_lwc_fwd_eq_skeleton]; unfold cc1_lwc_fwd_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
    obtain rfl := harg2.eq_unread hf0; obtain rfl := harg3.eq_unread hf1; obtain rfl := harg4.eq_unread hf2; obtain rfl := harg5.eq_unread hf3
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact H5

/-- Case A's pieces for output 4 tile its block (1 store of `S512x512`, checked by the kernel's evaluation: Lib/Ring.lean `Piece.tiledL`, linear in the pieces, through a loop's `@[irreducible]` trip theorem too), so they cover it. -/
theorem cover1_A_4 (c : Dev nD) (i : grid1.Coords) (arg2 : Memref sig .tc .vmem S512x14336 .bf16) (harg2 : arg2.IsWhole) (arg3 : Memref sig .tc .vmem S512x14336 .fp8e4m3) (harg3 : arg3.IsWhole) (arg4 : Memref sig .tc .vmem S1x512 .f32) (harg4 : arg4.IsWhole) (arg5 : Memref sig .tc .vmem S512x512 .bf16) (harg5 : arg5.IsWhole) (arg6 : Memref sig .tc .vmem S512x512 .bf16) (harg6 : arg6.IsWhole) (arg7 : Memref sig .tc .vmem S8x128 .f32) (harg7 : arg7.IsWhole) (hc0 : cond1_0 i)
    (x0 : Vec F S512x14336 .bf16) (x1 : Vec F S512x14336 .fp8e4m3) (x2 : Vec F S1x512 .f32) (x3 : Vec F S512x512 .bf16) (y : S512x512.Idx) :
    ∃ pc ∈ (kernelRun1_A c i arg2 harg2 arg3 harg3 arg4 harg4 arg5 harg5 arg6 harg6 arg7 harg7 hc0 x0 x1 x2 x3).1, y ∈ pc.1.set :=
  View.cover_of_tiledL (kernelRun1_A c i arg2 harg2 arg3 harg3 arg4 harg4 arg5 harg5 arg6 harg6 arg7 harg7 hc0 x0 x1 x2 x3).1 S512x512.size (by sl_kernel_rfl) y

/-- What case A leaves in output 4's staging buffer: its pieces read back over junk. -/
def out1_A_4 (c : Dev nD) (i : grid1.Coords) (arg2 : Memref sig .tc .vmem S512x14336 .bf16) (harg2 : arg2.IsWhole) (arg3 : Memref sig .tc .vmem S512x14336 .fp8e4m3) (harg3 : arg3.IsWhole) (arg4 : Memref sig .tc .vmem S1x512 .f32) (harg4 : arg4.IsWhole) (arg5 : Memref sig .tc .vmem S512x512 .bf16) (harg5 : arg5.IsWhole) (arg6 : Memref sig .tc .vmem S512x512 .bf16) (harg6 : arg6.IsWhole) (arg7 : Memref sig .tc .vmem S8x128 .f32) (harg7 : arg7.IsWhole) (hc0 : cond1_0 i)
    (x0 : Vec F S512x14336 .bf16) (x1 : Vec F S512x14336 .fp8e4m3) (x2 : Vec F S1x512 .f32) (x3 : Vec F S512x512 .bf16) : Vec F S512x512 .bf16 :=
  VO1_4.read (Elt F) (VO1_4.writes (Elt F) VO1_4.junk (kernelRun1_A c i arg2 harg2 arg3 harg3 arg4 harg4 arg5 harg5 arg6 harg6 arg7 harg7 hc0 x0 x1 x2 x3).1)

/-- Case A's pieces for output 5 tile its block (2 stores of `S8x128`, checked by the kernel's evaluation: Lib/Ring.lean `Piece.tiledL`, linear in the pieces, through a loop's `@[irreducible]` trip theorem too), so they cover it. -/
theorem cover1_A_5 (c : Dev nD) (i : grid1.Coords) (arg2 : Memref sig .tc .vmem S512x14336 .bf16) (harg2 : arg2.IsWhole) (arg3 : Memref sig .tc .vmem S512x14336 .fp8e4m3) (harg3 : arg3.IsWhole) (arg4 : Memref sig .tc .vmem S1x512 .f32) (harg4 : arg4.IsWhole) (arg5 : Memref sig .tc .vmem S512x512 .bf16) (harg5 : arg5.IsWhole) (arg6 : Memref sig .tc .vmem S512x512 .bf16) (harg6 : arg6.IsWhole) (arg7 : Memref sig .tc .vmem S8x128 .f32) (harg7 : arg7.IsWhole) (hc0 : cond1_0 i)
    (x0 : Vec F S512x14336 .bf16) (x1 : Vec F S512x14336 .fp8e4m3) (x2 : Vec F S1x512 .f32) (x3 : Vec F S512x512 .bf16) (y : S8x128.Idx) :
    ∃ pc ∈ (kernelRun1_A c i arg2 harg2 arg3 harg3 arg4 harg4 arg5 harg5 arg6 harg6 arg7 harg7 hc0 x0 x1 x2 x3).2.1, y ∈ pc.1.set :=
  View.cover_of_tiledL (kernelRun1_A c i arg2 harg2 arg3 harg3 arg4 harg4 arg5 harg5 arg6 harg6 arg7 harg7 hc0 x0 x1 x2 x3).2.1 S8x128.size (by sl_kernel_rfl) y

/-- What case A leaves in output 5's staging buffer: its pieces read back over junk. -/
def out1_A_5 (c : Dev nD) (i : grid1.Coords) (arg2 : Memref sig .tc .vmem S512x14336 .bf16) (harg2 : arg2.IsWhole) (arg3 : Memref sig .tc .vmem S512x14336 .fp8e4m3) (harg3 : arg3.IsWhole) (arg4 : Memref sig .tc .vmem S1x512 .f32) (harg4 : arg4.IsWhole) (arg5 : Memref sig .tc .vmem S512x512 .bf16) (harg5 : arg5.IsWhole) (arg6 : Memref sig .tc .vmem S512x512 .bf16) (harg6 : arg6.IsWhole) (arg7 : Memref sig .tc .vmem S8x128 .f32) (harg7 : arg7.IsWhole) (hc0 : cond1_0 i)
    (x0 : Vec F S512x14336 .bf16) (x1 : Vec F S512x14336 .fp8e4m3) (x2 : Vec F S1x512 .f32) (x3 : Vec F S512x512 .bf16) : Vec F S8x128 .f32 :=
  VO1_5.read (Elt F) (VO1_5.writes (Elt F) VO1_5.junk (kernelRun1_A c i arg2 harg2 arg3 harg3 arg4 harg4 arg5 harg5 arg6 harg6 arg7 harg7 hc0 x0 x1 x2 x3).2.1)

-- (the run's proof term is large: the definition's epilogue — `abstractNestedProofs` — walks it past the default budget)
set_option maxHeartbeats 1000000 in
/-- What the body's stores leave in each output's staging memref, as pieces (last first) IN CASE B (`scf.if` 0 not taken: points 1, 2, … 95: 95 of 96), WITH the
    proof that on whole staging memrefs — the inputs' at their contents, the outputs it reads before covering (5) at their running contents `xo·`, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun1_B (c : Dev nD) (i : grid1.Coords) (arg2 : Memref sig .tc .vmem S512x14336 .bf16) (harg2 : arg2.IsWhole) (arg3 : Memref sig .tc .vmem S512x14336 .fp8e4m3) (harg3 : arg3.IsWhole) (arg4 : Memref sig .tc .vmem S1x512 .f32) (harg4 : arg4.IsWhole) (arg5 : Memref sig .tc .vmem S512x512 .bf16) (harg5 : arg5.IsWhole) (arg6 : Memref sig .tc .vmem S512x512 .bf16) (harg6 : arg6.IsWhole) (arg7 : Memref sig .tc .vmem S8x128 .f32) (harg7 : arg7.IsWhole) (hc0 : ¬cond1_0 i)
    (x0 : Vec F S512x14336 .bf16) (x1 : Vec F S512x14336 .fp8e4m3) (x2 : Vec F S1x512 .f32) (x3 : Vec F S512x512 .bf16) (xo5 : Vec F S8x128 .f32) :
    Σ' (L4 : List (View.Piece (Elt F) S512x512 .bf16)), { L5 : List (View.Piece (Elt F) S8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xo5
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5)) -∗ K ⟨⟩))
          ⊢ wp frame (wpE (defs₀ (F := F)) Variants.none c none) E (cc1_lwc_fwd i arg2 harg2 arg3 harg3 arg4 harg4 arg5 harg5 arg6 harg6 arg7 harg7) K } := by
  refine ⟨?_, ?_, fun E K => ?run⟩
  case run =>
    simp only [cc1_lwc_fwd_eq_skeleton]; unfold cc1_lwc_fwd_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, Hk⟩
    obtain rfl := harg2.eq_unread hf0; obtain rfl := harg3.eq_unread hf1; obtain rfl := harg4.eq_unread hf2; obtain rfl := harg5.eq_unread hf3; obtain rfl := harg7.eq_unread hf5
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact H5

/-- Case B's pieces for output 4 tile its block (1 store of `S512x512`, checked by the kernel's evaluation: Lib/Ring.lean `Piece.tiledL`, linear in the pieces, through a loop's `@[irreducible]` trip theorem too), so they cover it. -/
theorem cover1_B_4 (c : Dev nD) (i : grid1.Coords) (arg2 : Memref sig .tc .vmem S512x14336 .bf16) (harg2 : arg2.IsWhole) (arg3 : Memref sig .tc .vmem S512x14336 .fp8e4m3) (harg3 : arg3.IsWhole) (arg4 : Memref sig .tc .vmem S1x512 .f32) (harg4 : arg4.IsWhole) (arg5 : Memref sig .tc .vmem S512x512 .bf16) (harg5 : arg5.IsWhole) (arg6 : Memref sig .tc .vmem S512x512 .bf16) (harg6 : arg6.IsWhole) (arg7 : Memref sig .tc .vmem S8x128 .f32) (harg7 : arg7.IsWhole) (hc0 : ¬cond1_0 i)
    (x0 : Vec F S512x14336 .bf16) (x1 : Vec F S512x14336 .fp8e4m3) (x2 : Vec F S1x512 .f32) (x3 : Vec F S512x512 .bf16) (xo5 : Vec F S8x128 .f32) (y : S512x512.Idx) :
    ∃ pc ∈ (kernelRun1_B c i arg2 harg2 arg3 harg3 arg4 harg4 arg5 harg5 arg6 harg6 arg7 harg7 hc0 x0 x1 x2 x3 xo5).1, y ∈ pc.1.set :=
  View.cover_of_tiledL (kernelRun1_B c i arg2 harg2 arg3 harg3 arg4 harg4 arg5 harg5 arg6 harg6 arg7 harg7 hc0 x0 x1 x2 x3 xo5).1 S512x512.size (by sl_kernel_rfl) y

/-- What case B leaves in output 4's staging buffer: its pieces read back over junk. -/
def out1_B_4 (c : Dev nD) (i : grid1.Coords) (arg2 : Memref sig .tc .vmem S512x14336 .bf16) (harg2 : arg2.IsWhole) (arg3 : Memref sig .tc .vmem S512x14336 .fp8e4m3) (harg3 : arg3.IsWhole) (arg4 : Memref sig .tc .vmem S1x512 .f32) (harg4 : arg4.IsWhole) (arg5 : Memref sig .tc .vmem S512x512 .bf16) (harg5 : arg5.IsWhole) (arg6 : Memref sig .tc .vmem S512x512 .bf16) (harg6 : arg6.IsWhole) (arg7 : Memref sig .tc .vmem S8x128 .f32) (harg7 : arg7.IsWhole) (hc0 : ¬cond1_0 i)
    (x0 : Vec F S512x14336 .bf16) (x1 : Vec F S512x14336 .fp8e4m3) (x2 : Vec F S1x512 .f32) (x3 : Vec F S512x512 .bf16) (xo5 : Vec F S8x128 .f32) : Vec F S512x512 .bf16 :=
  VO1_4.read (Elt F) (VO1_4.writes (Elt F) VO1_4.junk (kernelRun1_B c i arg2 harg2 arg3 harg3 arg4 harg4 arg5 harg5 arg6 harg6 arg7 harg7 hc0 x0 x1 x2 x3 xo5).1)

/-- Case B's pieces for output 5 tile its block (1 store of `S8x128`, checked by the kernel's evaluation: Lib/Ring.lean `Piece.tiledL`, linear in the pieces, through a loop's `@[irreducible]` trip theorem too), so they cover it. -/
theorem cover1_B_5 (c : Dev nD) (i : grid1.Coords) (arg2 : Memref sig .tc .vmem S512x14336 .bf16) (harg2 : arg2.IsWhole) (arg3 : Memref sig .tc .vmem S512x14336 .fp8e4m3) (harg3 : arg3.IsWhole) (arg4 : Memref sig .tc .vmem S1x512 .f32) (harg4 : arg4.IsWhole) (arg5 : Memref sig .tc .vmem S512x512 .bf16) (harg5 : arg5.IsWhole) (arg6 : Memref sig .tc .vmem S512x512 .bf16) (harg6 : arg6.IsWhole) (arg7 : Memref sig .tc .vmem S8x128 .f32) (harg7 : arg7.IsWhole) (hc0 : ¬cond1_0 i)
    (x0 : Vec F S512x14336 .bf16) (x1 : Vec F S512x14336 .fp8e4m3) (x2 : Vec F S1x512 .f32) (x3 : Vec F S512x512 .bf16) (xo5 : Vec F S8x128 .f32) (y : S8x128.Idx) :
    ∃ pc ∈ (kernelRun1_B c i arg2 harg2 arg3 harg3 arg4 harg4 arg5 harg5 arg6 harg6 arg7 harg7 hc0 x0 x1 x2 x3 xo5).2.1, y ∈ pc.1.set :=
  View.cover_of_tiledL (kernelRun1_B c i arg2 harg2 arg3 harg3 arg4 harg4 arg5 harg5 arg6 harg6 arg7 harg7 hc0 x0 x1 x2 x3 xo5).2.1 S8x128.size (by sl_kernel_rfl) y

/-- What case B leaves in output 5's staging buffer: its pieces read back over junk. -/
def out1_B_5 (c : Dev nD) (i : grid1.Coords) (arg2 : Memref sig .tc .vmem S512x14336 .bf16) (harg2 : arg2.IsWhole) (arg3 : Memref sig .tc .vmem S512x14336 .fp8e4m3) (harg3 : arg3.IsWhole) (arg4 : Memref sig .tc .vmem S1x512 .f32) (harg4 : arg4.IsWhole) (arg5 : Memref sig .tc .vmem S512x512 .bf16) (harg5 : arg5.IsWhole) (arg6 : Memref sig .tc .vmem S512x512 .bf16) (harg6 : arg6.IsWhole) (arg7 : Memref sig .tc .vmem S8x128 .f32) (harg7 : arg7.IsWhole) (hc0 : ¬cond1_0 i)
    (x0 : Vec F S512x14336 .bf16) (x1 : Vec F S512x14336 .fp8e4m3) (x2 : Vec F S1x512 .f32) (x3 : Vec F S512x512 .bf16) (xo5 : Vec F S8x128 .f32) : Vec F S8x128 .f32 :=
  VO1_5.read (Elt F) (VO1_5.writes (Elt F) VO1_5.junk (kernelRun1_B c i arg2 harg2 arg3 harg3 arg4 harg4 arg5 harg5 arg6 harg6 arg7 harg7 hc0 x0 x1 x2 x3 xo5).2.1)

/-! ## What the outputs hold after each point -/

/-- THE ACCUMULATION. What the outputs' staging buffers hold after the body at position `n` (a tuple, in window order):
    the case the closed forms select at `n`, run at the point's memrefs and input blocks, an output it reads before covering
    at what this leaves at `n - 1` (its buffer is not written back between: `before1_W_κ`). An assignment of the conditions no point meets is no case (`False.elim`). -/
def outsAt1 (c : Dev nD) : (n : ℕ) → n < cfg1.N → Vec F S512x512 .bf16 × Vec F S8x128 .f32
  | 0, hn => (out1_A_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩), out1_A_5 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩))
  | n + 1, hn =>
    if h0 : (n + 1) % 96 = 0 then
      (out1_A_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩), out1_A_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩))
    else
      (out1_B_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (fun h => h0 ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2, out1_B_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (fun h => h0 ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2)

/-- `outsAt1` at a point of case A: that case's contents. -/
theorem outsAt1_A (c : Dev nD) (t : Fin cfg1.N) (h0 : t.val % 96 = 0) :
    outsAt1 V c t.val t.isLt = (out1_A_4 c (grid1.coords t) (ms1_0 t) (hs1_0 t) (ms1_1 t) (hs1_1 t) (ms1_2 t) (hs1_2 t) (ms1_3 t) (hs1_3 t) (ms1_4 t) (hs1_4 t) (ms1_5 t) (hs1_5 t) ((hcond1_0 t).mpr h0) (iblk1 V c 0 t) (iblk1 V c 1 t) (iblk1 V c 2 t) (iblk1 V c 3 t), out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) ((hcond1_0 t).mpr h0) (iblk1 V c 0 t) (iblk1 V c 1 t) (iblk1 V c 2 t) (iblk1 V c 3 t)) := by
  obtain ⟨n, hn⟩ := t
  cases n with
  | zero => exact rfl
  | succ n => exact (dif_pos h0).trans rfl

/-- `outsAt1` at a point of case B: that case's contents, over what the point before left. -/
theorem outsAt1_B (c : Dev nD) (t : Fin cfg1.N) (h0 : ¬t.val % 96 = 0) :
    outsAt1 V c t.val t.isLt = (out1_B_4 c (grid1.coords t) (ms1_0 t) (hs1_0 t) (ms1_1 t) (hs1_1 t) (ms1_2 t) (hs1_2 t) (ms1_3 t) (hs1_3 t) (ms1_4 t) (hs1_4 t) (ms1_5 t) (hs1_5 t) (fun h => h0 ((hcond1_0 t).mp h)) (iblk1 V c 0 t) (iblk1 V c 1 t) (iblk1 V c 2 t) (iblk1 V c 3 t) (outsAt1 V c (t.val - 1) (Nat.lt_of_le_of_lt (Nat.sub_le _ _) t.isLt)).2, out1_B_5 c (grid1.coords t) (ms1_0 t) (hs1_0 t) (ms1_1 t) (hs1_1 t) (ms1_2 t) (hs1_2 t) (ms1_3 t) (hs1_3 t) (ms1_4 t) (hs1_4 t) (ms1_5 t) (hs1_5 t) (fun h => h0 ((hcond1_0 t).mp h)) (iblk1 V c 0 t) (iblk1 V c 1 t) (iblk1 V c 2 t) (iblk1 V c 3 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The pipeline's proof data -/

/-- The proof data of pipeline 1 on core `c`: the arrays as the region finds them (`V`); after the body at
    point `t` each input's buffer at its block and the outputs' at `outsAt1`; the invariant the class's
    (Lib/Pipeline/Frame.lean `ΦA`: the scoped rest and the generator register); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
    | ⟨5, _⟩ => (outsAt1 V c t.val t.isLt).2
  Φ _ := Pipeline.ΦA spec1 c
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]
theorem after1_5 (c : Dev nD) (t : Fin cfg1.N) : (dat1 V c).after 5 t = (outsAt1 V c t.val t.isLt).2 := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
/-- At a point of case B output 5's current staging buffer holds what the body left at the point before: the point is
    not the first, the buffer was not written back between (`flush1_5`), the window is live and uncut (Lib/Pipeline/Frame.lean
    `Dat.before_out_kept`). -/
theorem before1_5_B (c : Dev nD) (t : Fin cfg1.N) (h0 : ¬t.val % 96 = 0) (d) :
    (dat1 V c).before 5 t d = (outsAt1 V c (t.val - 1) (Nat.lt_of_le_of_lt (Nat.sub_le _ _) t.isLt)).2 := by
  have hN : t.val < 96 := lt_of_lt_of_eq t.isLt (show cfg1.N = 96 from N_1)
  rw [Dat.before_out_kept _ 5 rfl t (by omega) (Bool.eq_false_iff.mpr fun h => by have := (flush1_5 _).mp h; dsimp only at this; omega)
    (fun _ => rfl) (fun _ _ => rfl)]
  dsimp only [dat1]

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t))

set_option maxHeartbeats 800000 in
/-- The body at any point: the inputs' memrefs hold their blocks (`before1_W`); the closed forms say which case the point is in (`by_cases`), an output the case reads before covering holds what the point before left (`before1_W_κ`); so the
    run applies; the invariant passes through unread; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4, after1_5]
  have hN : t.val < 96 := lt_of_lt_of_eq t.isLt (show cfg1.N = 96 from N_1)
  by_cases h0 : t.val % 96 = 0
  · rw [outsAt1_A V c t h0]
    unfold out1_A_4 out1_A_5; (try dsimp only)
    iintro ⟨HΦ, Ho, ⟨%d0, H0⟩, ⟨%d1, H1⟩, ⟨%d2, H2⟩, ⟨%d3, H3⟩, ⟨%d4, H4⟩, ⟨%d5, H5⟩⟩
    iapply ((kernelRun1_A c (grid1.coords t) _ _ _ _ _ _ _ _ _ _ _ _ ((hcond1_0 t).mpr h0) (iblk1 V c 0 t) (iblk1 V c 1 t) (iblk1 V c 2 t) (iblk1 V c 3 t)).2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    iintro ⟨H0, H1, H2, H3, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover1_A_4 c _ _ _ _ _ _ _ _ _ _ _ _ _ _ _ _ _ _)
    unfold owns; iexists _; isplitr
    swap; · iexact H5
    ipureintro; exact View.read_writes_of_cover _ _ _ _ _ (cover1_A_5 c _ _ _ _ _ _ _ _ _ _ _ _ _ _ _ _ _ _)
  · rw [outsAt1_B V c t h0]
    simp only [before1_5_B V c t h0]
    unfold out1_B_4 out1_B_5; (try dsimp only)
    iintro ⟨HΦ, Ho, ⟨%d0, H0⟩, ⟨%d1, H1⟩, ⟨%d2, H2⟩, ⟨%d3, H3⟩, ⟨%d4, H4⟩, ⟨%d5, H5⟩⟩
    iapply ((kernelRun1_B c (grid1.coords t) _ _ _ _ _ _ _ _ _ _ _ _ (fun h => h0 ((hcond1_0 t).mp h)) (iblk1 V c 0 t) (iblk1 V c 1 t) (iblk1 V c 2 t) (iblk1 V c 3 t) _).2.2 Set.univ _)
    isplitl [H0]; · iexact H0
    isplitl [H1]; · iexact H1
    isplitl [H2]; · iexact H2
    isplitl [H3]; · iexact H3
    isplitl [H4]; · iexists _; iexact H4
    isplitl [H5]; · iexact H5
    iintro ⟨H0, H1, H2, H3, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover1_B_4 c _ _ _ _ _ _ _ _ _ _ _ _ _ _ _ _ _ _ _)
    unfold owns; iexists _; isplitr
    swap; · iexact H5
    ipureintro; exact View.read_writes_of_cover _ _ _ _ _ (cover1_B_5 c _ _ _ _ _ _ _ _ _ _ _ _ _ _ _ _ _ _ _)

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Cert.KernelIdeal.Run

end
-- ==== Proof.KernelIdealBwd.lean ====
/- The third call (the backward product and the two gradients): its scratch carries the row sums from point to
   point, each point writing four lanes, and the results are stored at the last point of each row block. What the body
   leaves, and its body obligation, at arbitrary entry contents `V` and any float instance `F`. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp
public import Idealize.ShloMosaic.Lib.Pipeline.Value
public import Idealize.ShloMosaic.Lib.ValueIdx
public import Idealize.ShloMosaic.Lib.Pointwise

@[expose] public section

-- membership in a rectangle of production extents (`View.cover_of_tiled`): the elaborator's structural look
-- recurses once per coordinate of the long axes
set_option maxRecDepth 16384

noncomputable section

namespace Cert.KernelIdeal.Run

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # REGION 2 of @main: custom_call 2, `cc2_lwc_bwd` (pipeline 2), at the entry contents `V` -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_8_of {c : Dev nD} (dat : Dat τ (Elt F) Unit ℕ (UR sig nD τ) ℕ cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

abbrev r2_0 : Rect S512x6144 := Rect.unit (s := S512x6144) ![0, 0] S512x6144.size inb_S512x6144_S512x6144_0_0
abbrev r2_1 : Rect S6144x512 := Rect.unit (s := S6144x512) ![0, 0] S6144x512.size inb_S6144x512_S6144x512_0_0
abbrev r2_2 : Rect S512x112 := Rect.unit (s := S512x112) ![0, 0] S512x112.size inb_S512x112_S512x112_0_0
abbrev r2_3 : Rect S512x512 := Rect.unit (s := S512x512) ![0, 0] S512x128.size inb_S512x512_S512x128_0_0
abbrev r2_4 : Rect S512x512 := Rect.unit (s := S512x512) ![0, 128] S512x128.size inb_S512x512_S512x128_0_128
abbrev r2_5 : Rect S512x512 := Rect.unit (s := S512x512) ![0, 256] S512x128.size inb_S512x512_S512x128_0_256
abbrev r2_6 : Rect S512x512 := Rect.unit (s := S512x512) ![0, 384] S512x128.size inb_S512x512_S512x128_0_384

/-! ## The row sums of one point, and the lanes they are written to

The body keeps a running array of 112 row sums per row (the scratch). At point `(·, j)` it computes four of them, the
groups `4j … 4j+3`, and writes each into its own lane by a select over the lane number; every other lane keeps what
the scratch held. -/

/-- The scratch after the first of the four groups. -/
def sA (i : grid2.Coords) (x0 : Vec F S512x6144 .bf16) (x1 : Vec F S6144x512 .fp8e4m3) (x2 : Vec F S512x512 .f32) (x3 : Vec F S512x112 .f32) (x4 : Vec F S512x112 .f32) (s : Vec F S512x112 .f32) : FVec F S512x112 .f32 :=
  k2_pay14 (k2_pay5 (View.ld x0 r2_0) (View.ld x1 r2_1)) (View.ld s r2_2) (k2_pay8 i) (k2_pay10 i (View.ld x3 r2_2) (View.ld x2 r2_3))
    (k2_pay11 i (View.ld x3 r2_2) (View.ld x4 r2_2) (View.ld x2 r2_3)) (k2_pay12 i (View.ld x3 r2_2) (View.ld x4 r2_2) (View.ld x2 r2_3)) (k2_pay13 (F := F))
/-- The lane numbers, and the grid's second coordinate as a word. -/
abbrev lanes2 : IVec S512x112 32 := iota .tc S512x112 32 [1] iota_S512x112_d1_w32
abbrev jw (i : grid2.Coords) : BitVec 32 := BitVec.ofNat 32 (i 1).val
/-- The scratch after the second group. -/
def sB (i : grid2.Coords) (x0 : Vec F S512x6144 .bf16) (x1 : Vec F S6144x512 .fp8e4m3) (x2 : Vec F S512x512 .f32) (x3 : Vec F S512x112 .f32) (x4 : Vec F S512x112 .f32) (s : Vec F S512x112 .f32) : FVec F S512x112 .f32 :=
  k2_pay22 (k2_pay5 (View.ld x0 r2_0) (View.ld x1 r2_1)) (sA i x0 x1 x2 x3 x4 s) (k2_pay15 (jw i) lanes2) (k2_pay17 (jw i) lanes2 (k2_pay6 (View.ld x3 r2_2)) (View.ld x2 r2_4))
    (k2_pay19 (jw i) lanes2 (k2_pay6 (View.ld x3 r2_2)) (k2_pay7 (View.ld x4 r2_2)) (View.ld x2 r2_4)) (k2_pay20 (jw i) lanes2 (k2_pay6 (View.ld x3 r2_2)) (k2_pay7 (View.ld x4 r2_2)) (View.ld x2 r2_4))
    (k2_pay21 (jw i) lanes2 (k2_pay6 (View.ld x3 r2_2)) (k2_pay7 (View.ld x4 r2_2)) (View.ld x2 r2_4))
/-- The scratch after the third group. -/
def sC (i : grid2.Coords) (x0 : Vec F S512x6144 .bf16) (x1 : Vec F S6144x512 .fp8e4m3) (x2 : Vec F S512x512 .f32) (x3 : Vec F S512x112 .f32) (x4 : Vec F S512x112 .f32) (s : Vec F S512x112 .f32) : FVec F S512x112 .f32 :=
  k2_pay29 (k2_pay5 (View.ld x0 r2_0) (View.ld x1 r2_1)) (sB i x0 x1 x2 x3 x4 s) (k2_pay23 (jw i) lanes2) (k2_pay27 (jw i) lanes2 (k2_pay6 (View.ld x3 r2_2)) (k2_pay7 (View.ld x4 r2_2)) (View.ld x2 r2_5))
    (k2_pay28 (jw i) lanes2 (k2_pay6 (View.ld x3 r2_2)) (k2_pay7 (View.ld x4 r2_2)) (View.ld x2 r2_5))
/-- The fourth group's `u` less its in-range part. -/
def sK (i : grid2.Coords) (x0 : Vec F S512x6144 .bf16) (x1 : Vec F S6144x512 .fp8e4m3) (x2 : Vec F S512x512 .f32) (x3 : Vec F S512x112 .f32) (x4 : Vec F S512x112 .f32) : FVec F S512x128 .f32 :=
  k2_pay31 (jw i) lanes2 (k2_pay6 (View.ld x3 r2_2)) (k2_pay7 (View.ld x4 r2_2)) (View.ld x2 r2_6)
/-- The scratch after all four groups: what the point leaves in it. -/
def sD (i : grid2.Coords) (x0 : Vec F S512x6144 .bf16) (x1 : Vec F S6144x512 .fp8e4m3) (x2 : Vec F S512x512 .f32) (x3 : Vec F S512x112 .f32) (x4 : Vec F S512x112 .f32) (s : Vec F S512x112 .f32) : FVec F S512x112 .f32 :=
  k2_pay1 (sC i x0 x1 x2 x3 x4 s) (k2_pay30 (jw i) lanes2) (sK i x0 x1 x2 x3 x4) (k2_pay32 (k2_pay5 (View.ld x0 r2_0) (View.ld x1 r2_1))) (k2_pay33 (F := F))

/-- What the store of the scratch leaves, as a piece. -/
def sout2 (i : grid2.Coords) (x0 : Vec F S512x6144 .bf16) (x1 : Vec F S6144x512 .fp8e4m3) (x2 : Vec F S512x512 .f32) (x3 : Vec F S512x112 .f32) (x4 : Vec F S512x112 .f32) (s : Vec F S512x112 .f32) : Vec F S512x112 .f32 :=
  View.canon [⟨r2_2, k2_pay2 (sC i x0 x1 x2 x3 x4 s) (k2_pay30 (jw i) lanes2) (sK i x0 x1 x2 x3 x4) (k2_pay32 (k2_pay5 (View.ld x0 r2_0) (View.ld x1 r2_1))) (k2_pay33 (F := F))⟩]
/-- What the last point of a row block leaves in window 9's buffer (`dgamma`), -/
def out2_9 (i : grid2.Coords) (x0 : Vec F S512x6144 .bf16) (x1 : Vec F S6144x512 .fp8e4m3) (x2 : Vec F S512x512 .f32) (x3 : Vec F S512x112 .f32) (x4 : Vec F S512x112 .f32) (x5 : Vec F S512x112 .f32) (x6 : Vec F S512x112 .f32) (x7 : Vec F S512x112 .f32) (x8 : Vec F S512x112 .f32) (s : Vec F S512x112 .f32) : Vec F S512x112 .f32 :=
  View.canon [⟨r2_2, k2_pay3 (sC i x0 x1 x2 x3 x4 s) (k2_pay30 (jw i) lanes2) (sK i x0 x1 x2 x3 x4) (k2_pay32 (k2_pay5 (View.ld x0 r2_0) (View.ld x1 r2_1))) (k2_pay33 (F := F)) (View.ld x7 r2_2) (View.ld x5 r2_2)⟩]
/-- and in window 10's (`dbeta`). -/
def out2_10 (i : grid2.Coords) (x0 : Vec F S512x6144 .bf16) (x1 : Vec F S6144x512 .fp8e4m3) (x2 : Vec F S512x512 .f32) (x3 : Vec F S512x112 .f32) (x4 : Vec F S512x112 .f32) (x5 : Vec F S512x112 .f32) (x6 : Vec F S512x112 .f32) (x7 : Vec F S512x112 .f32) (x8 : Vec F S512x112 .f32) (s : Vec F S512x112 .f32) : Vec F S512x112 .f32 :=
  View.canon [⟨r2_2, k2_pay4 (sC i x0 x1 x2 x3 x4 s) (k2_pay30 (jw i) lanes2) (sK i x0 x1 x2 x3 x4) (k2_pay32 (k2_pay5 (View.ld x0 r2_0) (View.ld x1 r2_1))) (k2_pay33 (F := F)) (View.ld x8 r2_2) (View.ld x6 r2_2)⟩]

/-- A whole-buffer store covers the buffer. -/
theorem cover2 (p0 : Vec F S512x112 .f32) (y : S512x112.Idx) :
    ∃ pc ∈ ([⟨r2_2, p0⟩] : List (View.Piece (Elt F) S512x112 .f32)), y ∈ pc.1.set :=
  View.cover_of_tiled [⟨r2_2, p0⟩] S512x112.size (by rfl) y

theorem off_zero : ∀ a : Fin S512x112.rank, (![0, 0] : Fin 2 → ℕ) a = 0 := by decide

/-- The scratch is left at `sD`. -/
theorem sout2_eq (i : grid2.Coords) (x0 : Vec F S512x6144 .bf16) (x1 : Vec F S6144x512 .fp8e4m3) (x2 : Vec F S512x512 .f32) (x3 : Vec F S512x112 .f32) (x4 : Vec F S512x112 .f32) (s : Vec F S512x112 .f32) : sout2 i x0 x1 x2 x3 x4 s = sD i x0 x1 x2 x3 x4 s :=
  (View.canon_unit_zero (funext off_zero) _ _).trans (shapeCast_self _ _)

/-! ### The lanes -/

/-- The select of lane `4j + k` at the lane `y`: its word comparison, as numbers. -/
theorem pick_iff (i : grid2.Coords) (k : ℕ) (hk : k < 4) (y : S512x112.Idx) :
    IntOp.cmpi .eq (BitVec.ofNat 32 (y 1).val) (Scalar.addi (Scalar.muli (jw i) 4#32) (BitVec.ofNat 32 k)) = 1 ↔ (y 1).val = 4 * (i 1).val + k := by
  have hy : (y 1).val < 112 := (y 1).isLt
  have hi : (i 1).val < 28 := (i 1).isLt
  have e : (Scalar.addi (Scalar.muli (jw i) 4#32) (BitVec.ofNat 32 k)) = BitVec.ofNat 32 (4 * (i 1).val + k) := by
    apply BitVec.eq_of_toNat_eq
    simp only [Scalar.addi, Scalar.muli, IntOp.addi, IntOp.muli, jw, BitVec.toNat_add, BitVec.toNat_mul, BitVec.toNat_ofNat]
    omega
  rw [e]
  unfold IntOp.cmpi
  constructor
  · intro h
    have h' : (BitVec.ofNat 32 (y 1).val == BitVec.ofNat 32 (4 * (i 1).val + k)) = true := by
      revert h; cases (BitVec.ofNat 32 (y 1).val == BitVec.ofNat 32 (4 * (i 1).val + k)) <;> simp
    have h2 := congrArg BitVec.toNat (beq_iff_eq.mp h')
    simp only [BitVec.toNat_ofNat] at h2
    omega
  · intro h
    rw [h]; simp

theorem pickA (i : grid2.Coords) (y : S512x112.Idx) : k2_pay8 i y = 1 ↔ (y 1).val = 4 * (i 1).val + 0 := by
  rw [← pick_iff i 0 (by omega) y]
  unfold k2_pay8
  simp only [cmpi_apply, iota_apply, List.foldl_cons, List.foldl_nil, Nat.zero_mul, Nat.zero_add]; exact Iff.rfl
theorem pickB (i : grid2.Coords) (y : S512x112.Idx) : k2_pay15 (jw i) lanes2 y = 1 ↔ (y 1).val = 4 * (i 1).val + 1 := by
  rw [← pick_iff i 1 (by omega) y]
  unfold k2_pay15
  simp only [cmpi_apply, iota_apply, List.foldl_cons, List.foldl_nil, Nat.zero_mul, Nat.zero_add]; exact Iff.rfl
theorem pickC (i : grid2.Coords) (y : S512x112.Idx) : k2_pay23 (jw i) lanes2 y = 1 ↔ (y 1).val = 4 * (i 1).val + 2 := by
  rw [← pick_iff i 2 (by omega) y]
  unfold k2_pay23
  simp only [cmpi_apply, iota_apply, List.foldl_cons, List.foldl_nil, Nat.zero_mul, Nat.zero_add]; exact Iff.rfl
theorem pickD (i : grid2.Coords) (y : S512x112.Idx) : k2_pay30 (jw i) lanes2 y = 1 ↔ (y 1).val = 4 * (i 1).val + 3 := by
  rw [← pick_iff i 3 (by omega) y]
  unfold k2_pay30
  simp only [cmpi_apply, iota_apply, List.foldl_cons, List.foldl_nil, Nat.zero_mul, Nat.zero_add]; exact Iff.rfl

/-- Each of the four writes is a select: on its lane a value the scratch does not enter, elsewhere the scratch. -/
theorem sA_at (i : grid2.Coords) (x0 : Vec F S512x6144 .bf16) (x1 : Vec F S6144x512 .fp8e4m3) (x2 : Vec F S512x512 .f32) (x3 : Vec F S512x112 .f32) (x4 : Vec F S512x112 .f32) (y : S512x112.Idx) : ∃ v, ∀ s : Vec F S512x112 .f32,
    sA i x0 x1 x2 x3 x4 s y = if (y 1).val = 4 * (i 1).val + 0 then v else s y :=
  ⟨_, fun s => (if_congr (pickA i y) rfl (by rw [View.ld_unit_zero (funext off_zero)]))⟩
theorem sB_at (i : grid2.Coords) (x0 : Vec F S512x6144 .bf16) (x1 : Vec F S6144x512 .fp8e4m3) (x2 : Vec F S512x512 .f32) (x3 : Vec F S512x112 .f32) (x4 : Vec F S512x112 .f32) (y : S512x112.Idx) : ∃ v, ∀ s : Vec F S512x112 .f32,
    sB i x0 x1 x2 x3 x4 s y = if (y 1).val = 4 * (i 1).val + 1 then v else sA i x0 x1 x2 x3 x4 s y :=
  ⟨_, fun s => (if_congr (pickB i y) rfl rfl)⟩
theorem sC_at (i : grid2.Coords) (x0 : Vec F S512x6144 .bf16) (x1 : Vec F S6144x512 .fp8e4m3) (x2 : Vec F S512x512 .f32) (x3 : Vec F S512x112 .f32) (x4 : Vec F S512x112 .f32) (y : S512x112.Idx) : ∃ v, ∀ s : Vec F S512x112 .f32,
    sC i x0 x1 x2 x3 x4 s y = if (y 1).val = 4 * (i 1).val + 2 then v else sB i x0 x1 x2 x3 x4 s y :=
  ⟨_, fun s => (if_congr (pickC i y) rfl rfl)⟩
theorem sD_at (i : grid2.Coords) (x0 : Vec F S512x6144 .bf16) (x1 : Vec F S6144x512 .fp8e4m3) (x2 : Vec F S512x512 .f32) (x3 : Vec F S512x112 .f32) (x4 : Vec F S512x112 .f32) (y : S512x112.Idx) : ∃ v, ∀ s : Vec F S512x112 .f32,
    sD i x0 x1 x2 x3 x4 s y = if (y 1).val = 4 * (i 1).val + 3 then v else sC i x0 x1 x2 x3 x4 s y :=
  ⟨_, fun s => (if_congr (pickD i y) rfl rfl)⟩

/-- On the point's own four lanes what it leaves does not depend on the scratch; -/
theorem sD_own (i : grid2.Coords) (x0 : Vec F S512x6144 .bf16) (x1 : Vec F S6144x512 .fp8e4m3) (x2 : Vec F S512x512 .f32) (x3 : Vec F S512x112 .f32) (x4 : Vec F S512x112 .f32) (y : S512x112.Idx) (h : (y 1).val / 4 = (i 1).val) (s s' : Vec F S512x112 .f32) :
    sD i x0 x1 x2 x3 x4 s y = sD i x0 x1 x2 x3 x4 s' y := by
  obtain ⟨a, ha⟩ := sA_at i x0 x1 x2 x3 x4 y; obtain ⟨b, hb⟩ := sB_at i x0 x1 x2 x3 x4 y; obtain ⟨d, hd⟩ := sC_at i x0 x1 x2 x3 x4 y; obtain ⟨e, he⟩ := sD_at i x0 x1 x2 x3 x4 y
  rw [he, he, hd, hd, hb, hb, ha, ha]
  split_ifs <;> first | rfl | omega
/-- on every other lane it is the scratch. -/
theorem sD_other (i : grid2.Coords) (x0 : Vec F S512x6144 .bf16) (x1 : Vec F S6144x512 .fp8e4m3) (x2 : Vec F S512x512 .f32) (x3 : Vec F S512x112 .f32) (x4 : Vec F S512x112 .f32) (y : S512x112.Idx) (h : (y 1).val / 4 ≠ (i 1).val) (s : Vec F S512x112 .f32) :
    sD i x0 x1 x2 x3 x4 s y = s y := by
  obtain ⟨a, ha⟩ := sA_at i x0 x1 x2 x3 x4 y; obtain ⟨b, hb⟩ := sB_at i x0 x1 x2 x3 x4 y; obtain ⟨d, hd⟩ := sC_at i x0 x1 x2 x3 x4 y; obtain ⟨e, he⟩ := sD_at i x0 x1 x2 x3 x4 y
  rw [he, hd, hb, ha]
  split_ifs <;> first | rfl | omega

/-- The results depend on the scratch through `sD` alone. -/
theorem out2_9_congr (i : grid2.Coords) (x0 : Vec F S512x6144 .bf16) (x1 : Vec F S6144x512 .fp8e4m3) (x2 : Vec F S512x512 .f32) (x3 : Vec F S512x112 .f32) (x4 : Vec F S512x112 .f32) (x5 : Vec F S512x112 .f32) (x6 : Vec F S512x112 .f32) (x7 : Vec F S512x112 .f32) (x8 : Vec F S512x112 .f32) (s s' : Vec F S512x112 .f32) (h : sD i x0 x1 x2 x3 x4 s = sD i x0 x1 x2 x3 x4 s') :
    out2_9 i x0 x1 x2 x3 x4 x5 x6 x7 x8 s = out2_9 i x0 x1 x2 x3 x4 x5 x6 x7 x8 s' := by
  unfold out2_9 k2_pay3; unfold sD at h; rw [h]
theorem out2_10_congr (i : grid2.Coords) (x0 : Vec F S512x6144 .bf16) (x1 : Vec F S6144x512 .fp8e4m3) (x2 : Vec F S512x512 .f32) (x3 : Vec F S512x112 .f32) (x4 : Vec F S512x112 .f32) (x5 : Vec F S512x112 .f32) (x6 : Vec F S512x112 .f32) (x7 : Vec F S512x112 .f32) (x8 : Vec F S512x112 .f32) (s s' : Vec F S512x112 .f32) (h : sD i x0 x1 x2 x3 x4 s = sD i x0 x1 x2 x3 x4 s') :
    out2_10 i x0 x1 x2 x3 x4 x5 x6 x7 x8 s = out2_10 i x0 x1 x2 x3 x4 x5 x6 x7 x8 s' := by
  unfold out2_10 k2_pay4; unfold sD at h; rw [h]

/-! ## The body's triples -/

set_option maxHeartbeats 1000000 in
/-- The body at a point that does not close a row block: the inputs as they were, the scratch from `s` to `sout2` of `s` (the results untouched). -/
theorem sound_kernel2_B (c : Dev nD) (E : Set ℕ) (i : grid2.Coords) (arg2 : Memref sig .tc .vmem S512x6144 .bf16) (harg2 : arg2.IsWhole) (arg3 : Memref sig .tc .vmem S6144x512 .fp8e4m3) (harg3 : arg3.IsWhole) (arg4 : Memref sig .tc .vmem S512x512 .f32) (harg4 : arg4.IsWhole) (arg5 : Memref sig .tc .vmem S512x112 .f32) (harg5 : arg5.IsWhole) (arg6 : Memref sig .tc .vmem S512x112 .f32) (harg6 : arg6.IsWhole) (arg7 : Memref sig .tc .vmem S512x112 .f32) (harg7 : arg7.IsWhole) (arg8 : Memref sig .tc .vmem S512x112 .f32) (harg8 : arg8.IsWhole) (arg9 : Memref sig .tc .vmem S512x112 .f32) (harg9 : arg9.IsWhole) (arg10 : Memref sig .tc .vmem S512x112 .f32) (harg10 : arg10.IsWhole) (arg11 : Memref sig .tc .vmem S512x112 .f32) (harg11 : arg11.IsWhole) (arg12 : Memref sig .tc .vmem S512x112 .f32) (harg12 : arg12.IsWhole) (arg13 : Memref sig .tc .vmem S512x112 .f32) (harg13 : arg13.IsWhole) (hc : ¬ (k2_cond1 i = 1#1))
    (x0 : Vec F S512x6144 .bf16) (x1 : Vec F S6144x512 .fp8e4m3) (x2 : Vec F S512x512 .f32) (x3 : Vec F S512x112 .f32) (x4 : Vec F S512x112 .f32) (x5 : Vec F S512x112 .f32) (x6 : Vec F S512x112 .f32) (x7 : Vec F S512x112 .f32) (x8 : Vec F S512x112 .f32) (s : Vec F S512x112 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg13 fullShare s ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg13 fullShare (sout2 i x0 x1 x2 x3 x4 s)) -∗ K ⟨⟩))
      ⊢ wp frame (wpE (defs₀ (F := F)) Variants.none c none) E (cc2_lwc_bwd i arg2 harg2 arg3 harg3 arg4 harg4 arg5 harg5 arg6 harg6 arg7 harg7 arg8 harg8 arg9 harg9 arg10 harg10 arg11 harg11 arg12 harg12 arg13 harg13) K := by
  simp only [cc2_lwc_bwd_eq_skeleton]; unfold cc2_lwc_bwd_skel
  simp only [k2_part1_eq_skeleton, k2_part2_eq_skeleton, k2_part3_eq_skeleton, k2_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs, %hfs, HS⟩, Hk⟩
  subst hf0 hf1 hf2 hf3 hf4 hf5 hf6 hf7 hf8 hfs
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact HS
  ipureintro
  refine (View.read_writes_eq_canon _ _ _ (cover2 _)).trans ?_
  rfl

set_option maxHeartbeats 1000000 in
/-- The body at a point that closes a row block: the inputs as they were, the scratch from `s` to `sout2` of `s`, the results stored. -/
theorem sound_kernel2_C (c : Dev nD) (E : Set ℕ) (i : grid2.Coords) (arg2 : Memref sig .tc .vmem S512x6144 .bf16) (harg2 : arg2.IsWhole) (arg3 : Memref sig .tc .vmem S6144x512 .fp8e4m3) (harg3 : arg3.IsWhole) (arg4 : Memref sig .tc .vmem S512x512 .f32) (harg4 : arg4.IsWhole) (arg5 : Memref sig .tc .vmem S512x112 .f32) (harg5 : arg5.IsWhole) (arg6 : Memref sig .tc .vmem S512x112 .f32) (harg6 : arg6.IsWhole) (arg7 : Memref sig .tc .vmem S512x112 .f32) (harg7 : arg7.IsWhole) (arg8 : Memref sig .tc .vmem S512x112 .f32) (harg8 : arg8.IsWhole) (arg9 : Memref sig .tc .vmem S512x112 .f32) (harg9 : arg9.IsWhole) (arg10 : Memref sig .tc .vmem S512x112 .f32) (harg10 : arg10.IsWhole) (arg11 : Memref sig .tc .vmem S512x112 .f32) (harg11 : arg11.IsWhole) (arg12 : Memref sig .tc .vmem S512x112 .f32) (harg12 : arg12.IsWhole) (arg13 : Memref sig .tc .vmem S512x112 .f32) (harg13 : arg13.IsWhole) (hc : (k2_cond1 i = 1#1))
    (x0 : Vec F S512x6144 .bf16) (x1 : Vec F S6144x512 .fp8e4m3) (x2 : Vec F S512x512 .f32) (x3 : Vec F S512x112 .f32) (x4 : Vec F S512x112 .f32) (x5 : Vec F S512x112 .f32) (x6 : Vec F S512x112 .f32) (x7 : Vec F S512x112 .f32) (x8 : Vec F S512x112 .f32) (s : Vec F S512x112 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ owns (c : Thread nD τ) arg13 fullShare s ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare (out2_9 i x0 x1 x2 x3 x4 x5 x6 x7 x8 s) ∗ owns (c : Thread nD τ) arg12 fullShare (out2_10 i x0 x1 x2 x3 x4 x5 x6 x7 x8 s) ∗ owns (c : Thread nD τ) arg13 fullShare (sout2 i x0 x1 x2 x3 x4 s)) -∗ K ⟨⟩))
      ⊢ wp frame (wpE (defs₀ (F := F)) Variants.none c none) E (cc2_lwc_bwd i arg2 harg2 arg3 harg3 arg4 harg4 arg5 harg5 arg6 harg6 arg7 harg7 arg8 harg8 arg9 harg9 arg10 harg10 arg11 harg11 arg12 harg12 arg13 harg13) K := by
  simp only [cc2_lwc_bwd_eq_skeleton]; unfold cc2_lwc_bwd_skel
  simp only [k2_part1_eq_skeleton, k2_part2_eq_skeleton, k2_part3_eq_skeleton, k2_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%fs, %hfs, HS⟩, Hk⟩
  subst hf0 hf1 hf2 hf3 hf4 hf5 hf6 hf7 hf8 hfs
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    refine (View.read_writes_eq_canon _ _ _ (cover2 _)).trans ?_
    rfl
  isplitl [H10]
  · iexists _; isplitr
    swap; · iexact H10
    ipureintro
    refine (View.read_writes_eq_canon _ _ _ (cover2 _)).trans ?_
    rfl
  iexists _; isplitr
  swap; · iexact HS
  ipureintro
  refine (View.read_writes_eq_canon _ _ _ (cover2 _)).trans ?_
  rfl

/-! ## The carried scratch -/

/-- The scratch operand as the body is handed it. -/
abbrev scM2 : Memref sig .tc .vmem S512x112 .f32 := Memref.whole cc2_scratch0

/-- The row sums after `n` points, started from arbitrary contents: on the lanes a row block has written, what the
    scratch holds (`Good`). -/
def sdet (c : Dev nD) : ℕ → Vec F S512x112 .f32
  | 0 => fun _ => Scalar.ofBits .f32 0x00000000#32
  | n + 1 => if h : n < cfg2.N then
      let t : Fin cfg2.N := ⟨n, h⟩
      sD (grid2.coords t) (iblk2 V c 0 t) (iblk2 V c 1 t) (iblk2 V c 2 t) (iblk2 V c 3 t) (iblk2 V c 4 t) (sdet c n)
    else sdet c n
theorem sdet_succ (c : Dev nD) (t : Fin cfg2.N) :
    sdet V c (t.val + 1) = sD (grid2.coords t) (iblk2 V c 0 t) (iblk2 V c 1 t) (iblk2 V c 2 t) (iblk2 V c 3 t) (iblk2 V c 4 t) (sdet V c t.val) := by
  rw [sdet]; exact dif_pos t.isLt

/-- `s` agrees with the tracked contents on the lanes the current row block has written so far. -/
def Good (c : Dev nD) (n : ℕ) (s : Vec F S512x112 .f32) : Prop := ∀ y : S512x112.Idx, (y 1).val < 4 * (n % 28) → s y = sdet V c n y

theorem coords2_1 (t : Fin cfg2.N) : (grid2.coords t 1).val = t.val % 28 := by
  have e : (grid2.coords t 1).val = t.val / 1 % 28 := Pipeline.Grid.coords_val t 1 (by decide) rfl
  rw [e, Nat.div_one]

/-- The agreement before a point gives it on four lanes more after it, -/
theorem Good.lanes {c : Dev nD} (t : Fin cfg2.N) {s : Vec F S512x112 .f32} (h : Good V c t.val s) (y : S512x112.Idx) (hy : (y 1).val < 4 * (t.val % 28 + 1)) :
    sD (grid2.coords t) (iblk2 V c 0 t) (iblk2 V c 1 t) (iblk2 V c 2 t) (iblk2 V c 3 t) (iblk2 V c 4 t) s y = sdet V c (t.val + 1) y := by
  rw [sdet_succ]
  by_cases hj : (y 1).val / 4 = (grid2.coords t 1).val
  · exact sD_own _ _ _ _ _ _ y hj _ _
  · rw [sD_other _ _ _ _ _ _ y hj, sD_other _ _ _ _ _ _ y hj]
    rw [coords2_1] at hj
    exact h y (by omega)
/-- so it is kept by the point, -/
theorem Good.succ {c : Dev nD} (t : Fin cfg2.N) {s : Vec F S512x112 .f32} (h : Good V c t.val s) :
    Good V c (t.val + 1) (sD (grid2.coords t) (iblk2 V c 0 t) (iblk2 V c 1 t) (iblk2 V c 2 t) (iblk2 V c 3 t) (iblk2 V c 4 t) s) := by
  intro y hy
  exact Good.lanes V t h y (by omega)
/-- and at the last point of a row block every lane agrees. -/
theorem Good.full {c : Dev nD} (t : Fin cfg2.N) (ht : t.val % 28 = 27) {s : Vec F S512x112 .f32} (h : Good V c t.val s) :
    sD (grid2.coords t) (iblk2 V c 0 t) (iblk2 V c 1 t) (iblk2 V c 2 t) (iblk2 V c 3 t) (iblk2 V c 4 t) s = sD (grid2.coords t) (iblk2 V c 0 t) (iblk2 V c 1 t) (iblk2 V c 2 t) (iblk2 V c 3 t) (iblk2 V c 4 t) (sdet V c t.val) := by
  funext y
  have := Good.lanes V t h y (by have : (y 1).val < 112 := (y 1).isLt; omega)
  rw [this, sdet_succ]
/-- Before a row block's first point nothing is asked. -/
theorem Good.start {c : Dev nD} (s : Vec F S512x112 .f32) : Good V c 0 s := fun y hy => absurd hy (by omega)

/-- The scratch's invariant: some contents that agree with the tracked ones where written; the rest of the scoped
    memory and the generator register untouched. -/
def Phi2 (c : Dev nD) (n : ℕ) : sProp 𝕄 :=
  iprop(((∃ s, ⌜Good V c n s⌝ ∗ owns (c : Thread nD τ) scM2 fullShare s)
    ∗ Pipeline.scopedRestBut (Ix := Unit) (Name := ℕ) (U := UR sig nD τ) (Lvl := ℕ) (Val := Elt F) spec2 c [cc2_scratch0]) ∗ (∃ r, prngReg c r))

theorem PhiA2_eq (c : Dev nD) :
    (Pipeline.ΦA spec2 c : sProp 𝕄)
      = iprop(((∃ d, owns (c : Thread nD τ) scM2 fullShare d)
          ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scM2, owns_whole]; try rfl

/-- What the launch hands the region is the invariant before the first point, -/
theorem hin2 (c : Dev nD) : (Pipeline.ΦA spec2 c : sProp 𝕄) ⊢ Phi2 V c 0 := by
  rw [PhiA2_eq]; unfold Phi2
  iintro ⟨⟨⟨%d, HS⟩, HR⟩, Hg⟩
  isplitr [Hg]
  · isplitl [HS]
    · iexists d; isplitr; · ipureintro; exact Good.start V d
      iexact HS
    iexact HR
  iexact Hg
/-- and after any point the invariant gives it back. -/
theorem hout2 (c : Dev nD) (n : ℕ) : Phi2 V c n ⊢ (Pipeline.ΦA spec2 c : sProp 𝕄) := by
  rw [PhiA2_eq]; unfold Phi2
  iintro ⟨⟨⟨%d, -, HS⟩, HR⟩, Hg⟩
  isplitr [Hg]
  · isplitl [HS]
    · iexists d; iexact HS
    iexact HR
  iexact Hg

/-! ## Where the result windows are idle -/

theorem cond2_iff (t : Fin cfg2.N) : k2_cond1 (grid2.coords t) = 1#1 ↔ t.val % 28 = 27 := by
  have ht : t.val < 224 := Nat.lt_of_lt_of_eq t.isLt N_2
  have e1 : (grid2.coords t 1).val = t.val / 1 % 28 := Pipeline.Grid.coords_val t 1 (by decide) rfl
  simp only [k2_cond1, e1]
  word_cmp
theorem idle2_9 (t : Fin cfg2.N) (h : ¬ t.val % 28 = 27) : cfg2.idle 9 (cfg2.grid.coords t) = true := by
  show (!(k2_cond1 (grid2.coords t) == 1#1)) = true
  rw [Bool.not_eq_true', beq_eq_false_iff_ne]; exact fun e => h ((cond2_iff t).mp e)
theorem idle2_10 (t : Fin cfg2.N) (h : ¬ t.val % 28 = 27) : cfg2.idle 10 (cfg2.grid.coords t) = true := idle2_9 t h
theorem live2_9 (t : Fin cfg2.N) (h : t.val % 28 = 27) : cfg2.idle 9 (cfg2.grid.coords t) = false := by
  show (!(k2_cond1 (grid2.coords t) == 1#1)) = false
  rw [(cond2_iff t).mpr h]; rfl
theorem live2_10 (t : Fin cfg2.N) (h : t.val % 28 = 27) : cfg2.idle 10 (cfg2.grid.coords t) = false := live2_9 t h
theorem noflush2_9 (t : Fin cfg2.N) (h : ¬ t.val % 28 = 27) : (cfg2.win 9).flush t = false := by
  rw [Bool.eq_false_iff]; exact fun e => h ((flush2_9 t).mp e)
theorem noflush2_10 (t : Fin cfg2.N) (h : ¬ t.val % 28 = 27) : (cfg2.win 10).flush t = false := by
  rw [Bool.eq_false_iff]; exact fun e => h ((flush2_10 t).mp e)

/-- The proof data of pipeline 2 on core `c`: the arrays as the region finds them (`V`); after the body at
    point `t` each input's buffer at its block and each output's at `out2_W` of the input blocks; the invariant
    the scratch's (`Phi2`); nothing owed;
    full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => out2_9 (grid2.coords t) (iblk2 V c 0 t) (iblk2 V c 1 t) (iblk2 V c 2 t) (iblk2 V c 3 t) (iblk2 V c 4 t) (iblk2 V c 5 t) (iblk2 V c 6 t) (iblk2 V c 7 t) (iblk2 V c 8 t) (sdet V c t.val)
    | ⟨10, _⟩ => out2_10 (grid2.coords t) (iblk2 V c 0 t) (iblk2 V c 1 t) (iblk2 V c 2 t) (iblk2 V c 3 t) (iblk2 V c 4 t) (iblk2 V c 5 t) (iblk2 V c 6 t) (iblk2 V c 7 t) (iblk2 V c 8 t) (sdet V c t.val)
  Φ t := Phi2 V c t.val
  q _ := fullShare
  owed _ := 0

/-- The proof data's arrays are the region-entry contents, by projecting the definition (`dsimp`): a region record cites
    this for its arrays rather than have Lean unfold `V`, the fold through @main up to the region's entry. -/
theorem A_eq2 (c : Dev nD) (w : Fin cfg2.W) : (dat2 V c).A w = V c (Pipeline.arrRef spec2 w) := by
  dsimp only [dat2]

/-- What the body leaves, window by window (the proof data's `match` reduced by `dsimp`, never `rfl`: Lib/Pipeline.lean `Dat`). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = iblk2 V c 8 t := by dsimp only [dat2]
theorem after2_9 (c : Dev nD) (t : Fin cfg2.N) : (dat2 V c).after 9 t = out2_9 (grid2.coords t) (iblk2 V c 0 t) (iblk2 V c 1 t) (iblk2 V c 2 t) (iblk2 V c 3 t) (iblk2 V c 4 t) (iblk2 V c 5 t) (iblk2 V c 6 t) (iblk2 V c 7 t) (iblk2 V c 8 t) (sdet V c t.val) := by dsimp only [dat2]
theorem after2_10 (c : Dev nD) (t : Fin cfg2.N) : (dat2 V c).after 10 t = out2_10 (grid2.coords t) (iblk2 V c 0 t) (iblk2 V c 1 t) (iblk2 V c 2 t) (iblk2 V c 3 t) (iblk2 V c 4 t) (iblk2 V c 5 t) (iblk2 V c 6 t) (iblk2 V c 7 t) (iblk2 V c 8 t) (sdet V c t.val) := by dsimp only [dat2]

/-- Each input's current staging buffer holds its block at every point, fetched there or not (`beforeK_W_of`). -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d
theorem before2_8 (c : Dev nD) (t : Fin cfg2.N) (d) : (dat2 V c).before 8 t d = iblk2 V c 8 t :=
  before2_8_of V (dat2 V c) (A_eq2 V c 8) (after2_8 V c) t d

/-! ## The body obligation, at a generic point -/

/-- What the body is called with at point `t` (Lib/Pipeline.lean `BodyObligation`'s precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d))
    ∗ (∃ d, owns (c : Thread nD τ) (st2_10 t) fullShare ((dat2 V c).before 10 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t)
    ∗ (dat2 V c).leavesExact 9 t
    ∗ (dat2 V c).leavesExact 10 t)

/-- The body at any point: the inputs' memrefs hold their blocks (`before2_W`), so the triples apply; the scratch's
    invariant is carried by `Good`. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8]
  rw [show (dat2 V c).Φ t.succ = Phi2 V c (t.val + 1) from rfl, show (dat2 V c).Φ t.castSucc = Phi2 V c t.val from rfl,
    show (dat2 V c).owesAt () t.succ = (dat2 V c).owesAt () t.castSucc from rfl,
    after2_0, after2_1, after2_2, after2_3, after2_4, after2_5, after2_6, after2_7, after2_8]
  unfold Phi2
  by_cases h : t.val % 28 = 27
  · rw [show (dat2 V c).leavesExact 9 t = owns (c : Thread nD τ) (st2_9 t) fullShare ((dat2 V c).after 9 t) from by
        unfold Dat.leavesExact; rw [live2_9 t h],
      show (dat2 V c).leavesExact 10 t = owns (c : Thread nD τ) (st2_10 t) fullShare ((dat2 V c).after 10 t) from by
        unfold Dat.leavesExact; rw [live2_10 t h], after2_9, after2_10]
    iintro ⟨⟨⟨⟨%s, %hs, HS⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (sound_kernel2_C c Set.univ (grid2.coords t) _ _ _ _ _ _ _ _ _ _ _ _ _ _ _ _ _ _ _ _ _ _ _ _ ((cond2_iff t).mpr h) (iblk2 V c 0 t) (iblk2 V c 1 t) (iblk2 V c 2 t) (iblk2 V c 3 t) (iblk2 V c 4 t) (iblk2 V c 5 t) (iblk2 V c 6 t) (iblk2 V c 7 t) (iblk2 V c 8 t) s _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [HS]; · iexact HS
    rw [out2_9_congr (grid2.coords t) (iblk2 V c 0 t) (iblk2 V c 1 t) (iblk2 V c 2 t) (iblk2 V c 3 t) (iblk2 V c 4 t) (iblk2 V c 5 t) (iblk2 V c 6 t) (iblk2 V c 7 t) (iblk2 V c 8 t) s (sdet V c t.val) (Good.full V t h hs), out2_10_congr (grid2.coords t) (iblk2 V c 0 t) (iblk2 V c 1 t) (iblk2 V c 2 t) (iblk2 V c 3 t) (iblk2 V c 4 t) (iblk2 V c 5 t) (iblk2 V c 6 t) (iblk2 V c 7 t) (iblk2 V c 8 t) s (sdet V c t.val) (Good.full V t h hs)]
    iintro ⟨H0, H1, H2, H3, H4, H5, H6, H7, H8, H9, H10, HS⟩
    isplitl [HS HR Hg]
    · isplitr [Hg]
      · isplitl [HS]
        · iexists (sout2 (grid2.coords t) (iblk2 V c 0 t) (iblk2 V c 1 t) (iblk2 V c 2 t) (iblk2 V c 3 t) (iblk2 V c 4 t) s); isplitr
          · ipureintro; rw [sout2_eq]; exact Good.succ V t hs
          iexact HS
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · rw [(dat2 V c).leavesExact_idle 9 t (idle2_9 t h) (noflush2_9 t h), (dat2 V c).leavesExact_idle 10 t (idle2_10 t h) (noflush2_10 t h)]
    iintro ⟨⟨⟨⟨%s, %hs, HS⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, H9, H10⟩
    iapply (sound_kernel2_B c Set.univ (grid2.coords t) _ _ _ _ _ _ _ _ _ _ _ _ _ _ _ _ _ _ _ _ _ _ _ _ (fun e => h ((cond2_iff t).mp e)) (iblk2 V c 0 t) (iblk2 V c 1 t) (iblk2 V c 2 t) (iblk2 V c 3 t) (iblk2 V c 4 t) (iblk2 V c 5 t) (iblk2 V c 6 t) (iblk2 V c 7 t) (iblk2 V c 8 t) s _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HS]; · iexact HS
    iintro ⟨H0, H1, H2, H3, H4, H5, H6, H7, H8, HS⟩
    isplitl [HS HR Hg]
    · isplitr [Hg]
      · isplitl [HS]
        · iexists (sout2 (grid2.coords t) (iblk2 V c 0 t) (iblk2 V c 1 t) (iblk2 V c 2 t) (iblk2 V c 3 t) (iblk2 V c 4 t) s); isplitr
          · ipureintro; rw [sout2_eq]; exact Good.succ V t hs
          iexact HS
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

/-- The body table's row at point `t`'s slots is the body as `bodyAt2` spells it. -/
theorem defs₀_row2 (t : Fin cfg2.N) :
    defs₀ (F := F) .tc cfg2.body (cfg2.bodyArgs t (cfg2.slots t)) = bodyAt2 t := by
  unfold defs₀; rw [Defs.onTc_tc]

/-- The library's body obligation, at every point: the body's triple restated (Lib/Pipeline/FrameBody.lean `triple_restated`). -/
theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

/-- The invariant at the ends, as the region hands it over. -/
theorem datPhi2_in (c : Dev nD) (V : (c : Dev nD) → (b : Ref sig .tc) → Buf (Elt F) ((c : Thread nD τ).loc b)) : (Pipeline.ΦA spec2 c : sProp 𝕄) ⊢ (dat2 V c).Φ 0 := hin2 V c
theorem datPhi2_out (c : Dev nD) (V : (c : Dev nD) → (b : Ref sig .tc) → Buf (Elt F) ((c : Thread nD τ).loc b)) (t : Fin (cfg2.N + 1)) : (dat2 V c).Φ t ⊢ (Pipeline.ΦA spec2 c : sProp 𝕄) := hout2 V c _

end Cert.KernelIdeal.Run

end
-- ==== Proof.KernelIdealRun.lean ====
/- The whole program: its three calls and the host operations between them as one chain of segments, and its run
   from any memory. The text follows the library's certificate of a program with several regions. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import proofs.«01_k».proof.Proof.KernelIdealQuant
public import proofs.«01_k».proof.Proof.KernelIdealFwd
public import proofs.«01_k».proof.Proof.KernelIdealBwd
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Run

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2, main_arg3, main_arg4, main_arg5]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1, main_v2]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps3` allocates a buffer. -/
theorem hostOps3_fresh : (hostOps3 : List (HloOp τ sig (Elt F))).Forall fun op => op.fresh = ∅ := by
  simp only [List.Forall]; repeat' constructor
/-- The reference each operation of `hostOps3` writes, in order. -/
abbrev hostOps3_W : List (Ref sig .tc) := [main_cst, main_v6, main_cst_0, main_v7]
theorem hostOps3_writes : (hostOps3 : List (HloOp τ sig (Elt F))).Forall fun op => op.writes ⊆ (hostOps3_W.map (Proc.devRef (τ := τ) .tc)).toFinset :=
  StableHlo.forall_writes_sub_of_map rfl
/-- `hostOps3` writes none of the argument arrays (checked: each argument against each reference it writes). -/
theorem hostOps3_args : ∀ a ∈ argRefs, a ∉ hostOps3_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`) (region 1's entry). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what the pipeline leaves (the inputs as entered, each output's write-backs
    folded: `Dat.arrAt … N`), every other buffer as entered (Lib/Pipeline/FrameSuffix.lean `withArrays`) (region 2's entry). -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- A reference that is none of region 1's OUTPUT arrays keeps its entry contents across it: an input window's
    array is never written back (`Dat.arrAt_in`, `A_eq1`); any other buffer is left as is. -/
theorem W3_of (c : Dev nD) (r : Ref sig .tc) (h : ∀ w : Fin cfg1.W, Pipeline.arrRef spec1 w = r → (cfg1.win w).isOut = false) :
    W3 m ρ c (Proc.devRef .tc r) = W2 m ρ c (Proc.devRef .tc r) := by
  by_cases hw : ∃ w : Fin cfg1.W, Pipeline.arrRef spec1 w = r
  · obtain ⟨w, rfl⟩ := hw
    exact (W3_arr m ρ c w).trans (((dat1 (V2 m ρ) c).arrAt_in w (h w rfl) _).trans (A_eq1 (V2 m ρ) c w))
  · exact W3_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W3_args (c : Dev nD) : ∀ a ∈ argRefs, W3 m ρ c (Proc.devRef .tc a) = m ((c : Thread nD τ).loc a) :=
  fun a ha => (W3_of m ρ c a (argsIn1 a ha)).trans (W2_args m ρ c a ha)
/-- The same read at the TensorCore's references (region 1's exit contents). -/
abbrev V3 : (c : Dev nD) → (b : Ref sig .tc) → Buf (Elt F) ((c : Thread nD τ).loc b) := fun c b => W3 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- At region 2's exit: its arrays at what the pipeline leaves (the inputs as entered, each output's write-backs
    folded: `Dat.arrAt … N`), every other buffer as entered (Lib/Pipeline/FrameSuffix.lean `withArrays`). -/
def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
/-- A reference that is none of region 2's OUTPUT arrays keeps its entry contents across it: an input window's
    array is never written back (`Dat.arrAt_in`, `A_eq2`); any other buffer is left as is. -/
theorem W4_of (c : Dev nD) (r : Ref sig .tc) (h : ∀ w : Fin cfg2.W, Pipeline.arrRef spec2 w = r → (cfg2.win w).isOut = false) :
    W4 m ρ c (Proc.devRef .tc r) = W3 m ρ c (Proc.devRef .tc r) := by
  by_cases hw : ∃ w : Fin cfg2.W, Pipeline.arrRef spec2 w = r
  · obtain ⟨w, rfl⟩ := hw
    exact (W4_arr m ρ c w).trans (((dat2 (V3 m ρ) c).arrAt_in w (h w rfl) _).trans (A_eq2 (V3 m ρ) c w))
  · exact W4_of_ne m ρ c r fun w e => hw ⟨w, e⟩
/-- Every argument among region 2's arrays is an input window's (checked: each argument against each window). -/
theorem argsIn2 : ∀ a ∈ argRefs, ∀ w : Fin cfg2.W, Pipeline.arrRef spec2 w = a → (cfg2.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn2 a ha)).trans (W3_args m ρ c a ha)
/-- The same read at the TensorCore's references (region 2's exit contents). -/
abbrev V4 : (c : Dev nD) → (b : Ref sig .tc) → Buf (Elt F) ((c : Thread nD τ).loc b) := fun c b => W4 m ρ c b
/-- At region 2's exit each of its arrays holds what the pipeline leaves (`hF2`) and every other buffer what it
    held at entry (`hrest2`): the two hypotheses of Lib/Pipeline/RegionsLoop.lean `unscopedBufs_of_arrays`. -/
theorem hF2 (c : Dev nD) (w : Fin cfg2.W) : (dat2 (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

/-- After `hostOps3`. -/
abbrev W5 : Dev nD → Valuation τ sig (Elt F) := fun c => StableHlo.after hostOps3 (W4 m ρ c)
/-- A reference `hostOps3` does not write keeps its contents across it. -/
theorem W5_of (c : Dev nD) (r : Ref sig .tc) (h : r ∉ hostOps3_W) : W5 m ρ c (Proc.devRef .tc r) = W4 m ρ c (Proc.devRef .tc r) :=
  StableHlo.after_of_writes_sub hostOps3 _ hostOps3_writes h
theorem W5_args (c : Dev nD) : ∀ a ∈ argRefs, W5 m ρ c (Proc.devRef .tc a) = m ((c : Thread nD τ).loc a) :=
  fun a ha => (W5_of m ρ c a (hostOps3_args a ha)).trans (W4_args m ρ c a ha)

/-! ### The arguments end as launched: no host stretch writes one and no region may change one (a region reads it
    through an input window or bypasses it) -/

theorem W5_main_arg0 (c : Dev nD) : W5 m ρ c (Proc.devRef .tc main_arg0) = m ((c : Thread nD τ).loc main_arg0) :=
  W5_args m ρ c main_arg0 (by decide)
theorem W5_main_arg1 (c : Dev nD) : W5 m ρ c (Proc.devRef .tc main_arg1) = m ((c : Thread nD τ).loc main_arg1) :=
  W5_args m ρ c main_arg1 (by decide)
theorem W5_main_arg2 (c : Dev nD) : W5 m ρ c (Proc.devRef .tc main_arg2) = m ((c : Thread nD τ).loc main_arg2) :=
  W5_args m ρ c main_arg2 (by decide)
theorem W5_main_arg3 (c : Dev nD) : W5 m ρ c (Proc.devRef .tc main_arg3) = m ((c : Thread nD τ).loc main_arg3) :=
  W5_args m ρ c main_arg3 (by decide)
theorem W5_main_arg4 (c : Dev nD) : W5 m ρ c (Proc.devRef .tc main_arg4) = m ((c : Thread nD τ).loc main_arg4) :=
  W5_args m ρ c main_arg4 (by decide)
theorem W5_main_arg5 (c : Dev nD) : W5 m ρ c (Proc.devRef .tc main_arg5) = m ((c : Thread nD τ).loc main_arg5) :=
  W5_args m ρ c main_arg5 (by decide)

/-! ## The proof data family and the thread state -/

/-- The prefetched tables' admissible contents: no pipeline has a table. -/
abbrev adm : (p : Fin 3) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W5`, the generator register at some state. -/
abbrev Tₙ (c : Dev nD) : sProp 𝕄 := iprop(StableHlo.held (c : Thread nD τ) (Pipeline.ucRefs τ sig) (W5 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W2`, left at `W3`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) (A_eq1 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 2 (custom_call 2) over the thread state: entered from every unscoped buffer at `W3`, left at `W4`
    (what the next segment is entered from). Its arrays split out of the unscoped buffers
    (`arrays_of_unscopedBufs`) and put back at the exit contents (`unscopedBufs_of_arrays`); the generator register into the
    class invariant `ΦA` and out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) (A_eq2 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (datPhi2_in c (V3 m ρ))
    unfold Pipeline.ΦA
    iintro ⟨Hp, -, Hr⟩
    isplitl [Hr]; · iexact Hr
    iexact Hp
  hout c := by
    rw [Pipeline.ownSems0_none]
    refine BIBase.Entails.trans (datPhi2_out c (V3 m ρ) (Fin.last _)) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 5 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .region (reg2 m ρ),
    .host (hseg hostOps3 hostOps3_sub hostOps3_fresh (W4 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- THE RUN: at the compiled mesh, from any memory with zero counters, every weakly fair execution of @main on the
    TensorCores terminates, nothing faulting, and every final state has every unscoped buffer at `W5` and every semaphore
    counter of the machine at zero: the kit's launch over the segments, the last thread state read against the final state
    (`pointsTo_read_all`). -/
theorem run : θ_run defs (onTc (τ := τ) (main (F := F))) ⟨m, fun _ => 0, ρ⟩ (fun r => (∀ c : Dev nD,
      ∀ b ∈ Pipeline.ucRefs τ sig, r.2.mem (((c : Thread nD τ)).1, b) = W5 m ρ c b)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨h, funext fun g => hz g (.inr (no_unscoped g.2))⟩)

/-- THE FRAME: `Cert.quiescent_KernelIdeal`'s statement (Defs.lean) at any `F`: the arguments end unchanged, every semaphore
    counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨(fun c =>
      ⟨(h.1 c _ (mem_uc main_arg0 (by decide))).trans (W5_main_arg0 m ρ c),
       (h.1 c _ (mem_uc main_arg1 (by decide))).trans (W5_main_arg1 m ρ c),
       (h.1 c _ (mem_uc main_arg2 (by decide))).trans (W5_main_arg2 m ρ c),
       (h.1 c _ (mem_uc main_arg3 (by decide))).trans (W5_main_arg3 m ρ c),
       (h.1 c _ (mem_uc main_arg4 (by decide))).trans (W5_main_arg4 m ρ c),
       (h.1 c _ (mem_uc main_arg5 (by decide))).trans (W5_main_arg5 m ρ c)⟩), h.2⟩) (run m ρ)

end Cert.KernelIdeal.Run

end
-- ==== Proof.Spec.lean ====
module
public import Idealize.ShloMosaic.PureOps.Ideal
public import Idealize.ShloMosaic.Lib.Pointwise
public import Idealize.ShloMosaic.Lib.ValueIdx

/-!
# One learnable-weight-clipping step, element by element

The functions both programs are shown to compute, written over extended reals on plain coordinates: an output row
`o : Fin 4096`, a weight group `g : Fin 112` of 128 columns, a lane `k : Fin 128` inside the group, a token `(b, t)`.
-/

@[expose] public section
noncomputable section
namespace Cert.Lwc
open Idealize.ShloMosaic
open scoped BigOperators

/-- Weights: one row per output, 14336 columns. -/
abbrev WIdx : Type := (⟨2, ![4096, 14336]⟩ : Shape).Idx
/-- One number per output row and weight group. -/
abbrev GIdx : Type := (⟨2, ![4096, 112]⟩ : Shape).Idx
/-- Token activations. -/
abbrev XIdx : Type := (⟨3, ![2, 3072, 14336]⟩ : Shape).Idx
/-- One number per token. -/
abbrev TIdx : Type := (⟨2, ![2, 3072]⟩ : Shape).Idx
/-- Targets: one number per token and output. -/
abbrev YIdx : Type := (⟨3, ![2, 3072, 4096]⟩ : Shape).Idx

/-- The column of lane `k` of group `g`. -/
abbrev col (g : Fin 112) (k : Fin 128) : Fin 14336 := ⟨g.val * 128 + k.val, by omega⟩
/-- The group of a column. -/
abbrev grp (d : Fin 14336) : Fin 112 := ⟨d.val / 128, by omega⟩
/-- The lane of a column. -/
abbrev lane (d : Fin 14336) : Fin 128 := ⟨d.val % 128, by omega⟩

theorem col_grp_lane (d : Fin 14336) : col (grp d) (lane d) = d := Fin.ext (by simp only; omega)
theorem grp_col (g : Fin 112) (k : Fin 128) : grp (col g k) = g := Fin.ext (by simp only; omega)
theorem lane_col (g : Fin 112) (k : Fin 128) : lane (col g k) = k := Fin.ext (by simp only; omega)

/-- The largest code, 15. -/
abbrev top : EReal := Ideal.ofBits .f32 0x41700000#32
/-- Two over the number of elements of the error. -/
abbrev twoOverN : EReal := Ideal.ofBits .f32 0x33AAAAAB#32
/-- The number of elements of the error. -/
abbrev nElem : EReal := Ideal.ofBits .f32 0x4BC00000#32

section
variable (w : WIdx → EReal) (γ β : GIdx → EReal)

/-- A group's largest weight. -/
def wmax (o : Fin 4096) (g : Fin 112) : EReal :=
  (Finset.univ : Finset (Fin 128)).fold max (Ideal.ofBits .f32 0xFF800000#32) fun k => w (ix2 o (col g k))
/-- A group's smallest weight. -/
def wmin (o : Fin 4096) (g : Fin 112) : EReal :=
  (Finset.univ : Finset (Fin 128)).fold min (Ideal.ofBits .f32 0x7F800000#32) fun k => w (ix2 o (col g k))
/-- The quotient the step size is taken from: the clipped range over the largest code. -/
def step0 (o : Fin 4096) (g : Fin 112) : EReal :=
  Ideal.div (Ideal.logistic (γ (ix2 o g)) * wmax w o g - Ideal.logistic (β (ix2 o g)) * wmin w o g) top
/-- A group's step size: that quotient, or 1 where it is 0. -/
def step (o : Fin 4096) (g : Fin 112) : EReal := if step0 w γ β o g = 0 then 1 else step0 w γ β o g
/-- A group's zero point. -/
def zero (o : Fin 4096) (g : Fin 112) : EReal :=
  -Ideal.liftRound Ideal.roundHalfEven (Ideal.div (Ideal.logistic (β (ix2 o g)) * wmin w o g) (step w γ β o g))
/-- A weight in units of its group's step. -/
def scaled (o : Fin 4096) (g : Fin 112) (k : Fin 128) : EReal := Ideal.div (w (ix2 o (col g k))) (step w γ β o g)
/-- The code before clipping. -/
def raw (o : Fin 4096) (g : Fin 112) (k : Fin 128) : EReal :=
  Ideal.liftRound Ideal.roundHalfEven (scaled w γ β o g k) + zero w γ β o g
/-- The code, clipped to 0 … 15. -/
def code (o : Fin 4096) (g : Fin 112) (k : Fin 128) : EReal := min top (max 0 (raw w γ β o g k))
/-- The dequantised weight. -/
def what (o : Fin 4096) (g : Fin 112) (k : Fin 128) : EReal := (code w γ β o g k - zero w γ β o g) * step w γ β o g
/-- The derivative of the dequantised weight by the step size: straight-through inside the clipping range. -/
def dwdh (o : Fin 4096) (g : Fin 112) (k : Fin 128) : EReal :=
  (code w γ β o g k - zero w γ β o g)
    - if 0 ≤ raw w γ β o g k ∧ raw w γ β o g k ≤ top then scaled w γ β o g k else 0

variable (x : XIdx → EReal) (xs : TIdx → EReal) (y : YIdx → EReal)

/-- The error of one output at one token. -/
def err (o : Fin 4096) (b : Fin 2) (t : Fin 3072) : EReal :=
  (∑ d : Fin 14336, what w γ β o (grp d) (lane d) * x (ix3 b t d)) * xs (ix2 b t) - y (ix3 b t o)
/-- The mean squared error. -/
def loss : EReal := Ideal.div (∑ b : Fin 2, ∑ t : Fin 3072, ∑ o : Fin 4096, err w γ β x xs y o b t * err w γ β x xs y o b t) nElem
/-- The gradient by a dequantised weight. -/
def grad (o : Fin 4096) (d : Fin 14336) : EReal :=
  (∑ b : Fin 2, ∑ t : Fin 3072, err w γ β x xs y o b t * xs (ix2 b t) * x (ix3 b t d)) * twoOverN
/-- The gradient by a step size. -/
def gstep (o : Fin 4096) (g : Fin 112) : EReal :=
  ∑ k : Fin 128, grad w γ β x xs y o (col g k) * dwdh w γ β o g k
/-- The gradient by the upper clipping parameter. -/
def dgamma (o : Fin 4096) (g : Fin 112) : EReal :=
  Ideal.div (gstep w γ β x xs y o g * Ideal.logistic (γ (ix2 o g)) * (1 - Ideal.logistic (γ (ix2 o g))) * wmax w o g) top
/-- The gradient by the lower clipping parameter. -/
def dbeta (o : Fin 4096) (g : Fin 112) : EReal :=
  Ideal.div (-gstep w γ β x xs y o g * Ideal.logistic (β (ix2 o g)) * (1 - Ideal.logistic (β (ix2 o g))) * wmin w o g) top
end

end Cert.Lwc
end
-- ==== Proof.Codes.lean ====
module
public import proofs.«01_k».proof.Proof.Spec

/-!
# The clipped code is an integer from 0 to 15

So writing it as an 8-bit integer and reading it back changes nothing, and narrowing it in one step or in two gives
the same word.
-/

@[expose] public section
noncomputable section
namespace Cert.Lwc
open Idealize.ShloMosaic

theorem top_eq : top = ((15 : ℝ) : EReal) := by
  unfold top
  simp [Ideal.ofBits, Ideal.ieee]
  rw [← EReal.coe_mul]
  norm_num

/-- A rounded value is infinite or an integer. -/
theorem rounded_cases (x : EReal) : Ideal.liftRound Ideal.roundHalfEven x = ⊥ ∨ Ideal.liftRound Ideal.roundHalfEven x = ⊤
    ∨ ∃ n : ℤ, Ideal.liftRound Ideal.roundHalfEven x = ((n : ℝ) : EReal) := by
  induction x using EReal.rec with
  | bot => exact .inl rfl
  | top => exact .inr (.inl rfl)
  | coe r => exact .inr (.inr ⟨Ideal.roundHalfEven r, rfl⟩)

/-- So is a difference of rounded values. -/
theorem raw_cases (x y : EReal) :
    Ideal.liftRound Ideal.roundHalfEven x + -Ideal.liftRound Ideal.roundHalfEven y = ⊥
    ∨ Ideal.liftRound Ideal.roundHalfEven x + -Ideal.liftRound Ideal.roundHalfEven y = ⊤
    ∨ ∃ n : ℤ, Ideal.liftRound Ideal.roundHalfEven x + -Ideal.liftRound Ideal.roundHalfEven y = ((n : ℝ) : EReal) := by
  rcases rounded_cases x with h | h | ⟨a, h⟩ <;> rcases rounded_cases y with h' | h' | ⟨b, h'⟩ <;> rw [h, h']
  · simp
  · simp
  · simp
  · exact .inr (.inl rfl)
  · simp
  · exact .inr (.inl (by rw [← EReal.coe_neg]; rfl))
  · exact .inr (.inl (by simp))
  · simp
  · exact .inr (.inr ⟨a - b, by rw [← EReal.coe_neg, ← EReal.coe_add]; push_cast; rw [sub_eq_add_neg]⟩)

/-- Clipping an infinite or integer value to 0 … 15 gives an integer from 0 to 15. -/
theorem clip_int {c : EReal} (h : c = ⊥ ∨ c = ⊤ ∨ ∃ n : ℤ, c = ((n : ℝ) : EReal)) :
    ∃ n : ℤ, 0 ≤ n ∧ n ≤ 15 ∧ min top (max 0 c) = ((n : ℝ) : EReal) := by
  rw [top_eq]
  rcases h with rfl | rfl | ⟨n, rfl⟩
  · exact ⟨0, by norm_num, by norm_num, by rw [max_eq_left bot_le, min_eq_right (by exact_mod_cast (by norm_num : (0:ℝ) ≤ 15))]; simp⟩
  · exact ⟨15, by norm_num, by norm_num, by rw [max_eq_right le_top, min_eq_left le_top]; norm_num⟩
  · refine ⟨min 15 (max 0 n), by omega, by omega, ?_⟩
    rw [← EReal.coe_zero, ← EReal.coe_strictMono.monotone.map_max, ← EReal.coe_strictMono.monotone.map_min]
    push_cast
    rfl

variable (w : WIdx → EReal) (γ β : GIdx → EReal)

theorem code_int (o : Fin 4096) (g : Fin 112) (k : Fin 128) :
    ∃ n : ℤ, 0 ≤ n ∧ n ≤ 15 ∧ code w γ β o g k = ((n : ℝ) : EReal) :=
  clip_int (raw_cases _ _)

/-- An integer from 0 to 15 converted to a word of at least 8 bits. -/
theorem fptosi_int (v : ℕ) (hv : 8 ≤ v) (n : ℤ) (h0 : 0 ≤ n) (h1 : n ≤ 15) :
    Ideal.fptosi v ((n : ℝ) : EReal) = BitVec.ofInt v n := by
  have hp : (2 : ℤ) ^ 7 ≤ 2 ^ (v - 1) := pow_le_pow_right₀ (by norm_num) (by omega)
  unfold Ideal.fptosi
  congr 1
  rw [Ideal.toIntClamped_coe]
  have hn : (if (0:ℝ) ≤ (n:ℝ) then ⌊(n:ℝ)⌋ else ⌈(n:ℝ)⌉) = n := by simp
  rw [hn]
  push_cast
  omega

theorem code_roundtrip (o : Fin 4096) (g : Fin 112) (k : Fin 128) :
    (((Ideal.fptosi 8 (code w γ β o g k)).toInt : ℝ) : EReal) = code w γ β o g k := by
  obtain ⟨n, h0, h1, h⟩ := code_int w γ β o g k
  rw [h, fptosi_int 8 le_rfl n h0 h1]
  interval_cases n <;> rfl

theorem code_narrow (o : Fin 4096) (g : Fin 112) (k : Fin 128) :
    (Ideal.fptosi 32 (code w γ β o g k)).setWidth 8 = Ideal.fptosi 8 (code w γ β o g k) := by
  obtain ⟨n, h0, h1, h⟩ := code_int w γ β o g k
  rw [h, fptosi_int 8 le_rfl n h0 h1, fptosi_int 32 (by norm_num) n h0 h1]
  interval_cases n <;> rfl

end Cert.Lwc
end
-- ==== Proof.KernelIdealQuantValue.lean ====
module
public import proofs.«01_k».proof.Proof.KernelIdealQuant
public import proofs.«01_k».proof.Proof.Codes
public import Idealize.ShloMosaic.Lib.Pipeline.ValueKit
public import Idealize.ShloMosaic.Lib.WholeRead

@[expose] public section
set_option maxRecDepth 16384
noncomputable section
namespace Cert.KernelIdeal.Run
open Idealize.ShloMosaic Idealize.ShloMosaic.TcCoe Idealize.ShloMosaic.Tactic
open Cert.KernelIdeal.Gen

variable (V : (c : Dev nD) → (b : Ref sig .tc) → Buf (Elt Ideal) ((c : Thread nD τ).loc b)) (c : Dev nD)

/-! ## One group of a block of rows -/

/-- A load of 128 columns of a whole 64 × 14336 buffer, read at a lane. -/
theorem load_lanes {arg1 : Memref sig .tc .vmem S64x14336 .f32} (harg1 : arg1.IsWhole) (x : Vec Ideal S64x14336 .f32)
    (off : Fin 2 → Nat) (g : Fin 112) (ho : off = ![0, 128 * g.val]) (h) (r : Fin 64) (l : Fin 128) :
    View.readAt (Elt Ideal) arg1.view (Rect.unit (s := S64x14336) off ![64, 128] h).toLoadRect (harg1.unread x) (ix2 r l)
      = x (ix2 r (Lwc.col g l)) := by
  subst ho
  rw [harg1.readAt_unread]
  refine congrArg x (funext fun a => Fin.ext ?_)
  fin_cases a
  · show 0 + 1 * r.val = r.val
    omega
  · show 128 * g.val + 1 * l.val = g.val * 128 + l.val
    omega

/-- Trip `k` of the loop writes lane `k` and no other. -/
theorem lane_pick : ∀ (g : Fin 112) (k : Fin k0_t1_loop.trips),
    IntOp.cmpi CmpIPredicate.eq (BitVec.ofNat 32 g.val) (Scf.iv 0#32 1#32 k.val) = BitVec.ofBool (decide (g.val = k.val)) := by
  decide +kernel

theorem k0_pay8_at (k : Fin k0_t1_loop.trips) (acc : FVec Ideal S64x112 .f32) (x : Vec Ideal S64x128 .f32) (r : Fin 64) (g : Fin 112) :
    k0_pay8 k acc x (ix2 r g) = if g.val = k.val then (Finset.univ : Finset (Fin 128)).fold max (Ideal.ofBits .f32 0xFF800000#32) fun l => x (ix2 r l)
      else acc (ix2 r g) := by
  pointwise [k0_pay8]
  rw [lane_pick]
  by_cases h : g.val = k.val <;> simp [h, Scalar.select]
theorem k0_pay9_at (k : Fin k0_t1_loop.trips) (acc : FVec Ideal S64x112 .f32) (x : Vec Ideal S64x128 .f32) (r : Fin 64) (g : Fin 112) :
    k0_pay9 k acc x (ix2 r g) = if g.val = k.val then (Finset.univ : Finset (Fin 128)).fold min (Ideal.ofBits .f32 0x7F800000#32) fun l => x (ix2 r l)
      else acc (ix2 r g) := by
  pointwise [k0_pay9]
  rw [lane_pick]
  by_cases h : g.val = k.val <;> simp [h, Scalar.select]
theorem k0_pay7_at (r : Fin 64) (g : Fin 112) : k0_pay7 (F := Ideal) (ix2 r g) = (0 : EReal) := by
  pointwise [k0_pay7]

/-- The loop's two carried arrays before trip `n`, at point `t`. -/
abbrev loopSt (t : Fin cfg0.N) (n : ℕ) : FVec Ideal S64x112 .f32 × FVec Ideal S64x112 .f32 :=
  st_k0_t1 Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t)
    ((hs0_0 t).unread (iblk0 V c 0 t)) (k0_pay7, k0_pay7) n

/-- One trip of the loop over groups. -/
theorem loopSt_succ (t : Fin cfg0.N) (k : Fin k0_t1_loop.trips) : loopSt V c t (k.val + 1)
    = (k0_pay8 k (loopSt V c t k.val).1 (View.readAt (Elt Ideal) (ms0_0 t).view (Rect.unit (s := S64x14336) (k0_off1 k) ![64, 128] (k0_off1_inb k)).toLoadRect ((hs0_0 t).unread (iblk0 V c 0 t))),
       k0_pay9 k (loopSt V c t k.val).2 (View.readAt (Elt Ideal) (ms0_0 t).view (Rect.unit (s := S64x14336) (k0_off1 k) ![64, 128] (k0_off1_inb k)).toLoadRect ((hs0_0 t).unread (iblk0 V c 0 t)))) := by
  rw [loopSt, st_k0_t1_succ]
  unfold tripR_k0_t1 trip_k0_t1
  rfl

/-- The largest and the smallest entry of a group in row `r` of a block. -/
abbrev bmax (x : Vec Ideal S64x14336 .f32) (r : Fin 64) (g : Fin 112) : EReal :=
  (Finset.univ : Finset (Fin 128)).fold max (Ideal.ofBits .f32 0xFF800000#32) fun l => x (ix2 r (Lwc.col g l))
abbrev bmin (x : Vec Ideal S64x14336 .f32) (r : Fin 64) (g : Fin 112) : EReal :=
  (Finset.univ : Finset (Fin 128)).fold min (Ideal.ofBits .f32 0x7F800000#32) fun l => x (ix2 r (Lwc.col g l))

theorem trips_eq : k0_t1_loop.trips = 112 := by decide +kernel

/-- After `n` trips the first `n` lanes hold their group's largest and smallest weight. -/
theorem loopSt_at (t : Fin cfg0.N) (r : Fin 64) (g : Fin 112) (n : ℕ) (hn : n ≤ 112) :
    (loopSt V c t n).1 (ix2 r g) = (if g.val < n then bmax (iblk0 V c 0 t) r g else (0 : EReal))
    ∧ (loopSt V c t n).2 (ix2 r g) = (if g.val < n then bmin (iblk0 V c 0 t) r g else (0 : EReal)) := by
  induction n with
  | zero => exact ⟨k0_pay7_at r g, k0_pay7_at r g⟩
  | succ n ih =>
    obtain ⟨ih1, ih2⟩ := ih (by omega)
    have hk : n < k0_t1_loop.trips := by rw [trips_eq]; omega
    have e := loopSt_succ V c t ⟨n, hk⟩
    dsimp only at e
    rw [e]
    dsimp only
    rw [k0_pay8_at, k0_pay9_at, ih1, ih2]
    dsimp only
    by_cases h : g.val = n
    · have ho : k0_off1 ⟨n, hk⟩ = ![0, 128 * g.val] := by rw [k0_off1_eq, h]
      simp only [load_lanes (hs0_0 t) _ _ g ho, if_pos h, if_pos (show g.val < n + 1 by omega), and_self]
    · by_cases h' : g.val < n
      · simp only [if_neg h, if_pos h', if_pos (show g.val < n + 1 by omega), and_self]
      · simp only [if_neg h, if_neg h', if_neg (show ¬ g.val < n + 1 by omega), and_self]

theorem inb_lanes (n : ℕ) (hn : n < 112) : ∀ a, (![0, 128 * n] : Fin 2 → Nat) a + ![64, 128] a ≤ S64x14336.size a := by
  intro a
  fin_cases a
  · exact le_rfl
  · show 128 * n + 128 ≤ 14336
    omega

theorem slice_lane : ∀ g : Fin 112, S64x112.Slices ![0, g.val] S64x1 := by decide +kernel

/-- The codes of group `n`'s columns, as the body computes them from the block's steps, zero points and weights. -/
def codeV (n : Fin 112) (h z : FVec Ideal S64x112 .f32) (wg : Vec Ideal S64x128 .f32) : FVec Ideal S64x128 .f32 :=
  minimumf (broadcast S64x128 (Scalar.ofBits .f32 0x41700000#32)) (maximumf (broadcast S64x128 (Scalar.ofBits .f32 0x00000000#32))
    (addf (roundeven (divf wg (broadcastTo S64x128 (extractStridedSlice S64x1 ![0, n.val] h (slice_lane n)) broadcasts_S64x1_S64x128)))
      (broadcastTo S64x128 (extractStridedSlice S64x1 ![0, n.val] z (slice_lane n)) broadcasts_S64x1_S64x128)))
def codeP (n : Fin 112) (h z : FVec Ideal S64x112 .f32) (wg : Vec Ideal S64x128 .f32) : IVec S64x128 8 :=
  trunci 8 (fptosi 32 (codeV n h z wg)) natLt_8_32
def whatP (n : Fin 112) (h z : FVec Ideal S64x112 .f32) (wg : Vec Ideal S64x128 .f32) : FVec Ideal S64x128 .bf16 :=
  truncf .bf16 (mulf (subf (codeV n h z wg) (broadcastTo S64x128 (extractStridedSlice S64x1 ![0, n.val] z (slice_lane n)) broadcasts_S64x1_S64x128))
    (broadcastTo S64x128 (extractStridedSlice S64x1 ![0, n.val] h (slice_lane n)) broadcasts_S64x1_S64x128)) bitsLt_bf16_f32

/-- The load of group `n`'s columns at point `t`. -/
abbrev wgAt (t : Fin cfg0.N) (n : ℕ) (hn : n < 112) : Vec Ideal S64x128 .f32 :=
  View.readAt (Elt Ideal) (ms0_0 t).view (Rect.unit (s := S64x14336) ![0, 128 * n] ![64, 128] (inb_lanes n hn)).toLoadRect ((hs0_0 t).unread (iblk0 V c 0 t))

/-- One store per group of `P`, the last group first. -/
def groupStores {e : EltTy} (P : Fin 112 → S64x128.Idx → Elt Ideal e) : (n : ℕ) → n ≤ 112 → List (View.Piece (Elt Ideal) S64x14336 e)
  | 0, _ => []
  | n + 1, hn => ⟨Rect.unit (s := S64x14336) ![0, 128 * n] ![64, 128] (inb_lanes n hn), P ⟨n, hn⟩⟩ :: groupStores P n (by omega)

/-- The block's steps and zero points, as the body computes them at point `t`. -/
abbrev hB (t : Fin cfg0.N) : FVec Ideal S64x112 .f32 :=
  k0_pay11 (loopSt V c t k0_t1_loop.trips).1 (loopSt V c t k0_t1_loop.trips).2
    (View.readAt (Elt Ideal) (ms0_1 t).view (Rect.unit (s := S64x112) ![0, 0] ![64, 112] inb_S64x112_S64x112_0_0).toLoadRect ((hs0_1 t).unread (iblk0 V c 1 t)))
    (View.readAt (Elt Ideal) (ms0_2 t).view (Rect.unit (s := S64x112) ![0, 0] ![64, 112] inb_S64x112_S64x112_0_0).toLoadRect ((hs0_2 t).unread (iblk0 V c 2 t)))
abbrev zB (t : Fin cfg0.N) : FVec Ideal S64x112 .f32 :=
  k0_pay12 (loopSt V c t k0_t1_loop.trips).1 (loopSt V c t k0_t1_loop.trips).2
    (View.readAt (Elt Ideal) (ms0_1 t).view (Rect.unit (s := S64x112) ![0, 0] ![64, 112] inb_S64x112_S64x112_0_0).toLoadRect ((hs0_1 t).unread (iblk0 V c 1 t)))
    (View.readAt (Elt Ideal) (ms0_2 t).view (Rect.unit (s := S64x112) ![0, 0] ![64, 112] inb_S64x112_S64x112_0_0).toLoadRect ((hs0_2 t).unread (iblk0 V c 2 t)))

theorem off_zero0 : ∀ a : Fin S64x112.rank, (![0, 0] : Fin 2 → ℕ) a = 0 := by decide

/-! ## What the body stores at one grid point -/

set_option maxHeartbeats 4000000 in
theorem stores3 (t : Fin cfg0.N) : (dat0 V c).after 3 t
    = View.canon (groupStores (e := .i8) (fun n => codeP n (hB V c t) (zB V c t) (wgAt V c t n.val n.isLt)) 112 le_rfl) := by
  rw [after0_3]
  unfold outsAt0
  dsimp only
  unfold out0_A_3
  rw [View.read_writes_junk_eq_canon]
  refine congrArg View.canon ?_
  unfold kernelRun0_A
  dsimp only
  rfl

set_option maxHeartbeats 4000000 in
theorem stores4 (t : Fin cfg0.N) : (dat0 V c).after 4 t
    = View.canon (groupStores (e := .bf16) (fun n => whatP n (hB V c t) (zB V c t) (wgAt V c t n.val n.isLt)) 112 le_rfl) := by
  rw [after0_4]
  unfold outsAt0
  dsimp only
  unfold out0_A_4
  rw [View.read_writes_junk_eq_canon]
  refine congrArg View.canon ?_
  unfold kernelRun0_A
  dsimp only
  rfl

set_option maxHeartbeats 4000000 in
theorem stores5 (t : Fin cfg0.N) : (dat0 V c).after 5 t = hB V c t := by
  rw [after0_5]
  unfold outsAt0
  dsimp only
  unfold out0_A_5
  rw [View.read_writes_junk_eq_canon]
  unfold kernelRun0_A
  exact View.canon_unit_zero (funext off_zero0) _ _

set_option maxHeartbeats 4000000 in
theorem stores6 (t : Fin cfg0.N) : (dat0 V c).after 6 t = zB V c t := by
  rw [after0_6]
  unfold outsAt0
  dsimp only
  unfold out0_A_6
  rw [View.read_writes_junk_eq_canon]
  unfold kernelRun0_A
  exact View.canon_unit_zero (funext off_zero0) _ _

set_option maxHeartbeats 4000000 in
theorem stores7 (t : Fin cfg0.N) : (dat0 V c).after 7 t = (loopSt V c t k0_t1_loop.trips).1 := by
  rw [after0_7]
  unfold outsAt0
  dsimp only
  unfold out0_A_7
  rw [View.read_writes_junk_eq_canon]
  unfold kernelRun0_A
  exact View.canon_unit_zero (funext off_zero0) _ _

set_option maxHeartbeats 4000000 in
theorem stores8 (t : Fin cfg0.N) : (dat0 V c).after 8 t = (loopSt V c t k0_t1_loop.trips).2 := by
  rw [after0_8]
  unfold outsAt0
  dsimp only
  unfold out0_A_8
  rw [View.read_writes_junk_eq_canon]
  unfold kernelRun0_A
  exact View.canon_unit_zero (funext off_zero0) _ _

/-! ## The values at an index -/

theorem codeV_at (n : Fin 112) (h z : FVec Ideal S64x112 .f32) (wg : Vec Ideal S64x128 .f32) (r : Fin 64) (l : Fin 128) :
    codeV n h z wg (ix2 r l) = min Lwc.top (max 0 (Ideal.liftRound Ideal.roundHalfEven (Ideal.div (wg (ix2 r l)) (h (ix2 r n))) + z (ix2 r n))) := by
  pointwise [codeV]
theorem codeP_at (n : Fin 112) (h z : FVec Ideal S64x112 .f32) (wg : Vec Ideal S64x128 .f32) (r : Fin 64) (l : Fin 128) :
    codeP n h z wg (ix2 r l) = (Ideal.fptosi 32 (codeV n h z wg (ix2 r l))).setWidth 8 := by
  pointwise [codeP]
  rfl
theorem whatP_at (n : Fin 112) (h z : FVec Ideal S64x112 .f32) (wg : Vec Ideal S64x128 .f32) (r : Fin 64) (l : Fin 128) :
    whatP n h z wg (ix2 r l) = (codeV n h z wg (ix2 r l) - z (ix2 r n)) * h (ix2 r n) := by
  pointwise [whatP]

theorem groupStores_mem {e : EltTy} (P : Fin 112 → S64x128.Idx → Elt Ideal e) (n : ℕ) (hn : n ≤ 112) :
    ∀ p ∈ groupStores P n hn, ∃ g : Fin 112, p = ⟨Rect.unit (s := S64x14336) ![0, 128 * g.val] ![64, 128] (inb_lanes g.val g.isLt), P g⟩ := by
  induction n with
  | zero => intro p hp; exact absurd hp List.not_mem_nil
  | succ n ih =>
    intro p hp
    rcases List.mem_cons.mp hp with rfl | hp
    · exact ⟨⟨n, hn⟩, rfl⟩
    · exact ih _ p hp

theorem mem_groupStores {e : EltTy} (P : Fin 112 → S64x128.Idx → Elt Ideal e) (n : ℕ) (hn : n ≤ 112) (g : Fin 112) (hg : g.val < n) :
    (⟨Rect.unit (s := S64x14336) ![0, 128 * g.val] ![64, 128] (inb_lanes g.val g.isLt), P g⟩ : View.Piece (Elt Ideal) S64x14336 e) ∈ groupStores P n hn := by
  induction n with
  | zero => omega
  | succ n ih =>
    by_cases h : g.val = n
    · obtain rfl : g = ⟨n, hn⟩ := Fin.ext h
      exact List.mem_cons_self
    · exact List.mem_cons_of_mem _ (ih _ (by omega))

theorem lanes_emb (g : Fin 112) (r : Fin 64) (l : Fin 128) :
    (Rect.unit (s := S64x14336) ![0, 128 * g.val] ![64, 128] (inb_lanes g.val g.isLt)).emb (ix2 r l) = ix2 r (Lwc.col g l) := by
  refine funext fun a => Fin.ext ?_
  fin_cases a
  · show 0 + 1 * r.val = r.val
    omega
  · show 128 * g.val + 1 * l.val = g.val * 128 + l.val
    omega

/-- One store per group leaves the array whose columns of group `g` are `P g`. -/
theorem canon_groupStores {e : EltTy} (P : Fin 112 → S64x128.Idx → Elt Ideal e) (G : S64x14336.Idx → Elt Ideal e)
    (h : ∀ (g : Fin 112) (r : Fin 64) (l : Fin 128), P g (ix2 r l) = G (ix2 r (Lwc.col g l))) :
    View.canon (groupStores P 112 le_rfl) = G := by
  funext y
  refine View.canon_apply_of_pieces G _ (fun p hp x => ?_) y ?_
  · obtain ⟨g, rfl⟩ := groupStores_mem P 112 le_rfl p hp
    obtain ⟨r, l, rfl⟩ : ∃ (r : Fin 64) (l : Fin 128), x = ix2 r l := ⟨x 0, x 1, eq_ix2 (n0 := 64) (n1 := 128) x⟩
    exact (h g r l).trans (congrArg G (lanes_emb g r l).symm)
  · obtain ⟨r, d, rfl⟩ : ∃ (r : Fin 64) (d : Fin 14336), y = ix2 r d := ⟨y 0, y 1, eq_ix2 (n0 := 64) (n1 := 14336) y⟩
    refine ⟨_, mem_groupStores P 112 le_rfl (Lwc.grp d) (Lwc.grp d).isLt, ?_⟩
    have h2 := lanes_emb (Lwc.grp d) r (Lwc.lane d)
    rw [Lwc.col_grp_lane] at h2
    rw [← h2]
    exact LoadRect.idx_mem _ _

section
variable (aw : Lwc.WIdx → EReal) (aγ aβ : Lwc.GIdx → EReal)

/-- The array row of row `r` of the block at point `t`. -/
abbrev qrow (t : Fin cfg0.N) (r : Fin 64) : Fin 4096 := ⟨t.val * 64 + r.val, by have : t.val < 64 := t.isLt; omega⟩

variable (hw : V c main_arg2 = aw) (hγ : V c main_arg3 = aγ) (hβ : V c main_arg4 = aβ)

include hw in
theorem iblk0_0_at (t : Fin cfg0.N) (r : Fin 64) (d : Fin 14336) : iblk0 V c 0 t (ix2 r d) = aw (ix2 (qrow t r) d) := by
  have e : ∀ t : Fin cfg0.N, win0_0.index t = ![(grid0.coords t 0).val, 0] := (by decide +kernel : ∀ t : Fin grid0.N, _)
  have e' : ∀ t : Fin cfg0.N, (grid0.coords t 0).val = t.val := (by decide +kernel : ∀ t : Fin grid0.N, _)
  subst hw
  blk_ext [iblk0, e, e']
include hγ in
theorem iblk0_1_at (t : Fin cfg0.N) (r : Fin 64) (g : Fin 112) : iblk0 V c 1 t (ix2 r g) = aγ (ix2 (qrow t r) g) := by
  have e : ∀ t : Fin cfg0.N, win0_1.index t = ![(grid0.coords t 0).val, 0] := (by decide +kernel : ∀ t : Fin grid0.N, _)
  have e' : ∀ t : Fin cfg0.N, (grid0.coords t 0).val = t.val := (by decide +kernel : ∀ t : Fin grid0.N, _)
  subst hγ
  blk_ext [iblk0, e, e']

include hβ in
theorem iblk0_2_at (t : Fin cfg0.N) (r : Fin 64) (g : Fin 112) : iblk0 V c 2 t (ix2 r g) = aβ (ix2 (qrow t r) g) := by
  have e : ∀ t : Fin cfg0.N, win0_2.index t = ![(grid0.coords t 0).val, 0] := (by decide +kernel : ∀ t : Fin grid0.N, _)
  have e' : ∀ t : Fin cfg0.N, (grid0.coords t 0).val = t.val := (by decide +kernel : ∀ t : Fin grid0.N, _)
  subst hβ
  blk_ext [iblk0, e, e']

include hw in
theorem mx_at (t : Fin cfg0.N) (r : Fin 64) (g : Fin 112) :
    (loopSt V c t k0_t1_loop.trips).1 (ix2 r g) = Lwc.wmax aw (qrow t r) g := by
  rw [trips_eq, (loopSt_at V c t r g 112 le_rfl).1, if_pos g.isLt]
  exact congrArg (fun f : Fin 128 → EReal => Finset.univ.fold max (Ideal.ofBits .f32 0xFF800000#32) f)
    (funext fun l => iblk0_0_at V c aw hw t r (Lwc.col g l))
include hw in
theorem mn_at (t : Fin cfg0.N) (r : Fin 64) (g : Fin 112) :
    (loopSt V c t k0_t1_loop.trips).2 (ix2 r g) = Lwc.wmin aw (qrow t r) g := by
  rw [trips_eq, (loopSt_at V c t r g 112 le_rfl).2, if_pos g.isLt]
  exact congrArg (fun f : Fin 128 → EReal => Finset.univ.fold min (Ideal.ofBits .f32 0x7F800000#32) f)
    (funext fun l => iblk0_0_at V c aw hw t r (Lwc.col g l))

/-- A load of a whole 64 × 112 buffer. -/
theorem load_whole {arg : Memref sig .tc .vmem S64x112 .f32} (harg : arg.IsWhole) (x : Vec Ideal S64x112 .f32) (h) (r : Fin 64) (g : Fin 112) :
    View.readAt (Elt Ideal) arg.view (Rect.unit (s := S64x112) ![0, 0] ![64, 112] h).toLoadRect (harg.unread x) (ix2 r g) = x (ix2 r g) := by
  rw [harg.readAt_unread]
  refine congrArg x (funext fun a => Fin.ext ?_)
  fin_cases a
  · show 0 + 1 * r.val = r.val
    omega
  · show 0 + 1 * g.val = g.val
    omega

include hw hγ hβ in
theorem hB_at (t : Fin cfg0.N) (r : Fin 64) (g : Fin 112) : hB V c t (ix2 r g) = Lwc.step aw aγ aβ (qrow t r) g := by
  pointwise [k0_pay11, k0_pay10]
  rw [mx_at V c aw hw, mn_at V c aw hw, load_whole, load_whole, iblk0_1_at V c aγ hγ, iblk0_2_at V c aβ hβ]
  rfl

include hw hγ hβ in
theorem zB_at (t : Fin cfg0.N) (r : Fin 64) (g : Fin 112) : zB V c t (ix2 r g) = Lwc.zero aw aγ aβ (qrow t r) g := by
  have h := hB_at V c aw aγ aβ hw hγ hβ t r g
  unfold hB at h
  pointwise [k0_pay12, k0_pay10]
  rw [h, mn_at V c aw hw, load_whole, iblk0_2_at V c aβ hβ, zero_sub]
  rfl

include hw hγ hβ in
theorem codeV_eq (t : Fin cfg0.N) (r : Fin 64) (g : Fin 112) (l : Fin 128) :
    codeV g (hB V c t) (zB V c t) (wgAt V c t g.val g.isLt) (ix2 r l) = Lwc.code aw aγ aβ (qrow t r) g l := by
  rw [codeV_at, hB_at V c aw aγ aβ hw hγ hβ, zB_at V c aw aγ aβ hw hγ hβ, wgAt, load_lanes (hs0_0 t) _ _ g rfl, iblk0_0_at V c aw hw]
  rfl

include hw hγ hβ in
/-- The codes. -/
theorem arr0_3 : (dat0 V c).arrAt 3 cfg0.N = fun i => Ideal.fptosi 8 (Lwc.code aw aγ aβ (i 0) (Lwc.grp (i 1)) (Lwc.lane (i 1))) := by
  have e : ∀ t : Fin cfg0.N, win0_3.index t = ![(grid0.coords t 0).val, 0] := (by decide +kernel : ∀ t : Fin grid0.N, _)
  have e' : ∀ t : Fin cfg0.N, (grid0.coords t 0).val = t.val := (by decide +kernel : ∀ t : Fin grid0.N, _)
  refine (dat0 V c).arrAt_eq_of_covers 3 _ (by decide +kernel) fun t hf y => ?_
  rw [stores3]
  blk_simp
  obtain ⟨r, d, rfl⟩ : ∃ (r : Fin 64) (d : Fin 14336), y = ix2 r d := ⟨y 0, y 1, eq_ix2 (n0 := 64) (n1 := 14336) y⟩
  have he : (win0_3.blk t).view.emb (ix2 r d) = ix2 (qrow t r) d := by blk_ext [e, e']
  rw [he]
  refine congrFun (canon_groupStores (e := .i8) _ (fun y => Ideal.fptosi 8 (Lwc.code aw aγ aβ (qrow t (y 0)) (Lwc.grp (y 1)) (Lwc.lane (y 1)))) fun g r l => ?_) (ix2 r d)
  rw [codeP_at, codeV_eq V c aw aγ aβ hw hγ hβ, Lwc.code_narrow]
  show _ = Ideal.fptosi 8 (Lwc.code aw aγ aβ (qrow t r) (Lwc.grp (Lwc.col g l)) (Lwc.lane (Lwc.col g l)))
  rw [Lwc.grp_col, Lwc.lane_col]

include hw hγ hβ in
/-- The dequantised weights. -/
theorem arr0_4 : (dat0 V c).arrAt 4 cfg0.N = fun i => Lwc.what aw aγ aβ (i 0) (Lwc.grp (i 1)) (Lwc.lane (i 1)) := by
  have e : ∀ t : Fin cfg0.N, win0_4.index t = ![(grid0.coords t 0).val, 0] := (by decide +kernel : ∀ t : Fin grid0.N, _)
  have e' : ∀ t : Fin cfg0.N, (grid0.coords t 0).val = t.val := (by decide +kernel : ∀ t : Fin grid0.N, _)
  refine (dat0 V c).arrAt_eq_of_covers 4 _ (by decide +kernel) fun t hf y => ?_
  rw [stores4]
  blk_simp
  obtain ⟨r, d, rfl⟩ : ∃ (r : Fin 64) (d : Fin 14336), y = ix2 r d := ⟨y 0, y 1, eq_ix2 (n0 := 64) (n1 := 14336) y⟩
  have he : (win0_4.blk t).view.emb (ix2 r d) = ix2 (qrow t r) d := by blk_ext [e, e']
  rw [he]
  refine congrFun (canon_groupStores (e := .bf16) _ (fun y => Lwc.what aw aγ aβ (qrow t (y 0)) (Lwc.grp (y 1)) (Lwc.lane (y 1))) fun g r l => ?_) (ix2 r d)
  rw [whatP_at, codeV_eq V c aw aγ aβ hw hγ hβ, hB_at V c aw aγ aβ hw hγ hβ, zB_at V c aw aγ aβ hw hγ hβ]
  show _ = Lwc.what aw aγ aβ (qrow t r) (Lwc.grp (Lwc.col g l)) (Lwc.lane (Lwc.col g l))
  rw [Lwc.grp_col, Lwc.lane_col]
  rfl

include hw hγ hβ in
/-- The step sizes. -/
theorem arr0_5 : (dat0 V c).arrAt 5 cfg0.N = fun i => Lwc.step aw aγ aβ (i 0) (i 1) := by
  have e : ∀ t : Fin cfg0.N, win0_5.index t = ![(grid0.coords t 0).val, 0] := (by decide +kernel : ∀ t : Fin grid0.N, _)
  have e' : ∀ t : Fin cfg0.N, (grid0.coords t 0).val = t.val := (by decide +kernel : ∀ t : Fin grid0.N, _)
  refine (dat0 V c).arrAt_eq_of_covers 5 _ (by decide +kernel) fun t hf y => ?_
  rw [stores5]
  blk_simp
  obtain ⟨r, g, rfl⟩ : ∃ (r : Fin 64) (g : Fin 112), y = ix2 r g := ⟨y 0, y 1, eq_ix2 (n0 := 64) (n1 := 112) y⟩
  have he : (win0_5.blk t).view.emb (ix2 r g) = ix2 (qrow t r) g := by blk_ext [e, e']
  rw [he]
  exact hB_at V c aw aγ aβ hw hγ hβ t r g

include hw hγ hβ in
/-- The zero points. -/
theorem arr0_6 : (dat0 V c).arrAt 6 cfg0.N = fun i => Lwc.zero aw aγ aβ (i 0) (i 1) := by
  have e : ∀ t : Fin cfg0.N, win0_6.index t = ![(grid0.coords t 0).val, 0] := (by decide +kernel : ∀ t : Fin grid0.N, _)
  have e' : ∀ t : Fin cfg0.N, (grid0.coords t 0).val = t.val := (by decide +kernel : ∀ t : Fin grid0.N, _)
  refine (dat0 V c).arrAt_eq_of_covers 6 _ (by decide +kernel) fun t hf y => ?_
  rw [stores6]
  blk_simp
  obtain ⟨r, g, rfl⟩ : ∃ (r : Fin 64) (g : Fin 112), y = ix2 r g := ⟨y 0, y 1, eq_ix2 (n0 := 64) (n1 := 112) y⟩
  have he : (win0_6.blk t).view.emb (ix2 r g) = ix2 (qrow t r) g := by blk_ext [e, e']
  rw [he]
  exact zB_at V c aw aγ aβ hw hγ hβ t r g

include hw in
/-- The largest weights. -/
theorem arr0_7 : (dat0 V c).arrAt 7 cfg0.N = fun i => Lwc.wmax aw (i 0) (i 1) := by
  have e : ∀ t : Fin cfg0.N, win0_7.index t = ![(grid0.coords t 0).val, 0] := (by decide +kernel : ∀ t : Fin grid0.N, _)
  have e' : ∀ t : Fin cfg0.N, (grid0.coords t 0).val = t.val := (by decide +kernel : ∀ t : Fin grid0.N, _)
  refine (dat0 V c).arrAt_eq_of_covers 7 _ (by decide +kernel) fun t hf y => ?_
  rw [stores7]
  blk_simp
  obtain ⟨r, g, rfl⟩ : ∃ (r : Fin 64) (g : Fin 112), y = ix2 r g := ⟨y 0, y 1, eq_ix2 (n0 := 64) (n1 := 112) y⟩
  have he : (win0_7.blk t).view.emb (ix2 r g) = ix2 (qrow t r) g := by blk_ext [e, e']
  rw [he]
  exact mx_at V c aw hw t r g

include hw in
/-- The smallest weights. -/
theorem arr0_8 : (dat0 V c).arrAt 8 cfg0.N = fun i => Lwc.wmin aw (i 0) (i 1) := by
  have e : ∀ t : Fin cfg0.N, win0_8.index t = ![(grid0.coords t 0).val, 0] := (by decide +kernel : ∀ t : Fin grid0.N, _)
  have e' : ∀ t : Fin cfg0.N, (grid0.coords t 0).val = t.val := (by decide +kernel : ∀ t : Fin grid0.N, _)
  refine (dat0 V c).arrAt_eq_of_covers 8 _ (by decide +kernel) fun t hf y => ?_
  rw [stores8]
  blk_simp
  obtain ⟨r, g, rfl⟩ : ∃ (r : Fin 64) (g : Fin 112), y = ix2 r g := ⟨y 0, y 1, eq_ix2 (n0 := 64) (n1 := 112) y⟩
  have he : (win0_8.blk t).view.emb (ix2 r g) = ix2 (qrow t r) g := by blk_ext [e, e']
  rw [he]
  exact mn_at V c aw hw t r g
end

end Cert.KernelIdeal.Run
end
-- ==== Proof.Sums.lean ====
module
public import Idealize.ShloMosaic.Lib.Pipeline.ValueKit

/-! # Re-ordering the sums: the order in which the kernel's grid adds up the entries of an array against the plain one -/

@[expose] public section
namespace Cert.Lwc
open Finset

variable {M : Type*} [AddCommMonoid M]

/-- A sum over two axes by blocks of 512 × 512 visited in row-major order is the sum over the axes. -/
theorem sum_blocks (F : Fin 4096 → Fin 6144 → M) :
    (∑ t : Fin 96, ∑ a : Fin 512, ∑ b : Fin 512, F ⟨t.val / 12 * 512 + a.val, by omega⟩ ⟨t.val % 12 * 512 + b.val, by omega⟩)
      = ∑ o : Fin 4096, ∑ n : Fin 6144, F o n := by
  rw [Fin.sum_divmod_congr (A := 8) (S := 12)
    (f := fun i j => ∑ a : Fin 512, ∑ b : Fin 512, F ⟨i.val * 512 + a.val, by omega⟩ ⟨j.val * 512 + b.val, by omega⟩) (fun t ha hs => rfl)]
  rw [← Fin.sum_mul_add_fin 8 512 (fun o => ∑ n : Fin 6144, F o n)]
  refine Finset.sum_congr rfl fun i _ => ?_
  rw [Finset.sum_comm]
  refine Finset.sum_congr rfl fun a _ => ?_
  exact Fin.sum_mul_add_fin 12 512 (fun n => F ⟨i.val * 512 + a.val, by omega⟩ n)

/-- A sum over a block of 512 × 512 taken as 8 × 128 partial sums, each over every eighth row and four columns, is the
    sum over the block. -/
theorem sum_partials (G : Fin 512 → Fin 512 → M) :
    (∑ r : Fin 8, ∑ l : Fin 128, ∑ j : Fin 4, ∑ q : Fin 64, G ⟨q.val * 8 + r.val, by omega⟩ ⟨j.val * 128 + l.val, by omega⟩)
      = ∑ a : Fin 512, ∑ b : Fin 512, G a b := by
  rw [← Fin.sum_mul_add_fin 64 8 (fun a => ∑ b : Fin 512, G a b), Finset.sum_comm (s := (univ : Finset (Fin 64)))]
  refine Finset.sum_congr rfl fun r _ => ?_
  rw [Finset.sum_congr rfl fun l _ => Finset.sum_comm, Finset.sum_comm]
  refine Finset.sum_congr rfl fun q _ => ?_
  rw [Finset.sum_comm]
  exact Fin.sum_mul_add_fin 4 128 (fun b => G ⟨q.val * 8 + r.val, by omega⟩ b)

/-- The kernel's whole order of summation against the plain one: 8 × 128 partial sums, each accumulated over the 96
    blocks, against a sum over the two batches, the 3072 tokens of each and the 4096 outputs. -/
theorem sum_loss (F : Fin 4096 → Fin 6144 → M) :
    (∑ r : Fin 8, ∑ l : Fin 128, ∑ t : Fin 96, ∑ j : Fin 4, ∑ q : Fin 64,
        F ⟨t.val / 12 * 512 + (q.val * 8 + r.val), by omega⟩ ⟨t.val % 12 * 512 + (j.val * 128 + l.val), by omega⟩)
      = ∑ b : Fin 2, ∑ k : Fin 3072, ∑ o : Fin 4096, F o ⟨b.val * 3072 + k.val, by omega⟩ := by
  rw [Fin.sum_mul_add_fin 2 3072 (fun n => ∑ o : Fin 4096, F o n), Finset.sum_comm (s := (univ : Finset (Fin 6144))), ← sum_blocks]
  rw [Finset.sum_congr rfl fun r _ => Finset.sum_comm, Finset.sum_comm]
  refine Finset.sum_congr rfl fun t _ => ?_
  exact sum_partials (fun a b => F ⟨t.val / 12 * 512 + a.val, by omega⟩ ⟨t.val % 12 * 512 + b.val, by omega⟩)
end Cert.Lwc
-- ==== Proof.KernelIdealFwdValue.lean ====
module
public import proofs.«01_k».proof.Proof.KernelIdealFwd
public import proofs.«01_k».proof.Proof.Codes
public import proofs.«01_k».proof.Proof.Sums
public import Idealize.ShloMosaic.Lib.Pipeline.ValueKit
public import Idealize.ShloMosaic.Lib.WholeRead

/-! # What the forward call leaves: the scaled error matrix and the loss partials -/

@[expose] public section
set_option maxRecDepth 16384
noncomputable section
namespace Cert.KernelIdeal.Run
open Idealize.ShloMosaic Idealize.ShloMosaic.TcCoe Idealize.ShloMosaic.Tactic
open Cert.KernelIdeal.Gen

/-- The error at output row `o` and token `n`, over the flat token axis the kernel uses. -/
def errF (W : S4096x14336.Idx → EReal) (X : S6144x14336.Idx → EReal) (XS : S1x6144.Idx → EReal) (Y : S6144x4096.Idx → EReal)
    (o : Fin 4096) (n : Fin 6144) : EReal :=
  (∑ d : Fin 14336, W (ix2 o d) * X (ix2 n d)) * XS (ix2 0 n) - Y (ix2 n o)

variable (V : (c : Dev nD) → (b : Ref sig .tc) → Buf (Elt Ideal) ((c : Thread nD τ).loc b)) (c : Dev nD)

theorem k1_pay3_at (v5 : Vec Ideal S512x14336 .bf16) (v7 : Vec Ideal S512x14336 .fp8e4m3) (v10 : Vec Ideal S1x512 .f32) (v14 : Vec Ideal S512x512 .bf16)
    (a b : Fin 512) : k1_pay3 v5 v7 v10 v14 (ix2 a b) = (∑ x : Fin 14336, v5 (ix2 a x) * v7 (ix2 b x) : EReal) * v10 (ix2 0 b) - v14 (ix2 b a) := by
  pointwise [k1_pay3, k1_pay2]
theorem k1_pay5_at (v5 : Vec Ideal S512x14336 .bf16) (v7 : Vec Ideal S512x14336 .fp8e4m3) (v10 : Vec Ideal S1x512 .f32) (v14 : Vec Ideal S512x512 .bf16)
    (a b : Fin 512) : k1_pay5 v5 v7 v10 v14 (ix2 a b) = (k1_pay3 v5 v7 v10 v14 (ix2 a b) * v10 (ix2 0 b) : EReal) := by
  pointwise [k1_pay5, k1_pay2]

/-- Row `8q + r` of a block of 512. -/
abbrev row8 (q : Fin 64) (r : Fin 8) : Fin 512 := ⟨q.val * 8 + r.val, by omega⟩
/-- Column `128j + l` of a block of 512. -/
abbrev col4 (j : Fin 4) (l : Fin 128) : Fin 512 := ⟨j.val * 128 + l.val, by omega⟩

theorem k1_pay4_at (v5 : Vec Ideal S512x14336 .bf16) (v7 : Vec Ideal S512x14336 .fp8e4m3) (v10 : Vec Ideal S1x512 .f32) (v14 : Vec Ideal S512x512 .bf16)
    (v29 : Vec Ideal S8x128 .f32) (r : Fin 8) (l : Fin 128) : k1_pay4 v5 v7 v10 v14 v29 (ix2 r l)
      = (v29 (ix2 r l) + ∑ j : Fin 4, ∑ q : Fin 64, k1_pay3 v5 v7 v10 v14 (ix2 (row8 q r) (col4 j l)) * k1_pay3 v5 v7 v10 v14 (ix2 (row8 q r) (col4 j l)) : EReal) := by
  rw [Fin.sum_univ_four]
  have h0 : col4 0 l = ⟨l.val, Nat.lt_of_lt_of_le l.isLt (by decide)⟩ := Fin.ext (by show 0 * 128 + l.val = l.val; omega)
  rw [h0]
  pointwise [k1_pay4]
  rfl

theorem k1_pay1_at (r : Fin 8) (l : Fin 128) : k1_pay1 (F := Ideal) (ix2 r l) = (0 : EReal) := by
  pointwise [k1_pay1]

/-- A load of a whole buffer reads what the buffer holds. -/
theorem load_all {S : Shape} {sp : Space} {e : EltTy} {arg : Memref sig .tc sp S e} (harg : arg.IsWhole) (x : Vec Ideal S e)
    (off : Fin S.rank → ℕ) (hoff : ∀ a, off a = 0) (h) :
    View.readAt (Elt Ideal) arg.view (Rect.unit (s := S) off S.size h).toLoadRect (harg.unread x) = x := by
  funext i
  rw [harg.readAt_unread]
  refine congrArg x (funext fun a => Fin.ext ?_)
  show off a + 1 * (i a).val = (i a).val
  rw [hoff]
  omega

theorem off0 {S : Shape} (h : S.rank = 2) : ∀ a : Fin 2, (![0, 0] : Fin 2 → ℕ) a = 0 := by decide

theorem blockA4 (t : Fin cfg1.N) (h0 : t.val % 96 = 0) : (outsAt1 V c t.val t.isLt).1 = k1_pay5 (iblk1 V c 0 t) (iblk1 V c 1 t) (iblk1 V c 2 t) (iblk1 V c 3 t) := by
  rw [outsAt1_A V c t h0]
  dsimp only
  unfold out1_A_4
  rw [View.read_writes_junk_eq_canon]
  unfold kernelRun1_A
  dsimp only
  refine (View.canon_unit_zero (S := S512x512) (funext (by decide)) _ _).trans ?_
  unfold kernelRun1_A.sl.r
  rw [load_all (S := S512x14336) (hs1_0 t) _ _ (by decide), load_all (S := S512x14336) (hs1_1 t) _ _ (by decide), load_all (S := S1x512) (hs1_2 t) _ _ (by decide),
   load_all (S := S512x512) (hs1_3 t) _ _ (by decide)]
theorem blockB4 (t : Fin cfg1.N) (h0 : ¬ t.val % 96 = 0) : (outsAt1 V c t.val t.isLt).1 = k1_pay5 (iblk1 V c 0 t) (iblk1 V c 1 t) (iblk1 V c 2 t) (iblk1 V c 3 t) := by
  rw [outsAt1_B V c t h0]
  dsimp only
  unfold out1_B_4
  rw [View.read_writes_junk_eq_canon]
  unfold kernelRun1_B
  dsimp only
  refine (View.canon_unit_zero (S := S512x512) (funext (by decide)) _ _).trans ?_
  unfold kernelRun1_B.sl.r
  rw [load_all (S := S512x14336) (hs1_0 t) _ _ (by decide), load_all (S := S512x14336) (hs1_1 t) _ _ (by decide), load_all (S := S1x512) (hs1_2 t) _ _ (by decide),
   load_all (S := S512x512) (hs1_3 t) _ _ (by decide)]
theorem blockA5 (t : Fin cfg1.N) (h0 : t.val % 96 = 0) : (outsAt1 V c t.val t.isLt).2 = k1_pay4 (iblk1 V c 0 t) (iblk1 V c 1 t) (iblk1 V c 2 t) (iblk1 V c 3 t) (k1_pay1 (F := Ideal)) := by
  rw [outsAt1_A V c t h0]
  dsimp only
  unfold out1_A_5
  rw [View.read_writes_junk_eq_canon]
  unfold kernelRun1_A
  dsimp only
  refine (View.canon_cons_unit_zero (S := S8x128) (funext (by decide)) _ _ _).trans ?_
  unfold kernelRun1_A.sl.v29 kernelRun1_A.sl.H5_1
  rw [load_all (S := S512x14336) (hs1_0 t) _ _ (by decide), load_all (S := S512x14336) (hs1_1 t) _ _ (by decide), load_all (S := S1x512) (hs1_2 t) _ _ (by decide),
   load_all (S := S512x512) (hs1_3 t) _ _ (by decide)]
  refine congrArg (k1_pay4 _ _ _ _) ?_
  exact View.readCov_unit_lit' (Val := Elt Ideal) (S := S8x128) (ms1_5 t).view inb_S8x128_S8x128_0_0 (k1_pay1 (F := Ideal)) (by decide)
theorem blockB5 (t : Fin cfg1.N) (h0 : ¬ t.val % 96 = 0) : (outsAt1 V c t.val t.isLt).2 = k1_pay4 (iblk1 V c 0 t) (iblk1 V c 1 t) (iblk1 V c 2 t) (iblk1 V c 3 t)
    (outsAt1 V c (t.val - 1) (Nat.lt_of_le_of_lt (Nat.sub_le _ _) t.isLt)).2 := by
  rw [outsAt1_B V c t h0]
  dsimp only
  unfold out1_B_5
  rw [View.read_writes_junk_eq_canon]
  unfold kernelRun1_B
  dsimp only
  refine (View.canon_unit_zero (S := S8x128) (funext (by decide)) _ _).trans ?_
  rw [load_all (S := S512x14336) (hs1_0 t) _ _ (by decide), load_all (S := S512x14336) (hs1_1 t) _ _ (by decide), load_all (S := S1x512) (hs1_2 t) _ _ (by decide),
   load_all (S := S512x512) (hs1_3 t) _ _ (by decide), load_all (S := S8x128) (hs1_5 t) _ _ (by decide)]

/-- The output row block's row `a` at point `t`. -/
abbrev fo (t : Fin cfg1.N) (a : Fin 512) : Fin 4096 := ⟨t.val / 12 * 512 + a.val, by have h : t.val < 96 := t.isLt; omega⟩
/-- The token block's token `b` at point `t`. -/
abbrev fn (t : Fin cfg1.N) (b : Fin 512) : Fin 6144 := ⟨t.val % 12 * 512 + b.val, by omega⟩

section
variable (W : S4096x14336.Idx → EReal) (X : S6144x14336.Idx → EReal) (XS : S1x6144.Idx → EReal) (Y : S6144x4096.Idx → EReal)
variable (hW : V c main_v3_1 = W) (hX : V c main_v0 = X) (hXS : V c main_v1 = XS) (hY : V c main_v2 = Y)

/-! ## The grid point's blocks of the arrays: 512 output rows, 512 tokens -/

theorem co1_0 : ∀ t : Fin cfg1.N, (grid1.coords t 0).val = t.val / 12 := (by decide +kernel : ∀ t : Fin grid1.N, _)
theorem co1_1 : ∀ t : Fin cfg1.N, (grid1.coords t 1).val = t.val % 12 := (by decide +kernel : ∀ t : Fin grid1.N, _)

include hW in
theorem iblk1_0_at (t : Fin cfg1.N) (a : Fin 512) (d : Fin 14336) : iblk1 V c 0 t (ix2 a d) = W (ix2 (fo t a) d) := by
  have e : ∀ t : Fin cfg1.N, win1_0.index t = ![(grid1.coords t 0).val, 0] := (by decide +kernel : ∀ t : Fin grid1.N, _)
  subst hW
  blk_ext [iblk1, e, co1_0]
include hX in
theorem iblk1_1_at (t : Fin cfg1.N) (b : Fin 512) (d : Fin 14336) : iblk1 V c 1 t (ix2 b d) = X (ix2 (fn t b) d) := by
  have e : ∀ t : Fin cfg1.N, win1_1.index t = ![(grid1.coords t 1).val, 0] := (by decide +kernel : ∀ t : Fin grid1.N, _)
  subst hX
  blk_ext [iblk1, e, co1_1]
include hXS in
theorem iblk1_2_at (t : Fin cfg1.N) (b : Fin 512) : iblk1 V c 2 t (ix2 0 b) = XS (ix2 0 (fn t b)) := by
  have e : ∀ t : Fin cfg1.N, win1_2.index t = ![0, (grid1.coords t 1).val] := (by decide +kernel : ∀ t : Fin grid1.N, _)
  subst hXS
  blk_ext [iblk1, e, co1_1]
include hY in
theorem iblk1_3_at (t : Fin cfg1.N) (b a : Fin 512) : iblk1 V c 3 t (ix2 b a) = Y (ix2 (fn t b) (fo t a)) := by
  have e : ∀ t : Fin cfg1.N, win1_3.index t = ![(grid1.coords t 1).val, (grid1.coords t 0).val] := (by decide +kernel : ∀ t : Fin grid1.N, _)
  subst hY
  blk_ext [iblk1, e, co1_0, co1_1]

include hW hX hXS hY in
theorem e_at (t : Fin cfg1.N) (a b : Fin 512) : k1_pay3 (iblk1 V c 0 t) (iblk1 V c 1 t) (iblk1 V c 2 t) (iblk1 V c 3 t) (ix2 a b) = errF W X XS Y (fo t a) (fn t b) := by
  rw [k1_pay3_at, iblk1_2_at V c XS hXS, iblk1_3_at V c Y hY]
  simp only [iblk1_0_at V c W hW, iblk1_1_at V c X hX]
  rfl

theorem block4 (t : Fin cfg1.N) : (outsAt1 V c t.val t.isLt).1 = k1_pay5 (iblk1 V c 0 t) (iblk1 V c 1 t) (iblk1 V c 2 t) (iblk1 V c 3 t) := by
  by_cases h : t.val % 96 = 0
  · exact blockA4 V c t h
  · exact blockB4 V c t h

include hW hX hXS hY in
/-- The scaled error matrix. -/
theorem arr1_4 : (dat1 V c).arrAt 4 cfg1.N = fun i => (errF W X XS Y (i 0) (i 1) * XS (ix2 0 (i 1)) : EReal) := by
  have e : ∀ t : Fin cfg1.N, win1_4.index t = ![(grid1.coords t 0).val, (grid1.coords t 1).val] := (by decide +kernel : ∀ t : Fin grid1.N, _)
  refine (dat1 V c).arrAt_eq_of_covers 4 _ (by decide +kernel) fun t hf y => ?_
  rw [after1_4, block4]
  blk_simp
  obtain ⟨a, b, rfl⟩ : ∃ (a b : Fin 512), y = ix2 a b := ⟨y 0, y 1, eq_ix2 (n0 := 512) (n1 := 512) y⟩
  have he : (win1_4.blk t).view.emb (ix2 a b) = ix2 (fo t a) (fn t b) := by blk_ext [e, co1_0, co1_1]
  rw [he, k1_pay5_at, e_at V c W X XS Y hW hX hXS hY, iblk1_2_at V c XS hXS]
  rfl

/-- What point `t` adds to entry `(r, l)` of the loss partials. -/
def lpart (t : Fin cfg1.N) (i : S8x128.Idx) : EReal :=
  ∑ j : Fin 4, ∑ q : Fin 64, errF W X XS Y (fo t (row8 q (i 0))) (fn t (col4 j (i 1))) * errF W X XS Y (fo t (row8 q (i 0))) (fn t (col4 j (i 1)))

include hW hX hXS hY in
theorem part_at (t : Fin cfg1.N) (v : Vec Ideal S8x128 .f32) (i : S8x128.Idx) :
    k1_pay4 (iblk1 V c 0 t) (iblk1 V c 1 t) (iblk1 V c 2 t) (iblk1 V c 3 t) v i = (v i + lpart W X XS Y t i : EReal) := by
  obtain ⟨r, l, rfl⟩ : ∃ (r : Fin 8) (l : Fin 128), i = ix2 r l := ⟨i 0, i 1, eq_ix2 (n0 := 8) (n1 := 128) i⟩
  rw [k1_pay4_at]
  simp only [e_at V c W X XS Y hW hX hXS hY]
  rfl

include hW hX hXS hY in
/-- The accumulator after the last point: every point's part. -/
theorem lossAcc (T : Fin cfg1.N) (hT : T.val + 1 = cfg1.N) (hN : cfg1.N ≤ 96) (i : S8x128.Idx) :
    (outsAt1 V c T.val T.isLt).2 i = (∑ t : Fin cfg1.N, lpart W X XS Y t i : EReal) := by
  refine (Pipeline.eq_sum_fin_of_reset_step_apply_last (M := EReal) (fun n h => (outsAt1 V c n h).2) 96 (k1_pay1 (F := Ideal)) (lpart W X XS Y)
    (fun t h i => ?_) (fun t h i => ?_) hN T hT i).trans ?_
  · exact (congrFun (blockA5 V c t h) i).trans (part_at V c W X XS Y hW hX hXS hY t _ i)
  · exact (congrFun (blockB5 V c t h) i).trans (part_at V c W X XS Y hW hX hXS hY t _ i)
  · obtain ⟨r, l, rfl⟩ : ∃ (r : Fin 8) (l : Fin 128), i = ix2 r l := ⟨i 0, i 1, eq_ix2 (n0 := 8) (n1 := 128) i⟩
    rw [k1_pay1_at, zero_add]

include hW hX hXS hY in
theorem arr1_5_of (T : Fin cfg1.N) (hT : T.val + 1 = cfg1.N) (hN : cfg1.N ≤ 96) (hw : (cfg1.win 5).WholeAt T) :
    (dat1 V c).arrAt 5 cfg1.N = fun i => (∑ t : Fin cfg1.N, lpart W X XS Y t i : EReal) := by
  refine (dat1 V c).arrAt_eq_of_after_last 5 T hw _ fun j => ?_
  rw [after1_5, lossAcc V c W X XS Y hW hX hXS hY T hT hN]
  rfl

include hW hX hXS hY in
/-- The loss partials. -/
theorem arr1_5 : (dat1 V c).arrAt 5 cfg1.N = fun i => (∑ t : Fin cfg1.N, lpart W X XS Y t i : EReal) :=
  arr1_5_of V c W X XS Y hW hX hXS hY ⟨95, by decide⟩ (by decide) (by decide) (by decide +kernel)

/-- Summing the partials over their 8 × 128 entries sums the square of the error over every output and every token. -/
theorem sum_lpart : (∑ r : Fin 8, ∑ l : Fin 128, ∑ t : Fin cfg1.N, lpart W X XS Y t (ix2 r l))
    = ∑ b : Fin 2, ∑ k : Fin 3072, ∑ o : Fin 4096, errF W X XS Y o ⟨b.val * 3072 + k.val, by omega⟩ * errF W X XS Y o ⟨b.val * 3072 + k.val, by omega⟩ := by
  exact Lwc.sum_loss fun o n => errF W X XS Y o n * errF W X XS Y o n
end
end Cert.KernelIdeal.Run
end
-- ==== Proof.KernelIdealBwdValue.lean ====
module
public import proofs.«01_k».proof.Proof.KernelIdealBwd
public import proofs.«01_k».proof.Proof.Codes
public import Idealize.ShloMosaic.Lib.Pipeline.ValueKit
public import Idealize.ShloMosaic.Lib.WholeRead

/-! # What the backward call leaves: the two gradients -/

@[expose] public section
set_option maxRecDepth 16384
noncomputable section
namespace Cert.KernelIdeal.Run
open Idealize.ShloMosaic Idealize.ShloMosaic.TcCoe Idealize.ShloMosaic.Tactic
open Cert.KernelIdeal.Gen

/-- The entry of each row under the mask, as a column: the masked row sum the body takes. -/
def pickCol (mask : IVec S512x112 1) (h : FVec Ideal S512x112 .f32) : FVec Ideal S512x1 .f32 :=
  shapeCast S512x1 (multiReduction .add [1] S512 (select mask h (broadcast S512x112 (Scalar.ofBits .f32 0x00000000#32 : Ideal .f32)))
    0x00000000#32 reduces_S512x112_S512 (.inl rfl) rfl) shapeCasts_S512_S512x1

/-- Weights in units of the step. -/
def scaledB (mask : IVec S512x112 1) (h : FVec Ideal S512x112 .f32) (w : FVec Ideal S512x128 .f32) : FVec Ideal S512x128 .f32 :=
  divf w (broadcastTo S512x128 (pickCol mask h) broadcasts_S512x1_S512x128)

/-- The codes before clipping. -/
def rawB (mask : IVec S512x112 1) (h z : FVec Ideal S512x112 .f32) (w : FVec Ideal S512x128 .f32) : FVec Ideal S512x128 .f32 :=
  addf (roundeven (scaledB mask h w)) (broadcastTo S512x128 (pickCol mask z) broadcasts_S512x1_S512x128)

/-- The derivative of the dequantised weights by the step. -/
def derivB (mask : IVec S512x112 1) (h z : FVec Ideal S512x112 .f32) (w : FVec Ideal S512x128 .f32) : FVec Ideal S512x128 .f32 :=
  subf (subf (minimumf (broadcast S512x128 (Scalar.ofBits .f32 0x41700000#32 : Ideal .f32)) (maximumf (broadcast S512x128 (Scalar.ofBits .f32 0x00000000#32 : Ideal .f32)) (rawB mask h z w)))
      (broadcastTo S512x128 (pickCol mask z) broadcasts_S512x1_S512x128))
    (select (andi (cmpf .oge (rawB mask h z w) (broadcast S512x128 (Scalar.ofBits .f32 0x00000000#32 : Ideal .f32)))
        (cmpf .ole (rawB mask h z w) (broadcast S512x128 (Scalar.ofBits .f32 0x41700000#32 : Ideal .f32))))
      (scaledB mask h w) (broadcast S512x128 (Scalar.ofBits .f32 0x00000000#32 : Ideal .f32)))

/-- One group's write into the scratch: on the masked lane the sum over the group's columns, elsewhere what was there. -/
def stepB (mask : IVec S512x112 1) (h z : FVec Ideal S512x112 .f32) (w gr : FVec Ideal S512x128 .f32) (s : FVec Ideal S512x112 .f32) : FVec Ideal S512x112 .f32 :=
  select mask (broadcastTo S512x112 (shapeCast S512x1 (shapeCast S512x1 (multiReduction .add [1] S512
      (mulf (mulf gr (broadcast S512x128 (Scalar.ofBits .f32 0x33AAAAAB#32 : Ideal .f32))) (derivB mask h z w))
      0x00000000#32 reduces_S512x128_S512 (.inl rfl) rfl) shapeCasts_S512_S512x1) shapeCasts_S512x1_S512x1) broadcasts_S512x1_S512x112) s

section
variable (i : grid2.Coords) (x0 : Vec Ideal S512x6144 .bf16) (x1 : Vec Ideal S6144x512 .fp8e4m3) (x2 : Vec Ideal S512x512 .f32)
  (x3 x4 s : Vec Ideal S512x112 .f32)

/-- Group 0's write is this step. -/
theorem sA_step : sA i x0 x1 x2 x3 x4 s = stepB (k2_pay8 i) (k2_pay6 (View.ld x3 r2_2)) (k2_pay7 (View.ld x4 r2_2)) (View.ld x2 r2_3)
    (extractStridedSlice S512x128 ![0, 0] (k2_pay5 (View.ld x0 r2_0) (View.ld x1 r2_1)) slices_S512x512_o0_0_S512x128) (View.ld s r2_2) := rfl
theorem sB_step : sB i x0 x1 x2 x3 x4 s = stepB (k2_pay15 (jw i) lanes2) (k2_pay6 (View.ld x3 r2_2)) (k2_pay7 (View.ld x4 r2_2)) (View.ld x2 r2_4)
    (extractStridedSlice S512x128 ![0, 128] (k2_pay5 (View.ld x0 r2_0) (View.ld x1 r2_1)) slices_S512x512_o0_128_S512x128) (sA i x0 x1 x2 x3 x4 s) := rfl
theorem sC_step : sC i x0 x1 x2 x3 x4 s = stepB (k2_pay23 (jw i) lanes2) (k2_pay6 (View.ld x3 r2_2)) (k2_pay7 (View.ld x4 r2_2)) (View.ld x2 r2_5)
    (extractStridedSlice S512x128 ![0, 256] (k2_pay5 (View.ld x0 r2_0) (View.ld x1 r2_1)) slices_S512x512_o0_256_S512x128) (sB i x0 x1 x2 x3 x4 s) := rfl
theorem sD_step : sD i x0 x1 x2 x3 x4 s = stepB (k2_pay30 (jw i) lanes2) (k2_pay6 (View.ld x3 r2_2)) (k2_pay7 (View.ld x4 r2_2)) (View.ld x2 r2_6)
    (extractStridedSlice S512x128 ![0, 384] (k2_pay5 (View.ld x0 r2_0) (View.ld x1 r2_1)) slices_S512x512_o0_384_S512x128) (sC i x0 x1 x2 x3 x4 s) := rfl
end

/-- The derivative of a dequantised weight by the step, from the group's step and zero point. -/
def deriv (h z w : EReal) : EReal :=
  (min Lwc.top (max 0 (Ideal.liftRound Ideal.roundHalfEven (Ideal.div w h) + z)) - z)
    - if 0 ≤ Ideal.liftRound Ideal.roundHalfEven (Ideal.div w h) + z ∧ Ideal.liftRound Ideal.roundHalfEven (Ideal.div w h) + z ≤ Lwc.top
      then Ideal.div w h else 0

theorem select_and (p q : Prop) [Decidable p] [Decidable q] (a b : EReal) :
    Scalar.select (IntOp.andi (BitVec.ofBool (decide p)) (BitVec.ofBool (decide q))) a b = if p ∧ q then a else b := by
  by_cases hp : p <;> by_cases hq : q <;> simp [Scalar.select, IntOp.andi, hp, hq]

section
variable (mask : IVec S512x112 1) (h z : FVec Ideal S512x112 .f32) (w gr : FVec Ideal S512x128 .f32) (s : FVec Ideal S512x112 .f32)
variable (r : Fin 512) (g : Fin 112)

/-- A mask that holds on one lane picks that lane's entry. -/
theorem pickCol_at (hm : ∀ g' : Fin 112, mask (ix2 r g') = 1 ↔ g' = g) (y : Fin 1) : pickCol mask h (ix2 r y) = h (ix2 r g) := by
  have hs : (∑ x : Fin 112, Scalar.select (mask (ix2 r x)) (h (ix2 r x)) (0 : EReal)) = h (ix2 r g) := by
    rw [Finset.sum_eq_single g]
    · exact if_pos ((hm g).mpr rfl)
    · exact fun b _ hb => if_neg fun e => hb ((hm b).mp e)
    · exact fun hb => absurd (Finset.mem_univ _) hb
  refine Eq.trans ?_ hs
  pointwise [pickCol]

theorem derivB_at (hm : ∀ g' : Fin 112, mask (ix2 r g') = 1 ↔ g' = g) (k : Fin 128) :
    derivB mask h z w (ix2 r k) = deriv (h (ix2 r g)) (z (ix2 r g)) (w (ix2 r k)) := by
  pointwise [derivB, rawB, scaledB]
  rw [pickCol_at mask h r g hm, pickCol_at mask z r g hm]
  rw [select_and]
  rfl

/-- The masked lane's new entry. -/
theorem stepB_own (hm : ∀ g' : Fin 112, mask (ix2 r g') = 1 ↔ g' = g) :
    stepB mask h z w gr s (ix2 r g) = (∑ k : Fin 128, gr (ix2 r k) * Lwc.twoOverN * deriv (h (ix2 r g)) (z (ix2 r g)) (w (ix2 r k)) : EReal) := by
  pointwise [stepB]
  refine (if_pos ((hm g).mpr rfl)).trans ?_
  simp only [derivB_at mask h z w r g hm]

theorem stepB_other (hm : mask (ix2 r g) ≠ 1) : stepB mask h z w gr s (ix2 r g) = s (ix2 r g) := by
  pointwise [stepB]
  exact if_neg hm
end

theorem k2_pay5_at (v0 : Vec Ideal S512x6144 .bf16) (v2 : Vec Ideal S6144x512 .fp8e4m3) (a b : Fin 512) :
    k2_pay5 v0 v2 (ix2 a b) = (∑ n : Fin 6144, v0 (ix2 a n) * v2 (ix2 n b) : EReal) := by
  pointwise [k2_pay5]

/-- A load of 128 columns of a 512-column block. -/
theorem ld_cols (x2 : Vec Ideal S512x512 .f32) (off : ℕ) (inb) (hoff : off + 128 ≤ 512) (r : Fin 512) (k : Fin 128) :
    View.ld x2 (Rect.unit (s := S512x512) ![0, off] S512x128.size inb) (ix2 r k) = x2 (ix2 r ⟨off + k.val, by omega⟩) := by
  refine congrArg x2 (funext fun a => Fin.ext ?_)
  fin_cases a
  · show 0 + 1 * r.val = r.val
    omega
  · show off + 1 * k.val = off + k.val
    omega

theorem slice_cols (x : FVec Ideal S512x512 .f32) (off : ℕ) (hs) (hoff : off + 128 ≤ 512) (r : Fin 512) (k : Fin 128) :
    extractStridedSlice S512x128 ![0, off] x hs (ix2 r k) = x (ix2 r ⟨off + k.val, by omega⟩) := by
  pointwise
section
variable (i : grid2.Coords) (x0 : Vec Ideal S512x6144 .bf16) (x1 : Vec Ideal S6144x512 .fp8e4m3) (x2 : Vec Ideal S512x512 .f32)
  (x3 x4 s : Vec Ideal S512x112 .f32) (r : Fin 512) (g : Fin 112)

/-- The gradient by the step of one row and group, from the blocks of a point. -/
def gBlk : EReal :=
  ∑ k : Fin 128, (∑ n : Fin 6144, x0 (ix2 r n) * x1 (ix2 n ⟨g.val % 4 * 128 + k.val, by omega⟩)) * Lwc.twoOverN
    * deriv (x3 (ix2 r g)) (x4 (ix2 r g)) (x2 (ix2 r ⟨g.val % 4 * 128 + k.val, by omega⟩))

theorem own (mask : IVec S512x112 1) (j off : ℕ) (hj : ∀ y : S512x112.Idx, mask y = 1 ↔ (y 1).val = 4 * (i 1).val + j) (hg : g.val = 4 * (i 1).val + j) (hlt : j < 4)
    (hoff : off = j * 128) (inb) (hs) (s' : FVec Ideal S512x112 .f32) :
    stepB mask (k2_pay6 (View.ld x3 r2_2)) (k2_pay7 (View.ld x4 r2_2)) (View.ld x2 (Rect.unit (s := S512x512) ![0, off] S512x128.size inb))
      (extractStridedSlice S512x128 ![0, off] (k2_pay5 (View.ld x0 r2_0) (View.ld x1 r2_1)) hs) s' (ix2 r g) = gBlk x0 x1 x2 x3 x4 r g := by
  have h6 : k2_pay6 (View.ld x3 r2_2) (ix2 r g) = x3 (ix2 r g) := by
    rw [View.ld_unit_zero (funext off_zero)]
    pointwise [k2_pay6]
  have h7 : k2_pay7 (View.ld x4 r2_2) (ix2 r g) = x4 (ix2 r g) := by
    rw [View.ld_unit_zero (funext off_zero)]
    pointwise [k2_pay7]
  rw [stepB_own (g := g) (hm := fun g' => (hj (ix2 r g')).trans ⟨fun e => Fin.ext (e.trans hg.symm), fun e => e ▸ hg⟩), h6, h7]
  refine Finset.sum_congr rfl fun k _ => ?_
  have hgj : g.val % 4 = j := by omega
  rw [ld_cols x2 off inb (by omega), slice_cols _ off hs (by omega), k2_pay5_at, View.ld_unit_zero (S := S512x6144) (funext off_zero), View.ld_unit_zero (S := S6144x512) (funext off_zero)]
  simp only [hgj, hoff]

/-- On the point's own four lanes the scratch holds the gradient. -/
theorem sD_val (hg : g.val / 4 = (i 1).val) : sD i x0 x1 x2 x3 x4 s (ix2 r g) = gBlk x0 x1 x2 x3 x4 r g := by
  have hc : g.val % 4 = 0 ∨ g.val % 4 = 1 ∨ g.val % 4 = 2 ∨ g.val % 4 = 3 := by omega
  have no : ∀ (mask : IVec S512x112 1) (j : ℕ), (∀ y : S512x112.Idx, mask y = 1 ↔ (y 1).val = 4 * (i 1).val + j) → g.val % 4 ≠ j → j < 4 → mask (ix2 r g) ≠ 1 :=
    fun mask j hj hne hlt e => hne (by have h : g.val = 4 * (i 1).val + j := (hj _).mp e; omega)
  rcases hc with h | h | h | h
  · rw [sD_step, stepB_other _ _ _ _ _ _ r g (no _ 3 (pickD i) (by omega) (by omega)), sC_step, stepB_other _ _ _ _ _ _ r g (no _ 2 (pickC i) (by omega) (by omega)),
      sB_step, stepB_other _ _ _ _ _ _ r g (no _ 1 (pickB i) (by omega) (by omega)), sA_step]
    exact own i x0 x1 x2 x3 x4 r g _ 0 0 (pickA i) (by omega) (by omega) rfl _ _ _
  · rw [sD_step, stepB_other _ _ _ _ _ _ r g (no _ 3 (pickD i) (by omega) (by omega)), sC_step, stepB_other _ _ _ _ _ _ r g (no _ 2 (pickC i) (by omega) (by omega)), sB_step]
    exact own i x0 x1 x2 x3 x4 r g _ 1 128 (pickB i) (by omega) (by omega) rfl _ _ _
  · rw [sD_step, stepB_other _ _ _ _ _ _ r g (no _ 3 (pickD i) (by omega) (by omega)), sC_step]
    exact own i x0 x1 x2 x3 x4 r g _ 2 256 (pickC i) (by omega) (by omega) rfl _ _ _
  · rw [sD_step]
    exact own i x0 x1 x2 x3 x4 r g _ 3 384 (pickD i) (by omega) (by omega) rfl _ _ _

variable (x5 x6 x7 x8 : Vec Ideal S512x112 .f32)

/-- The last point's `dgamma` block, -/
theorem out2_9_at : out2_9 i x0 x1 x2 x3 x4 x5 x6 x7 x8 s (ix2 r g)
    = Ideal.div (sD i x0 x1 x2 x3 x4 s (ix2 r g) * Ideal.logistic (x7 (ix2 r g)) * (1 - Ideal.logistic (x7 (ix2 r g))) * x5 (ix2 r g)) Lwc.top := by
  unfold out2_9 sD
  rw [View.canon_unit_zero (funext off_zero), View.ld_unit_zero (funext off_zero), View.ld_unit_zero (funext off_zero)]
  generalize sC i x0 x1 x2 x3 x4 s = p0
  generalize k2_pay30 (jw i) lanes2 = p1
  generalize sK i x0 x1 x2 x3 x4 = p2
  pointwise [k2_pay3]
/-- and its `dbeta` block. -/
theorem out2_10_at : out2_10 i x0 x1 x2 x3 x4 x5 x6 x7 x8 s (ix2 r g)
    = Ideal.div (-sD i x0 x1 x2 x3 x4 s (ix2 r g) * Ideal.logistic (x8 (ix2 r g)) * (1 - Ideal.logistic (x8 (ix2 r g))) * x6 (ix2 r g)) Lwc.top := by
  unfold out2_10 sD
  rw [View.canon_unit_zero (funext off_zero), View.ld_unit_zero (funext off_zero), View.ld_unit_zero (funext off_zero)]
  generalize sC i x0 x1 x2 x3 x4 s = p0
  generalize k2_pay30 (jw i) lanes2 = p1
  generalize sK i x0 x1 x2 x3 x4 = p2
  pointwise [k2_pay4]
  rw [zero_sub]
end

variable (V : (c : Dev nD) → (b : Ref sig .tc) → Buf (Elt Ideal) ((c : Thread nD τ).loc b)) (c : Dev nD)

/-! ## The grid point's blocks of the arrays: 512 output rows, 512 columns, which are four groups -/

theorem co2_0 : ∀ t : Fin cfg2.N, (grid2.coords t 0).val = t.val / 28 := (by decide +kernel : ∀ t : Fin grid2.N, _)
theorem co2_1 : ∀ t : Fin cfg2.N, (grid2.coords t 1).val = t.val % 28 := (by decide +kernel : ∀ t : Fin grid2.N, _)

/-- The output row of the block's row `r` at point `t`. -/
abbrev bo (t : Fin cfg2.N) (r : Fin 512) : Fin 4096 := ⟨t.val / 28 * 512 + r.val, by have h : t.val < 224 := t.isLt; omega⟩
/-- The input column of the block's column `b` at point `t`. -/
abbrev bd (t : Fin cfg2.N) (b : Fin 512) : Fin 14336 := ⟨t.val % 28 * 512 + b.val, by omega⟩

section
variable (GE : S4096x6144.Idx → EReal) (X : S6144x14336.Idx → EReal) (W : S4096x14336.Idx → EReal) (H Z MX MN G B : S4096x112.Idx → EReal)
variable (hGE : V c main_v4_0 = GE) (hX : V c main_v0 = X) (hW : V c main_arg2 = W) (hH : V c main_v3_2 = H) (hZ : V c main_v3_3 = Z)
  (hMX : V c main_v3_4 = MX) (hMN : V c main_v3_5 = MN) (hG : V c main_arg3 = G) (hB : V c main_arg4 = B)

include hGE in
theorem iblk2_0_at (t : Fin cfg2.N) (r : Fin 512) (n : Fin 6144) : iblk2 V c 0 t (ix2 r n) = GE (ix2 (bo t r) n) := by
  have e : ∀ t : Fin cfg2.N, win2_0.index t = ![(grid2.coords t 0).val, 0] := (by decide +kernel : ∀ t : Fin grid2.N, _)
  subst hGE
  blk_ext [iblk2, e, co2_0]
include hX in
theorem iblk2_1_at (t : Fin cfg2.N) (n : Fin 6144) (b : Fin 512) : iblk2 V c 1 t (ix2 n b) = X (ix2 n (bd t b)) := by
  have e : ∀ t : Fin cfg2.N, win2_1.index t = ![0, (grid2.coords t 1).val] := (by decide +kernel : ∀ t : Fin grid2.N, _)
  subst hX
  blk_ext [iblk2, e, co2_1]
include hW in
theorem iblk2_2_at (t : Fin cfg2.N) (r b : Fin 512) : iblk2 V c 2 t (ix2 r b) = W (ix2 (bo t r) (bd t b)) := by
  have e : ∀ t : Fin cfg2.N, win2_2.index t = ![(grid2.coords t 0).val, (grid2.coords t 1).val] := (by decide +kernel : ∀ t : Fin grid2.N, _)
  subst hW
  blk_ext [iblk2, e, co2_0, co2_1]
include hH in
theorem iblk2_3_at (t : Fin cfg2.N) (r : Fin 512) (g : Fin 112) : iblk2 V c 3 t (ix2 r g) = H (ix2 (bo t r) g) := by
  have e : ∀ t : Fin cfg2.N, win2_3.index t = ![(grid2.coords t 0).val, 0] := (by decide +kernel : ∀ t : Fin grid2.N, _)
  subst hH
  blk_ext [iblk2, e, co2_0]
include hZ in
theorem iblk2_4_at (t : Fin cfg2.N) (r : Fin 512) (g : Fin 112) : iblk2 V c 4 t (ix2 r g) = Z (ix2 (bo t r) g) := by
  have e : ∀ t : Fin cfg2.N, win2_4.index t = ![(grid2.coords t 0).val, 0] := (by decide +kernel : ∀ t : Fin grid2.N, _)
  subst hZ
  blk_ext [iblk2, e, co2_0]
include hMX in
theorem iblk2_5_at (t : Fin cfg2.N) (r : Fin 512) (g : Fin 112) : iblk2 V c 5 t (ix2 r g) = MX (ix2 (bo t r) g) := by
  have e : ∀ t : Fin cfg2.N, win2_5.index t = ![(grid2.coords t 0).val, 0] := (by decide +kernel : ∀ t : Fin grid2.N, _)
  subst hMX
  blk_ext [iblk2, e, co2_0]
include hMN in
theorem iblk2_6_at (t : Fin cfg2.N) (r : Fin 512) (g : Fin 112) : iblk2 V c 6 t (ix2 r g) = MN (ix2 (bo t r) g) := by
  have e : ∀ t : Fin cfg2.N, win2_6.index t = ![(grid2.coords t 0).val, 0] := (by decide +kernel : ∀ t : Fin grid2.N, _)
  subst hMN
  blk_ext [iblk2, e, co2_0]
include hG in
theorem iblk2_7_at (t : Fin cfg2.N) (r : Fin 512) (g : Fin 112) : iblk2 V c 7 t (ix2 r g) = G (ix2 (bo t r) g) := by
  have e : ∀ t : Fin cfg2.N, win2_7.index t = ![(grid2.coords t 0).val, 0] := (by decide +kernel : ∀ t : Fin grid2.N, _)
  subst hG
  blk_ext [iblk2, e, co2_0]
include hB in
theorem iblk2_8_at (t : Fin cfg2.N) (r : Fin 512) (g : Fin 112) : iblk2 V c 8 t (ix2 r g) = B (ix2 (bo t r) g) := by
  have e : ∀ t : Fin cfg2.N, win2_8.index t = ![(grid2.coords t 0).val, 0] := (by decide +kernel : ∀ t : Fin grid2.N, _)
  subst hB
  blk_ext [iblk2, e, co2_0]

/-- The gradient by a step, over the flat token axis. -/
def gF (o : Fin 4096) (g : Fin 112) : EReal :=
  ∑ k : Fin 128, (∑ n : Fin 6144, GE (ix2 o n) * X (ix2 n (Lwc.col g k))) * Lwc.twoOverN * deriv (H (ix2 o g)) (Z (ix2 o g)) (W (ix2 o (Lwc.col g k)))

include hGE hX hW hH hZ in
theorem gBlk_at (t : Fin cfg2.N) (r : Fin 512) (g : Fin 112) (hg : g.val / 4 = t.val % 28) :
    gBlk (iblk2 V c 0 t) (iblk2 V c 1 t) (iblk2 V c 2 t) (iblk2 V c 3 t) (iblk2 V c 4 t) r g = gF GE X W H Z (bo t r) g := by
  have hd : ∀ k : Fin 128, bd t ⟨g.val % 4 * 128 + k.val, by omega⟩ = Lwc.col g k :=
    fun k => Fin.ext (by show t.val % 28 * 512 + (g.val % 4 * 128 + k.val) = g.val * 128 + k.val; omega)
  unfold gBlk gF
  simp only [iblk2_0_at V c GE hGE, iblk2_1_at V c X hX, iblk2_2_at V c W hW, iblk2_3_at V c H hH, iblk2_4_at V c Z hZ, hd]

include hGE hX hW hH hZ in
/-- After a point of a row block the scratch holds the gradient on every lane up to the point's own. -/
theorem sdet_val (n : ℕ) (hn : n < cfg2.N) (r : Fin 512) (g : Fin 112) (hg : g.val < 4 * (n % 28) + 4) :
    sdet V c (n + 1) (ix2 r g) = gF GE X W H Z (bo ⟨n, hn⟩ r) g := by
  induction n with
  | zero =>
    have hg' : g.val / 4 = 0 := by omega
    rw [sdet_succ V c ⟨0, hn⟩, sD_val _ _ _ _ _ _ _ _ _ (by rw [co2_1]; exact hg')]
    exact gBlk_at V c GE X W H Z hGE hX hW hH hZ ⟨0, hn⟩ r g hg'
  | succ n ih =>
    rw [sdet_succ V c ⟨n + 1, hn⟩]
    by_cases ho : g.val / 4 = (n + 1) % 28
    · rw [sD_val _ _ _ _ _ _ _ _ _ (by rw [co2_1]; exact ho)]
      exact gBlk_at V c GE X W H Z hGE hX hW hH hZ ⟨n + 1, hn⟩ r g ho
    · have hd : (n + 1) / 28 = n / 28 := by omega
      rw [sD_other _ _ _ _ _ _ _ (by rw [co2_1]; exact ho), ih (by omega) (by omega)]
      exact congrArg (fun o => gF GE X W H Z o g) (Fin.ext (by show n / 28 * 512 + r.val = (n + 1) / 28 * 512 + r.val; rw [hd]))

include hGE hX hW hH hZ hMX hG in
/-- The gradient by the upper clipping parameter. -/
theorem arr2_9 : (dat2 V c).arrAt 9 cfg2.N = fun i => Ideal.div (gF GE X W H Z (i 0) (i 1) * Ideal.logistic (G i) * (1 - Ideal.logistic (G i)) * MX i) Lwc.top := by
  have e : ∀ t : Fin cfg2.N, win2_9.index t = ![(grid2.coords t 0).val, 0] := (by decide +kernel : ∀ t : Fin grid2.N, _)
  have fl : ∀ t : Fin cfg2.N, (cfg2.win 9).flush t = true → t.val % 28 = 27 := (by decide +kernel : ∀ t : Fin grid2.N, _)
  refine (dat2 V c).arrAt_eq_of_covers 9 _ (by decide +kernel) fun t hf y => ?_
  rw [after2_9]
  blk_simp
  obtain ⟨r, g, rfl⟩ : ∃ (r : Fin 512) (g : Fin 112), y = ix2 r g := ⟨y 0, y 1, eq_ix2 (n0 := 512) (n1 := 112) y⟩
  have he : (win2_9.blk t).view.emb (ix2 r g) = ix2 (bo t r) g := by blk_ext [e, co2_0]
  have ht := fl t hf
  rw [he, out2_9_at, ← sdet_succ, sdet_val V c GE X W H Z hGE hX hW hH hZ t.val t.isLt r g (by omega), iblk2_7_at V c G hG, iblk2_5_at V c MX hMX]
  rfl

include hGE hX hW hH hZ hMN hB in
/-- The gradient by the lower clipping parameter. -/
theorem arr2_10 : (dat2 V c).arrAt 10 cfg2.N = fun i => Ideal.div (-gF GE X W H Z (i 0) (i 1) * Ideal.logistic (B i) * (1 - Ideal.logistic (B i)) * MN i) Lwc.top := by
  have e : ∀ t : Fin cfg2.N, win2_10.index t = ![(grid2.coords t 0).val, 0] := (by decide +kernel : ∀ t : Fin grid2.N, _)
  have fl : ∀ t : Fin cfg2.N, (cfg2.win 10).flush t = true → t.val % 28 = 27 := (by decide +kernel : ∀ t : Fin grid2.N, _)
  refine (dat2 V c).arrAt_eq_of_covers 10 _ (by decide +kernel) fun t hf y => ?_
  rw [after2_10]
  blk_simp
  obtain ⟨r, g, rfl⟩ : ∃ (r : Fin 512) (g : Fin 112), y = ix2 r g := ⟨y 0, y 1, eq_ix2 (n0 := 512) (n1 := 112) y⟩
  have he : (win2_10.blk t).view.emb (ix2 r g) = ix2 (bo t r) g := by blk_ext [e, co2_0]
  have ht := fl t hf
  rw [he, out2_10_at, ← sdet_succ, sdet_val V c GE X W H Z hGE hX hW hH hZ t.val t.isLt r g (by omega), iblk2_8_at V c B hB, iblk2_6_at V c MN hMN]
  rfl
end
end Cert.KernelIdeal.Run
end
-- ==== Proof.KernelIdealRunValue.lean ====
/- What the whole kernel returns: its six results are the mathematics. -/
module
public import proofs.«01_k».proof.Proof.KernelIdealRun
public import proofs.«01_k».proof.Proof.KernelIdealQuantValue
public import proofs.«01_k».proof.Proof.KernelIdealFwdValue
public import proofs.«01_k».proof.Proof.KernelIdealBwdValue
public import Idealize.ShloMosaic.Lib.StableHlo.RunRead

@[expose] public section
set_option maxRecDepth 16384
noncomputable section
namespace Cert.KernelIdeal.Run
open Idealize.ShloMosaic Idealize.ShloMosaic.TcCoe Idealize.ShloMosaic.Tactic
open Cert.KernelIdeal.Gen

/-! ## The flat token axis: token `3072 b + t` of the kernel's arrays is token `t` of batch `b` -/

/-- The batch of a flat token. -/
abbrev tokB (n : Fin 6144) : Fin 2 := ⟨n.val / 3072, by omega⟩
/-- The token within its batch. -/
abbrev tokT (n : Fin 6144) : Fin 3072 := ⟨n.val % 3072, by omega⟩
/-- The flat token. -/
abbrev tok (b : Fin 2) (t : Fin 3072) : Fin 6144 := ⟨b.val * 3072 + t.val, by omega⟩

theorem tokB_tok (b : Fin 2) (t : Fin 3072) : tokB (tok b t) = b := Fin.ext (by show (b.val * 3072 + t.val) / 3072 = b.val; omega)
theorem tokT_tok (b : Fin 2) (t : Fin 3072) : tokT (tok b t) = t := Fin.ext (by show (b.val * 3072 + t.val) % 3072 = t.val; omega)

section
variable (aw : Lwc.WIdx → EReal) (aγ aβ : Lwc.GIdx → EReal) (ax : Lwc.XIdx → EReal) (axs : Lwc.TIdx → EReal) (ay : Lwc.YIdx → EReal)

/-- The inputs over the flat token axis, and the dequantised weights. -/
abbrev fX : S6144x14336.Idx → EReal := fun i => ax (ix3 (tokB (i 0)) (tokT (i 0)) (i 1))
abbrev fXS : S1x6144.Idx → EReal := fun i => axs (ix2 (tokB (i 1)) (tokT (i 1)))
abbrev fY : S6144x4096.Idx → EReal := fun i => ay (ix3 (tokB (i 0)) (tokT (i 0)) (i 1))
abbrev fWhat : S4096x14336.Idx → EReal := fun i => Lwc.what aw aγ aβ (i 0) (Lwc.grp (i 1)) (Lwc.lane (i 1))
abbrev fH : S4096x112.Idx → EReal := fun i => Lwc.step aw aγ aβ (i 0) (i 1)
abbrev fZ : S4096x112.Idx → EReal := fun i => Lwc.zero aw aγ aβ (i 0) (i 1)
/-- The scaled error. -/
abbrev fGE : S4096x6144.Idx → EReal := fun i => errF (fWhat aw aγ aβ) (fX ax) (fXS axs) (fY ay) (i 0) (i 1) * fXS axs (ix2 0 (i 1))

theorem errF_tok (o : Fin 4096) (b : Fin 2) (t : Fin 3072) :
    errF (fWhat aw aγ aβ) (fX ax) (fXS axs) (fY ay) o (tok b t) = Lwc.err aw aγ aβ ax axs ay o b t := by
  unfold errF Lwc.err
  show (∑ d : Fin 14336, Lwc.what aw aγ aβ o (Lwc.grp d) (Lwc.lane d) * ax (ix3 (tokB (tok b t)) (tokT (tok b t)) d)) * axs (ix2 (tokB (tok b t)) (tokT (tok b t)))
    - ay (ix3 (tokB (tok b t)) (tokT (tok b t)) o) = _
  rw [tokB_tok, tokT_tok]

/-- The kernel's gradient by a step is the plain one. -/
theorem gF_eq (o : Fin 4096) (g : Fin 112) :
    gF (fGE aw aγ aβ ax axs ay) (fX ax) aw (fH aw aγ aβ) (fZ aw aγ aβ) o g = Lwc.gstep aw aγ aβ ax axs ay o g := by
  unfold gF Lwc.gstep Lwc.grad
  refine Finset.sum_congr rfl fun k _ => ?_
  rw [← Fin.sum_mul_add_fin 2 3072 (fun n => fGE aw aγ aβ ax axs ay (ix2 o n) * fX ax (ix2 n (Lwc.col g k)))]
  refine congrArg₂ (· * ·) (congrArg (· * Lwc.twoOverN) (Finset.sum_congr rfl fun b _ => Finset.sum_congr rfl fun t _ => ?_)) rfl
  show errF (fWhat aw aγ aβ) (fX ax) (fXS axs) (fY ay) o (tok b t) * axs (ix2 (tokB (tok b t)) (tokT (tok b t))) * ax (ix3 (tokB (tok b t)) (tokT (tok b t)) (Lwc.col g k)) = _
  rw [errF_tok, tokB_tok, tokT_tok]

/-- The kernel's order of summing the loss gives the plain sum. -/
theorem loss_eq : (∑ r : Fin 8, ∑ l : Fin 128, ∑ t : Fin cfg1.N, lpart (fWhat aw aγ aβ) (fX ax) (fXS axs) (fY ay) t (ix2 r l))
    = ∑ b : Fin 2, ∑ t : Fin 3072, ∑ o : Fin 4096, Lwc.err aw aγ aβ ax axs ay o b t * Lwc.err aw aγ aβ ax axs ay o b t := by
  refine (sum_lpart _ _ _ _).trans ?_
  refine Finset.sum_congr rfl fun b _ => Finset.sum_congr rfl fun t _ => Finset.sum_congr rfl fun o _ => ?_
  have h := errF_tok aw aγ aβ ax axs ay o b t
  exact congrArg₂ (· * ·) h h
end

variable (m : (ℓ : Loc nD τ sig) → Buf (Elt Ideal) ℓ) (ρ : Dev nD → PrngReg) (c : Dev nD)

/-! ## The arguments, by the names the mathematics gives them -/

abbrev aw : Lwc.WIdx → EReal := m ((c : Thread nD τ).loc main_arg2)
abbrev aγ : Lwc.GIdx → EReal := m ((c : Thread nD τ).loc main_arg3)
abbrev aβ : Lwc.GIdx → EReal := m ((c : Thread nD τ).loc main_arg4)
abbrev ax : Lwc.XIdx → EReal := m ((c : Thread nD τ).loc main_arg0)
abbrev axs : Lwc.TIdx → EReal := m ((c : Thread nD τ).loc main_arg1)
abbrev ay : Lwc.YIdx → EReal := m ((c : Thread nD τ).loc main_arg5)

/-! ## Before the first call: the reshaped inputs -/

theorem V1_x : V1 m ρ c main_v0 = fX (ax m c) := by
  funext i
  obtain ⟨n, d, rfl⟩ : ∃ (n : Fin 6144) (d : Fin 14336), i = ix2 n d := ⟨i 0, i 1, eq_ix2 (n0 := 6144) (n1 := 14336) i⟩
  show StableHlo.after hostOps0 (W0 m ρ c) (Proc.devRef .tc main_v0) (ix2 n d) = _
  after_reads_simp
  pointwise
  rfl
theorem V1_xs : V1 m ρ c main_v1 = fXS (axs m c) := by
  funext i
  obtain ⟨a, n, rfl⟩ : ∃ (a : Fin 1) (n : Fin 6144), i = ix2 a n := ⟨i 0, i 1, eq_ix2 (n0 := 1) (n1 := 6144) i⟩
  show StableHlo.after hostOps0 (W0 m ρ c) (Proc.devRef .tc main_v1) (ix2 a n) = _
  after_reads_simp
  pointwise
  rfl
theorem V1_y : V1 m ρ c main_v2 = fY (ay m c) := by
  funext i
  obtain ⟨n, d, rfl⟩ : ∃ (n : Fin 6144) (d : Fin 4096), i = ix2 n d := ⟨i 0, i 1, eq_ix2 (n0 := 6144) (n1 := 4096) i⟩
  show StableHlo.after hostOps0 (W0 m ρ c) (Proc.devRef .tc main_v2) (ix2 n d) = _
  after_reads_simp
  pointwise
  rfl

/-! ## The arrays between the calls -/

theorem V1_w : V1 m ρ c main_arg2 = aw m c := W1_args m ρ c main_arg2 (by decide)
theorem V1_γ : V1 m ρ c main_arg3 = aγ m c := W1_args m ρ c main_arg3 (by decide)
theorem V1_β : V1 m ρ c main_arg4 = aβ m c := W1_args m ρ c main_arg4 (by decide)

/-! ## After the quantiser -/

theorem W2_codes : W2 m ρ c (Proc.devRef .tc main_v3_0) = fun i : Lwc.WIdx => Ideal.fptosi 8 (Lwc.code (aw m c) (aγ m c) (aβ m c) (i 0) (Lwc.grp (i 1)) (Lwc.lane (i 1))) :=
  (W2_arr m ρ c 3).trans (arr0_3 (V1 m ρ) c _ _ _ (V1_w m ρ c) (V1_γ m ρ c) (V1_β m ρ c))
theorem V2_what : V2 m ρ c main_v3_1 = fWhat (aw m c) (aγ m c) (aβ m c) :=
  (W2_arr m ρ c 4).trans (arr0_4 (V1 m ρ) c _ _ _ (V1_w m ρ c) (V1_γ m ρ c) (V1_β m ρ c))
theorem V2_h : V2 m ρ c main_v3_2 = fH (aw m c) (aγ m c) (aβ m c) :=
  (W2_arr m ρ c 5).trans (arr0_5 (V1 m ρ) c _ _ _ (V1_w m ρ c) (V1_γ m ρ c) (V1_β m ρ c))
theorem V2_z : V2 m ρ c main_v3_3 = fZ (aw m c) (aγ m c) (aβ m c) :=
  (W2_arr m ρ c 6).trans (arr0_6 (V1 m ρ) c _ _ _ (V1_w m ρ c) (V1_γ m ρ c) (V1_β m ρ c))
theorem V2_mx : V2 m ρ c main_v3_4 = fun i : Lwc.GIdx => Lwc.wmax (aw m c) (i 0) (i 1) :=
  (W2_arr m ρ c 7).trans (arr0_7 (V1 m ρ) c _ (V1_w m ρ c))
theorem V2_mn : V2 m ρ c main_v3_5 = fun i : Lwc.GIdx => Lwc.wmin (aw m c) (i 0) (i 1) :=
  (W2_arr m ρ c 8).trans (arr0_8 (V1 m ρ) c _ (V1_w m ρ c))
theorem V2_x : V2 m ρ c main_v0 = fX (ax m c) := (W2_of m ρ c main_v0 (by decide +kernel)).trans (V1_x m ρ c)
theorem V2_xs : V2 m ρ c main_v1 = fXS (axs m c) := (W2_of m ρ c main_v1 (by decide +kernel)).trans (V1_xs m ρ c)
theorem V2_y : V2 m ρ c main_v2 = fY (ay m c) := (W2_of m ρ c main_v2 (by decide +kernel)).trans (V1_y m ρ c)

/-! ## After the forward call -/

theorem V3_ge : V3 m ρ c main_v4_0 = fGE (aw m c) (aγ m c) (aβ m c) (ax m c) (axs m c) (ay m c) :=
  (W3_arr m ρ c 4).trans (arr1_4 (V2 m ρ) c _ _ _ _ (V2_what m ρ c) (V2_x m ρ c) (V2_xs m ρ c) (V2_y m ρ c))
theorem W3_loss : W3 m ρ c (Proc.devRef .tc main_v4_1)
    = fun i : S8x128.Idx => (∑ t : Fin cfg1.N, lpart (fWhat (aw m c) (aγ m c) (aβ m c)) (fX (ax m c)) (fXS (axs m c)) (fY (ay m c)) t i : EReal) :=
  (W3_arr m ρ c 5).trans (arr1_5 (V2 m ρ) c _ _ _ _ (V2_what m ρ c) (V2_x m ρ c) (V2_xs m ρ c) (V2_y m ρ c))

/-! ## After the backward call -/

/-- The forward call leaves every array but its two results. -/
theorem V3_of (b : Ref sig .tc) (h : ∀ w : Fin cfg1.W, Pipeline.arrRef spec1 w = b → (cfg1.win w).isOut = false) : V3 m ρ c b = V2 m ρ c b := W3_of m ρ c b h
theorem W4_dgamma : W4 m ρ c (Proc.devRef .tc main_v5_0) = fun i : Lwc.GIdx => Lwc.dgamma (aw m c) (aγ m c) (aβ m c) (ax m c) (axs m c) (ay m c) (i 0) (i 1) := by
  refine (W4_arr m ρ c 9).trans ((arr2_9 (V3 m ρ) c _ _ _ _ _ _ _ (V3_ge m ρ c) ((V3_of m ρ c main_v0 (by decide +kernel)).trans (V2_x m ρ c)) (W3_args m ρ c main_arg2 (by decide))
    ((V3_of m ρ c main_v3_2 (by decide +kernel)).trans (V2_h m ρ c)) ((V3_of m ρ c main_v3_3 (by decide +kernel)).trans (V2_z m ρ c))
    ((V3_of m ρ c main_v3_4 (by decide +kernel)).trans (V2_mx m ρ c)) (W3_args m ρ c main_arg3 (by decide))).trans ?_)
  funext i
  obtain ⟨o, g, rfl⟩ : ∃ (o : Fin 4096) (g : Fin 112), i = ix2 o g := ⟨i 0, i 1, eq_ix2 (n0 := 4096) (n1 := 112) i⟩
  show Ideal.div (gF _ _ _ _ _ o g * _ * _ * _) _ = _
  rw [gF_eq]
  rfl
theorem W4_dbeta : W4 m ρ c (Proc.devRef .tc main_v5_1) = fun i : Lwc.GIdx => Lwc.dbeta (aw m c) (aγ m c) (aβ m c) (ax m c) (axs m c) (ay m c) (i 0) (i 1) := by
  refine (W4_arr m ρ c 10).trans ((arr2_10 (V3 m ρ) c _ _ _ _ _ _ _ (V3_ge m ρ c) ((V3_of m ρ c main_v0 (by decide +kernel)).trans (V2_x m ρ c)) (W3_args m ρ c main_arg2 (by decide))
    ((V3_of m ρ c main_v3_2 (by decide +kernel)).trans (V2_h m ρ c)) ((V3_of m ρ c main_v3_3 (by decide +kernel)).trans (V2_z m ρ c))
    ((V3_of m ρ c main_v3_5 (by decide +kernel)).trans (V2_mn m ρ c)) (W3_args m ρ c main_arg4 (by decide))).trans ?_)
  funext i
  obtain ⟨o, g, rfl⟩ : ∃ (o : Fin 4096) (g : Fin 112), i = ix2 o g := ⟨i 0, i 1, eq_ix2 (n0 := 4096) (n1 := 112) i⟩
  show Ideal.div (-gF _ _ _ _ _ o g * _ * _ * _) _ = _
  rw [gF_eq]
  rfl

/-! ## The results the backward call leaves alone -/

theorem W4_loss : W4 m ρ c (Proc.devRef .tc main_v4_1) = W3 m ρ c (Proc.devRef .tc main_v4_1) := W4_of m ρ c main_v4_1 (by decide +kernel)
theorem W4_codes : W4 m ρ c (Proc.devRef .tc main_v3_0) = W2 m ρ c (Proc.devRef .tc main_v3_0) :=
  (W4_of m ρ c main_v3_0 (by decide +kernel)).trans (W3_of m ρ c main_v3_0 (by decide +kernel))
theorem W4_h : W4 m ρ c (Proc.devRef .tc main_v3_2) = W2 m ρ c (Proc.devRef .tc main_v3_2) :=
  (W4_of m ρ c main_v3_2 (by decide +kernel)).trans (W3_of m ρ c main_v3_2 (by decide +kernel))
theorem W4_z : W4 m ρ c (Proc.devRef .tc main_v3_3) = W2 m ρ c (Proc.devRef .tc main_v3_3) :=
  (W4_of m ρ c main_v3_3 (by decide +kernel)).trans (W3_of m ρ c main_v3_3 (by decide +kernel))

/-- The loss: the partials summed and divided by the number of elements. -/
theorem W5_loss : W5 m ρ c (Proc.devRef .tc main_v7) = fun _ => Lwc.loss (aw m c) (aγ m c) (aβ m c) (ax m c) (axs m c) (ay m c) := by
  funext i
  obtain rfl : i = ix0 := funext fun a => Fin.elim0 a
  show StableHlo.after hostOps3 (W4 m ρ c) (Proc.devRef .tc main_v7) ix0 = _
  have hl := (W4_loss m ρ c).trans (W3_loss m ρ c)
  generalize W4 m ρ c = U at hl
  after_reads_simp
  pointwise
  rw [hl]
  exact congrArg (Ideal.div · Lwc.nElem) (loss_eq (aw m c) (aγ m c) (aβ m c) (ax m c) (axs m c) (ay m c))

/-- The kernel's run: its six results are the mathematics, its arguments unchanged. -/
theorem run_value : θ_run defs (onTc (τ := τ) (main (F := Ideal))) ⟨m, fun _ => 0, ρ⟩ (fun r => ∀ c : Dev nD,
      r.2.mem ((c : Thread nD τ).loc main_v5_0) = (fun i : Lwc.GIdx => Lwc.dgamma (aw m c) (aγ m c) (aβ m c) (ax m c) (axs m c) (ay m c) (i 0) (i 1))
    ∧ r.2.mem ((c : Thread nD τ).loc main_v5_1) = (fun i : Lwc.GIdx => Lwc.dbeta (aw m c) (aγ m c) (aβ m c) (ax m c) (axs m c) (ay m c) (i 0) (i 1))
    ∧ r.2.mem ((c : Thread nD τ).loc main_v7) = (fun _ => Lwc.loss (aw m c) (aγ m c) (aβ m c) (ax m c) (axs m c) (ay m c))
    ∧ r.2.mem ((c : Thread nD τ).loc main_v3_0) = (fun i : Lwc.WIdx => Ideal.fptosi 8 (Lwc.code (aw m c) (aγ m c) (aβ m c) (i 0) (Lwc.grp (i 1)) (Lwc.lane (i 1))))
    ∧ r.2.mem ((c : Thread nD τ).loc main_v3_2) = (fun i : Lwc.GIdx => Lwc.step (aw m c) (aγ m c) (aβ m c) (i 0) (i 1))
    ∧ r.2.mem ((c : Thread nD τ).loc main_v3_3) = (fun i : Lwc.GIdx => Lwc.zero (aw m c) (aγ m c) (aβ m c) (i 0) (i 1))
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)) :=
  (θ_run defs _ _).mono (fun r hr c => by
    have at5 : ∀ b : Ref sig .tc, ¬ (Proc.devRef .tc b : DevRef τ sig).isScoped → r.2.mem ((c : Thread nD τ).loc b) = W5 m ρ c (Proc.devRef .tc b) :=
      fun b hb => hr.1 c _ (mem_uc b hb)
    exact ⟨(at5 main_v5_0 (by decide)).trans ((W5_of m ρ c main_v5_0 (by decide)).trans (W4_dgamma m ρ c)),
      (at5 main_v5_1 (by decide)).trans ((W5_of m ρ c main_v5_1 (by decide)).trans (W4_dbeta m ρ c)),
      (at5 main_v7 (by decide)).trans (W5_loss m ρ c),
      (at5 main_v3_0 (by decide)).trans ((W5_of m ρ c main_v3_0 (by decide)).trans ((W4_codes m ρ c).trans (W2_codes m ρ c))),
      (at5 main_v3_2 (by decide)).trans ((W5_of m ρ c main_v3_2 (by decide)).trans ((W4_h m ρ c).trans (V2_h m ρ c))),
      (at5 main_v3_3 (by decide)).trans ((W5_of m ρ c main_v3_3 (by decide)).trans ((W4_z m ρ c).trans (V2_z m ρ c))),
      (at5 main_arg0 (by decide)).trans (W5_main_arg0 m ρ c), (at5 main_arg1 (by decide)).trans (W5_main_arg1 m ρ c),
      (at5 main_arg2 (by decide)).trans (W5_main_arg2 m ρ c), (at5 main_arg3 (by decide)).trans (W5_main_arg3 m ρ c),
      (at5 main_arg4 (by decide)).trans (W5_main_arg4 m ρ c), (at5 main_arg5 (by decide)).trans (W5_main_arg5 m ρ c)⟩) (run m ρ)
end Cert.KernelIdeal.Run
end
-- ==== Proof.RefValue.lean ====
module
public import proofs.«01_k».proof.Proof.Gen.ReferenceIdeal.Frame
public import proofs.«01_k».proof.Proof.Codes
public import Idealize.ShloMosaic.Lib.StableHlo.RunRead
public import Idealize.ShloMosaic.Lib.Pipeline.ValueKit
public import Idealize.ShloMosaic.Lib.Claim

/-!
# What the reference returns

The lines before its one call are read at an index, then the three arrays the call casts, then the lines after it:
each result is the function `Proof/Spec.lean` states.
-/

@[expose] public section
set_option maxRecDepth 16384
noncomputable section
namespace Cert.ReferenceIdeal.Run
open Idealize.ShloMosaic Idealize.ShloMosaic.TcCoe Idealize.ShloMosaic.Tactic
open Cert.ReferenceIdeal.Gen
open Idealize.ShloMosaic.StableHlo

variable (m : (ℓ : Loc nD τ sig) → Buf (Elt Ideal) ℓ) (c : Dev nD)

/-- The launch's weights. -/
abbrev aw : Lwc.WIdx → EReal := m ((c : Thread nD τ).loc main_arg2)
abbrev aγ : Lwc.GIdx → EReal := m ((c : Thread nD τ).loc main_arg3)
abbrev aβ : Lwc.GIdx → EReal := m ((c : Thread nD τ).loc main_arg4)
abbrev ax : Lwc.XIdx → EReal := m ((c : Thread nD τ).loc main_arg0)
abbrev axs : Lwc.TIdx → EReal := m ((c : Thread nD τ).loc main_arg1)
abbrev ay : Lwc.YIdx → EReal := m ((c : Thread nD τ).loc main_arg5)

/-! ## The lines before the casts: range, step size, zero point and unclipped code -/

theorem V0_wmax (o : Fin 4096) (g : Fin 112) : V0 m c (Proc.devRef .tc main_v1) (ix2 o g) = Lwc.wmax (aw m c) o g := by
  unfold V0
  after_reads_simp
  pointwise
  rfl

theorem V0_wmin (o : Fin 4096) (g : Fin 112) : V0 m c (Proc.devRef .tc main_v2) (ix2 o g) = Lwc.wmin (aw m c) o g := by
  unfold V0
  after_reads_simp
  pointwise
  rfl

theorem V0_step (o : Fin 4096) (g : Fin 112) :
    V0 m c (Proc.devRef .tc main_v22) (ix2 o g) = Lwc.step (aw m c) (aγ m c) (aβ m c) o g := by
  unfold V0
  after_reads_simp
  simp only [TRef.ofBuf, TRef.toBuf, cast_cast, cast_eq, id]
  pointwise
  rfl

theorem V0_zero (o : Fin 4096) (g : Fin 112) :
    V0 m c (Proc.devRef .tc main_v25) (ix2 o g) = Lwc.zero (aw m c) (aγ m c) (aβ m c) o g := by
  unfold V0
  after_reads_simp
  simp only [TRef.ofBuf, TRef.toBuf, cast_cast, cast_eq, id]
  pointwise
  rfl

theorem V0_scaled (o : Fin 4096) (g : Fin 112) (k : Fin 128) :
    V0 m c (Proc.devRef .tc main_v28) (ix3 o g k) = Lwc.scaled (aw m c) (aγ m c) (aβ m c) o g k := by
  unfold V0
  after_reads_simp
  simp only [TRef.ofBuf, TRef.toBuf, cast_cast, cast_eq, id]
  pointwise
  rfl

theorem V0_raw (o : Fin 4096) (g : Fin 112) (k : Fin 128) :
    V0 m c (Proc.devRef .tc main_v32) (ix3 o g k) = Lwc.raw (aw m c) (aγ m c) (aβ m c) o g k := by
  unfold V0
  after_reads_simp
  simp only [TRef.ofBuf, TRef.toBuf, cast_cast, cast_eq, id]
  pointwise
  rfl

/-- A number times the 0-or-1 indicator of two conditions is that number where both hold, and 0 elsewhere. -/
theorem wnd_unsigned (p q : Prop) [Decidable p] [Decidable q] (u : EReal) :
    FloatOps.uitofp (F := Ideal) FTy.f32 (IntOp.andi (BitVec.ofBool (decide p)) (BitVec.ofBool (decide q))) * u = if p ∧ q then u else 0 := by
  show ((((BitVec.ofBool (decide p)) &&& (BitVec.ofBool (decide q))).toNat : ℝ) : EReal) * u = _
  by_cases hp : p <;> by_cases hq : q <;> simp [hp, hq]

/-! ## The casts, each over one whole array -/

/-- The call reads all the unclipped codes. -/
theorem iblk0_eq (t : Fin cfg0.N) (o : Fin 4096) (g : Fin 112) (k : Fin 128) :
    iblk m c 0 t (ix3 o g k) = Lwc.raw (aw m c) (aγ m c) (aβ m c) o g k := by
  have e : ∀ t : Fin cfg0.N, win0_0.index t = ![0, 0, 0] := (by decide +kernel : ∀ t : Fin grid0.N, _)
  refine Eq.trans ?_ (V0_raw m c o g k)
  blk_ext [iblk, e]

/-- The call reads all the activations. -/
theorem iblk1_eq (t : Fin cfg0.N) (b : Fin 2) (r : Fin 3072) (d : Fin 14336) :
    iblk m c 1 t (ix3 b r d) = ax m c (ix3 b r d) := by
  have e : ∀ t : Fin cfg0.N, win0_1.index t = ![0, 0, 0] := (by decide +kernel : ∀ t : Fin grid0.N, _)
  refine Eq.trans ?_ (congrFun (V_main_arg0 m c) (ix3 b r d))
  blk_ext [iblk, e]

theorem zero_int : (((0#32 : BitVec 32).toInt : ℝ) : EReal) = 0 := by simp

theorem k0_pay1_at (x : Vec Ideal S4096x112x128 .f32) (o : Fin 4096) (g : Fin 112) (k : Fin 128) :
    k0_pay1 x (ix3 o g k) = Ideal.fptosi 8 (min Lwc.top (max 0 (x (ix3 o g k)))) := by
  pointwise [k0_pay1]
  rw [zero_int]
  rfl

theorem k0_pay2_at (x : Vec Ideal S4096x112x128 .f32) (o : Fin 4096) (g : Fin 112) (k : Fin 128) :
    k0_pay2 x (ix3 o g k) = (((Ideal.fptosi 8 (min Lwc.top (max 0 (x (ix3 o g k))))).toInt : ℝ) : EReal) := by
  rw [← k0_pay1_at]
  pointwise [k0_pay2]
  rfl

/-- The codes it writes. -/
theorem arr_codes (o : Fin 4096) (g : Fin 112) (k : Fin 128) : (dats m 0 c).arrAt 2 cfg0.N (ix3 o g k)
    = Ideal.fptosi 8 (Lwc.code (aw m c) (aγ m c) (aβ m c) o g k) := by
  refine congrFun ((dats m 0 c).arrAt_eq_of_after_last 2 ⟨0, by decide⟩ (by decide +kernel)
    (fun i => Ideal.fptosi 8 (Lwc.code (aw m c) (aγ m c) (aβ m c) (i 0) (i 1) (i 2))) fun j => ?_) (ix3 o g k)
  rw [after0_2]
  unfold out0_2
  frame_out
  obtain ⟨o, g, k, rfl⟩ : ∃ (o : Fin 4096) (g : Fin 112) (k : Fin 128), j = ix3 o g k := ⟨j 0, j 1, j 2, eq_ix3 j⟩
  refine (k0_pay1_at (iblk m c 0 ⟨0, by decide⟩) o g k).trans ?_
  rw [iblk0_eq]
  rfl

/-- The codes it reads back as numbers: being integers from 0 to 15, they are unchanged. -/
theorem arr_q (o : Fin 4096) (g : Fin 112) (k : Fin 128) : (dats m 0 c).arrAt 3 cfg0.N (ix3 o g k)
    = Lwc.code (aw m c) (aγ m c) (aβ m c) o g k := by
  refine congrFun ((dats m 0 c).arrAt_eq_of_after_last 3 ⟨0, by decide⟩ (by decide +kernel)
    (fun i => Lwc.code (aw m c) (aγ m c) (aβ m c) (i 0) (i 1) (i 2)) fun j => ?_) (ix3 o g k)
  rw [after0_3]
  unfold out0_3
  frame_out
  obtain ⟨o, g, k, rfl⟩ : ∃ (o : Fin 4096) (g : Fin 112) (k : Fin 128), j = ix3 o g k := ⟨j 0, j 1, j 2, eq_ix3 j⟩
  refine (k0_pay2_at (iblk m c 0 ⟨0, by decide⟩) o g k).trans ?_
  rw [iblk0_eq]
  exact Lwc.code_roundtrip ..

/-- The activations: widening changes nothing. -/
theorem arr_x (b : Fin 2) (r : Fin 3072) (d : Fin 14336) : (dats m 0 c).arrAt 4 cfg0.N (ix3 b r d) = ax m c (ix3 b r d) := by
  refine congrFun ((dats m 0 c).arrAt_eq_of_after_last 4 ⟨0, by decide⟩ (by decide +kernel) (ax m c) fun j => ?_) (ix3 b r d)
  rw [after0_4]
  unfold out0_4
  frame_out
  obtain ⟨b, r, d, rfl⟩ : ∃ (b : Fin 2) (r : Fin 3072) (d : Fin 14336), j = ix3 b r d := ⟨j 0, j 1, j 2, eq_ix3 j⟩
  exact iblk1_eq m c ⟨0, by decide⟩ b r d

/-- What the lines after the casts read. -/
structure Reads (W : Valuation τ sig (Elt Ideal)) : Prop where
  codes (o : Fin 4096) (g : Fin 112) (k : Fin 128) :
    W (Proc.devRef .tc main_v33_0) (ix3 o g k) = Ideal.fptosi 8 (Lwc.code (aw m c) (aγ m c) (aβ m c) o g k)
  q (o : Fin 4096) (g : Fin 112) (k : Fin 128) :
    W (Proc.devRef .tc main_v33_1) (ix3 o g k) = Lwc.code (aw m c) (aγ m c) (aβ m c) o g k
  x (b : Fin 2) (r : Fin 3072) (d : Fin 14336) : W (Proc.devRef .tc main_v33_2) (ix3 b r d) = ax m c (ix3 b r d)
  xs (b : Fin 2) (r : Fin 3072) : W (Proc.devRef .tc main_arg1) (ix2 b r) = axs m c (ix2 b r)
  y (b : Fin 2) (r : Fin 3072) (o : Fin 4096) : W (Proc.devRef .tc main_arg5) (ix3 b r o) = ay m c (ix3 b r o)
  γ (o : Fin 4096) (g : Fin 112) : W (Proc.devRef .tc main_arg3) (ix2 o g) = aγ m c (ix2 o g)
  β (o : Fin 4096) (g : Fin 112) : W (Proc.devRef .tc main_arg4) (ix2 o g) = aβ m c (ix2 o g)
  wmax (o : Fin 4096) (g : Fin 112) : W (Proc.devRef .tc main_v1) (ix2 o g) = Lwc.wmax (aw m c) o g
  wmin (o : Fin 4096) (g : Fin 112) : W (Proc.devRef .tc main_v2) (ix2 o g) = Lwc.wmin (aw m c) o g
  step (o : Fin 4096) (g : Fin 112) : W (Proc.devRef .tc main_v22) (ix2 o g) = Lwc.step (aw m c) (aγ m c) (aβ m c) o g
  zero (o : Fin 4096) (g : Fin 112) : W (Proc.devRef .tc main_v25) (ix2 o g) = Lwc.zero (aw m c) (aγ m c) (aβ m c) o g
  scaled (o : Fin 4096) (g : Fin 112) (k : Fin 128) :
    W (Proc.devRef .tc main_v28) (ix3 o g k) = Lwc.scaled (aw m c) (aγ m c) (aβ m c) o g k
  raw (o : Fin 4096) (g : Fin 112) (k : Fin 128) :
    W (Proc.devRef .tc main_v32) (ix3 o g k) = Lwc.raw (aw m c) (aγ m c) (aβ m c) o g k

/-- The error with the factors of its products in the other order. -/
theorem err_swap (b : Fin 2) (t : Fin 3072) (o : Fin 4096) :
    (∑ d : Fin 14336, ax m c (ix3 b t d) * ((Lwc.code (aw m c) (aγ m c) (aβ m c) o (Lwc.grp d) (Lwc.lane d)
        - Lwc.zero (aw m c) (aγ m c) (aβ m c) o (Lwc.grp d)) * Lwc.step (aw m c) (aγ m c) (aβ m c) o (Lwc.grp d)))
      * axs m c (ix2 b t) - ay m c (ix3 b t o) = Lwc.err (aw m c) (aγ m c) (aβ m c) (ax m c) (axs m c) (ay m c) o b t := by
  unfold Lwc.err Lwc.what
  congr 2
  exact Finset.sum_congr rfl fun d _ => mul_comm _ _

section
variable {W : Valuation τ sig (Elt Ideal)} (H : Reads m c W)
include H

theorem tail_loss : StableHlo.after hostOps1 W (Proc.devRef .tc main_v50) ix0
    = Lwc.loss (aw m c) (aγ m c) (aβ m c) (ax m c) (axs m c) (ay m c) := by
  after_reads_simp
  pointwise
  simp only [H.q, H.x, H.xs, H.y, H.step, H.zero, err_swap]
  rfl

theorem tail_codes (o : Fin 4096) (d : Fin 14336) : StableHlo.after hostOps1 W (Proc.devRef .tc main_v96) (ix2 o d)
    = Ideal.fptosi 8 (Lwc.code (aw m c) (aγ m c) (aβ m c) o (Lwc.grp d) (Lwc.lane d)) := by
  after_reads_simp
  pointwise
  exact H.codes ..

theorem tail_dgamma (o : Fin 4096) (g : Fin 112) : StableHlo.after hostOps1 W (Proc.devRef .tc main_v87) (ix2 o g)
    = Lwc.dgamma (aw m c) (aγ m c) (aβ m c) (ax m c) (axs m c) (ay m c) o g := by
  after_reads_simp
  pointwise
  simp only [H.q, H.x, H.xs, H.y, H.step, H.zero, err_swap, H.raw, H.scaled, H.γ, H.wmax, wnd_unsigned]
  rfl

theorem tail_dbeta (o : Fin 4096) (g : Fin 112) : StableHlo.after hostOps1 W (Proc.devRef .tc main_v95) (ix2 o g)
    = Lwc.dbeta (aw m c) (aγ m c) (aβ m c) (ax m c) (axs m c) (ay m c) o g := by
  after_reads_simp
  pointwise
  simp only [H.q, H.x, H.xs, H.y, H.step, H.zero, err_swap, H.raw, H.scaled, H.β, H.wmin, wnd_unsigned]
  rfl

theorem tail_step (o : Fin 4096) (g : Fin 112) : StableHlo.after hostOps1 W (Proc.devRef .tc main_v22) (ix2 o g)
    = Lwc.step (aw m c) (aγ m c) (aβ m c) o g := by
  after_reads_simp
  exact H.step o g

theorem tail_zero (o : Fin 4096) (g : Fin 112) : StableHlo.after hostOps1 W (Proc.devRef .tc main_v25) (ix2 o g)
    = Lwc.zero (aw m c) (aγ m c) (aβ m c) o g := by
  after_reads_simp
  exact H.zero o g
end

/-- The buffers when the casts have been made. -/
abbrev WE : Valuation τ sig (Elt Ideal) :=
  Pipeline.withArrays (cfgs 0).spec c (V0 m c) fun w => (dats m 0 c).arrAt w (cfgs 0).N

/-- The call leaves every other array. -/
theorem WE_rest (b : Ref sig .tc) (hb : ∀ w, Pipeline.arrRef spec0 w ≠ b) :
    WE m c (Proc.devRef .tc b) = V0 m c (Proc.devRef .tc b) := Pipeline.withArrays_of_ne _ c (V0 m c) _ b hb
/-- The call's own arrays. -/
theorem WE_arr (w : Fin cfg0.W) : WE m c (Proc.devRef .tc (Pipeline.arrRef spec0 w)) = (dats m 0 c).arrAt w cfg0.N :=
  Pipeline.withArrays_arr spec0 (by exact (by decide : Function.Injective (Pipeline.arrRef spec0))) c (V0 m c) _ w

/-- So the lines after the casts read what `Reads` states. -/
theorem reads : Reads m c (WE m c) where
  codes o g k := (congrFun (WE_arr m c 2) _).trans (arr_codes m c o g k)
  q o g k := (congrFun (WE_arr m c 3) _).trans (arr_q m c o g k)
  x b r d := (congrFun (WE_arr m c 4) _).trans (arr_x m c b r d)
  xs b r := (congrFun (WE_rest m c main_arg1 (by exact (by decide : ∀ w, Pipeline.arrRef spec0 w ≠ main_arg1))) _).trans (congrFun (V_main_arg1 m c) _)
  y b r o := (congrFun (WE_rest m c main_arg5 (by exact (by decide : ∀ w, Pipeline.arrRef spec0 w ≠ main_arg5))) _).trans (congrFun (V_main_arg5 m c) _)
  γ o g := (congrFun (WE_rest m c main_arg3 (by exact (by decide : ∀ w, Pipeline.arrRef spec0 w ≠ main_arg3))) _).trans (congrFun (V_main_arg3 m c) _)
  β o g := (congrFun (WE_rest m c main_arg4 (by exact (by decide : ∀ w, Pipeline.arrRef spec0 w ≠ main_arg4))) _).trans (congrFun (V_main_arg4 m c) _)
  wmax o g := (congrFun (WE_rest m c main_v1 (by exact (by decide : ∀ w, Pipeline.arrRef spec0 w ≠ main_v1))) _).trans (V0_wmax m c o g)
  wmin o g := (congrFun (WE_rest m c main_v2 (by exact (by decide : ∀ w, Pipeline.arrRef spec0 w ≠ main_v2))) _).trans (V0_wmin m c o g)
  step o g := (congrFun (WE_rest m c main_v22 (by exact (by decide : ∀ w, Pipeline.arrRef spec0 w ≠ main_v22))) _).trans (V0_step m c o g)
  zero o g := (congrFun (WE_rest m c main_v25 (by exact (by decide : ∀ w, Pipeline.arrRef spec0 w ≠ main_v25))) _).trans (V0_zero m c o g)
  scaled o g k := (congrFun (WE_rest m c main_v28 (by exact (by decide : ∀ w, Pipeline.arrRef spec0 w ≠ main_v28))) _).trans (V0_scaled m c o g k)
  raw o g k := by
    refine Eq.trans (congrFun ((WE_arr m c 0).trans ((dats m 0 c).arrAt_in 0 rfl _)) _) ?_
    rw [A_eq]
    exact V0_raw m c o g k

/-- The reference's run: its six results are the mathematics, its arguments unchanged. -/
theorem run (ρ : Dev nD → PrngReg) : θ_run defs (onTc (τ := τ) (main (F := Ideal))) ⟨m, fun _ => 0, ρ⟩ (fun r => ∀ c : Dev nD,
      r.2.mem ((c.tc : Thread nD τ).loc main_v87) = (fun i : Lwc.GIdx => Lwc.dgamma (aw m c) (aγ m c) (aβ m c) (ax m c) (axs m c) (ay m c) (i 0) (i 1))
      ∧ r.2.mem ((c.tc : Thread nD τ).loc main_v95) = (fun i : Lwc.GIdx => Lwc.dbeta (aw m c) (aγ m c) (aβ m c) (ax m c) (axs m c) (ay m c) (i 0) (i 1))
      ∧ r.2.mem ((c.tc : Thread nD τ).loc main_v50) = (fun _ => Lwc.loss (aw m c) (aγ m c) (aβ m c) (ax m c) (axs m c) (ay m c))
      ∧ r.2.mem ((c.tc : Thread nD τ).loc main_v96) = (fun i : Lwc.WIdx => Ideal.fptosi 8 (Lwc.code (aw m c) (aγ m c) (aβ m c) (i 0) (Lwc.grp (i 1)) (Lwc.lane (i 1))))
      ∧ r.2.mem ((c.tc : Thread nD τ).loc main_v22) = (fun i : Lwc.GIdx => Lwc.step (aw m c) (aγ m c) (aβ m c) (i 0) (i 1))
      ∧ r.2.mem ((c.tc : Thread nD τ).loc main_v25) = (fun i : Lwc.GIdx => Lwc.zero (aw m c) (aγ m c) (aβ m c) (i 0) (i 1))
      ∧ (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))) := by
  refine (θ_run defs _ _).mono (fun r h c => ?_) (θ_run_and (run_main m ρ) (unchanged m ρ))
  have hr (b : Ref sig .tc) (h₁ : b.isScoped = false) (h₂ : ∀ w, (spec0 w).arr.view.ref ≠ b) :
      r.2.mem ((c.tc : Thread nD τ).loc b) = StableHlo.after hostOps1 (WE m c) (Proc.devRef .tc b) := (h.1 c).2 b (Pipeline.mem_restRefs_of b h₁ h₂)
  refine ⟨(hr main_v87 (by decide) (by decide)).trans ?_,
    (hr main_v95 (by decide) (by decide)).trans ?_,
    (hr main_v50 (by decide) (by decide)).trans ?_,
    (hr main_v96 (by decide) (by decide)).trans ?_,
    (hr main_v22 (by decide) (by decide)).trans ?_,
    (hr main_v25 (by decide) (by decide)).trans ?_, h.2 c⟩
  · funext i
    rw [eq_ix2 (n0 := 4096) (n1 := 112) i]
    exact tail_dgamma m c (reads m c) _ _
  · funext i
    rw [eq_ix2 (n0 := 4096) (n1 := 112) i]
    exact tail_dbeta m c (reads m c) _ _
  · funext i
    rw [show i = ix0 from funext fun a => a.elim0]
    exact tail_loss m c (reads m c)
  · funext i
    rw [eq_ix2 (n0 := 4096) (n1 := 14336) i]
    exact tail_codes m c (reads m c) _ _
  · funext i
    rw [eq_ix2 (n0 := 4096) (n1 := 112) i]
    exact tail_step m c (reads m c) _ _
  · funext i
    rw [eq_ix2 (n0 := 4096) (n1 := 112) i]
    exact tail_zero m c (reads m c) _ _

end Cert.ReferenceIdeal.Run
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.KernelRun
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.KernelIdealRun
public import proofs.«01_k».proof.Proof.Gen.KernelIdeal.Points
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.KernelIdealRunValue
public import proofs.«01_k».proof.Proof.RefValue
public import Idealize.ShloMosaic.Adequacy
public import Idealize.ShloMosaic.Init

@[expose] public section

noncomputable section

namespace Cert.Proof

open Idealize.ShloMosaic Idealize.SL.Sem Cert.Kernel

/-- Started on the same arguments, kernel and reference end with the same six results: both runs end with the
    functions of `Proof/Spec.lean`, at arguments that agree. -/
theorem values : Cert.algebraic_KernelIdeal_ReferenceIdeal (hKernelIdeal := Cert.KernelIdeal.Gen.facts)
    (hReferenceIdeal := Cert.ReferenceIdeal.Gen.facts) := by
  intro m g m' g' _ hagree
  refine ⟨_, _, _, _, _, _, Cert.KernelIdeal.Run.run_value m g,
    (θ_run Cert.ReferenceIdeal.defs _ _).mono (fun r hr c => ?_) (Cert.ReferenceIdeal.Run.run m' g')⟩
  obtain ⟨h0, h1, h2, h3, h4, h5⟩ := hagree c
  have ex : Cert.ReferenceIdeal.Run.ax m' c = Cert.KernelIdeal.Run.ax m c := h0
  have exs : Cert.ReferenceIdeal.Run.axs m' c = Cert.KernelIdeal.Run.axs m c := h1
  have ew : Cert.ReferenceIdeal.Run.aw m' c = Cert.KernelIdeal.Run.aw m c := h2
  have eγ : Cert.ReferenceIdeal.Run.aγ m' c = Cert.KernelIdeal.Run.aγ m c := h3
  have eβ : Cert.ReferenceIdeal.Run.aβ m' c = Cert.KernelIdeal.Run.aβ m c := h4
  have ey : Cert.ReferenceIdeal.Run.ay m' c = Cert.KernelIdeal.Run.ay m c := h5
  have h := hr c
  rw [ex, exs, ew, eγ, eβ, ey] at h
  exact h

/-- The whole certificate. -/
theorem claim : Cert.Claim := ⟨Cert.Kernel.Gen.facts, Cert.KernelIdeal.Gen.facts, Cert.ReferenceIdeal.Gen.facts,
  fun m ρ _ => Cert.Kernel.Run.frame m ρ, fun m ρ _ => Cert.KernelIdeal.Run.frame m ρ, fun m ρ _ => Cert.ReferenceIdeal.Gen.frame m ρ,
  trivial, values⟩

end Cert.Proof

end
